-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 16384]⟩ 1 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 256]⟩ ⟨2, ![256, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S8x256 : Shape := ⟨2, ![8, 256]⟩
abbrev S3x32x8x256 : Shape := ⟨4, ![3, 32, 8, 256]⟩
abbrev S2x32x8x256 : Shape := ⟨4, ![2, 32, 8, 256]⟩
abbrev S3x32 : Shape := ⟨2, ![3, 32]⟩
abbrev S2x32 : Shape := ⟨2, ![2, 32]⟩
abbrev S_ : Shape := ⟨0, ![]⟩
abbrev S1x1 : Shape := ⟨2, ![1, 1]⟩
abbrev S1x1x8x256 : Shape := ⟨4, ![1, 1, 8, 256]⟩
abbrev S1x32x8x256 : Shape := ⟨4, ![1, 32, 8, 256]⟩
abbrev S32x8x256 : Shape := ⟨3, ![32, 8, 256]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S8x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S8x256, .f32⟩
  | .local _ .vmem, ⟨8, _⟩ => ⟨S256x256, .f32⟩
  | .local _ .vmem, ⟨9, _⟩ => ⟨S3x32x8x256, .f32⟩
  | .local _ .vmem, ⟨10, _⟩ => ⟨S2x32x8x256, .f32⟩
  | _, _ => ⟨S256x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 328 → Bool
  | ⟨i, _⟩ => dmaSemScopedAt i

abbrev sig : RefSig :=
  (ofTc nBuf bufTy 1 328 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_748 : BitVec 32 := 0#32
  let c0_i32_746 : BitVec 32 := 0#32
  let c1_i32_747 : BitVec 32 := 1#32
  let v1140 : BitVec 32 := Scalar.muli c0_i32_746 c1_i32_747
  let v1141 : BitVec 32 := Scalar.addi c0_i32_748 v1140
  v1141.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_748 : BitVec 32 := 0#32
  let c1_i32_746 : BitVec 32 := 1#32
  let c1_i32_747 : BitVec 32 := 1#32
  let v1140 : BitVec 32 := Scalar.muli c1_i32_746 c1_i32_747
  let v1141 : BitVec 32 := Scalar.addi c0_i32_748 v1140
  v1141.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_748 : BitVec 32 := 0#32
  let c2_i32_746 : BitVec 32 := 2#32
  let c1_i32_747 : BitVec 32 := 1#32
  let v1140 : BitVec 32 := Scalar.muli c2_i32_746 c1_i32_747
  let v1141 : BitVec 32 := Scalar.addi c0_i32_748 v1140
  v1141.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_748 : BitVec 32 := 0#32
  let c3_i32_746 : BitVec 32 := 3#32
  let c1_i32_747 : BitVec 32 := 1#32
  let v1140 : BitVec 32 := Scalar.muli c3_i32_746 c1_i32_747
  let v1141 : BitVec 32 := Scalar.addi c0_i32_748 v1140
  v1141.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_748 : BitVec 32 := 0#32
  let c4_i32_746 : BitVec 32 := 4#32
  let c1_i32_747 : BitVec 32 := 1#32
  let v1140 : BitVec 32 := Scalar.muli c4_i32_746 c1_i32_747
  let v1141 : BitVec 32 := Scalar.addi c0_i32_748 v1140
  v1141.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_748 : BitVec 32 := 0#32
  let c5_i32_746 : BitVec 32 := 5#32
  let c1_i32_747 : BitVec 32 := 1#32
  let v1140 : BitVec 32 := Scalar.muli c5_i32_746 c1_i32_747
  let v1141 : BitVec 32 := Scalar.addi c0_i32_748 v1140
  v1141.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_748 : BitVec 32 := 0#32
  let c6_i32_746 : BitVec 32 := 6#32
  let c1_i32_747 : BitVec 32 := 1#32
  let v1140 : BitVec 32 := Scalar.muli c6_i32_746 c1_i32_747
  let v1141 : BitVec 32 := Scalar.addi c0_i32_748 v1140
  v1141.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_748 : BitVec 32 := 0#32
  let c7_i32_746 : BitVec 32 := 7#32
  let c1_i32_747 : BitVec 32 := 1#32
  let v1140 : BitVec 32 := Scalar.muli c7_i32_746 c1_i32_747
  let v1141 : BitVec 32 := Scalar.addi c0_i32_748 v1140
  v1141.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_748 : BitVec 32 := 0#32
  let c8_i32_746 : BitVec 32 := 8#32
  let c1_i32_747 : BitVec 32 := 1#32
  let v1140 : BitVec 32 := Scalar.muli c8_i32_746 c1_i32_747
  let v1141 : BitVec 32 := Scalar.addi c0_i32_748 v1140
  v1141.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_748 : BitVec 32 := 0#32
  let c9_i32_746 : BitVec 32 := 9#32
  let c1_i32_747 : BitVec 32 := 1#32
  let v1140 : BitVec 32 := Scalar.muli c9_i32_746 c1_i32_747
  let v1141 : BitVec 32 := Scalar.addi c0_i32_748 v1140
  v1141.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_748 : BitVec 32 := 0#32
  let c10_i32_746 : BitVec 32 := 10#32
  let c1_i32_747 : BitVec 32 := 1#32
  let v1140 : BitVec 32 := Scalar.muli c10_i32_746 c1_i32_747
  let v1141 : BitVec 32 := Scalar.addi c0_i32_748 v1140
  v1141.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_748 : BitVec 32 := 0#32
  let c11_i32_746 : BitVec 32 := 11#32
  let c1_i32_747 : BitVec 32 := 1#32
  let v1140 : BitVec 32 := Scalar.muli c11_i32_746 c1_i32_747
  let v1141 : BitVec 32 := Scalar.addi c0_i32_748 v1140
  v1141.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_748 : BitVec 32 := 0#32
  let c12_i32_746 : BitVec 32 := 12#32
  let c1_i32_747 : BitVec 32 := 1#32
  let v1140 : BitVec 32 := Scalar.muli c12_i32_746 c1_i32_747
  let v1141 : BitVec 32 := Scalar.addi c0_i32_748 v1140
  v1141.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_748 : BitVec 32 := 0#32
  let c13_i32_746 : BitVec 32 := 13#32
  let c1_i32_747 : BitVec 32 := 1#32
  let v1140 : BitVec 32 := Scalar.muli c13_i32_746 c1_i32_747
  let v1141 : BitVec 32 := Scalar.addi c0_i32_748 v1140
  v1141.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_748 : BitVec 32 := 0#32
  let c14_i32_746 : BitVec 32 := 14#32
  let c1_i32_747 : BitVec 32 := 1#32
  let v1140 : BitVec 32 := Scalar.muli c14_i32_746 c1_i32_747
  let v1141 : BitVec 32 := Scalar.addi c0_i32_748 v1140
  v1141.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_748 : BitVec 32 := 0#32
  let c15_i32_746 : BitVec 32 := 15#32
  let c1_i32_747 : BitVec 32 := 1#32
  let v1140 : BitVec 32 := Scalar.muli c15_i32_746 c1_i32_747
  let v1141 : BitVec 32 := Scalar.addi c0_i32_748 v1140
  v1141.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_748 : BitVec 32 := 0#32
  let c16_i32_746 : BitVec 32 := 16#32
  let c1_i32_747 : BitVec 32 := 1#32
  let v1140 : BitVec 32 := Scalar.muli c16_i32_746 c1_i32_747
  let v1141 : BitVec 32 := Scalar.addi c0_i32_748 v1140
  v1141.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_748 : BitVec 32 := 0#32
  let c17_i32_746 : BitVec 32 := 17#32
  let c1_i32_747 : BitVec 32 := 1#32
  let v1140 : BitVec 32 := Scalar.muli c17_i32_746 c1_i32_747
  let v1141 : BitVec 32 := Scalar.addi c0_i32_748 v1140
  v1141.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_748 : BitVec 32 := 0#32
  let c18_i32_746 : BitVec 32 := 18#32
  let c1_i32_747 : BitVec 32 := 1#32
  let v1140 : BitVec 32 := Scalar.muli c18_i32_746 c1_i32_747
  let v1141 : BitVec 32 := Scalar.addi c0_i32_748 v1140
  v1141.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_748 : BitVec 32 := 0#32
  let c19_i32_746 : BitVec 32 := 19#32
  let c1_i32_747 : BitVec 32 := 1#32
  let v1140 : BitVec 32 := Scalar.muli c19_i32_746 c1_i32_747
  let v1141 : BitVec 32 := Scalar.addi c0_i32_748 v1140
  v1141.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_748 : BitVec 32 := 0#32
  let c20_i32_746 : BitVec 32 := 20#32
  let c1_i32_747 : BitVec 32 := 1#32
  let v1140 : BitVec 32 := Scalar.muli c20_i32_746 c1_i32_747
  let v1141 : BitVec 32 := Scalar.addi c0_i32_748 v1140
  v1141.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_748 : BitVec 32 := 0#32
  let c21_i32_746 : BitVec 32 := 21#32
  let c1_i32_747 : BitVec 32 := 1#32
  let v1140 : BitVec 32 := Scalar.muli c21_i32_746 c1_i32_747
  let v1141 : BitVec 32 := Scalar.addi c0_i32_748 v1140
  v1141.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_748 : BitVec 32 := 0#32
  let c22_i32_746 : BitVec 32 := 22#32
  let c1_i32_747 : BitVec 32 := 1#32
  let v1140 : BitVec 32 := Scalar.muli c22_i32_746 c1_i32_747
  let v1141 : BitVec 32 := Scalar.addi c0_i32_748 v1140
  v1141.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_748 : BitVec 32 := 0#32
  let c23_i32_746 : BitVec 32 := 23#32
  let c1_i32_747 : BitVec 32 := 1#32
  let v1140 : BitVec 32 := Scalar.muli c23_i32_746 c1_i32_747
  let v1141 : BitVec 32 := Scalar.addi c0_i32_748 v1140
  v1141.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_748 : BitVec 32 := 0#32
  let c24_i32_746 : BitVec 32 := 24#32
  let c1_i32_747 : BitVec 32 := 1#32
  let v1140 : BitVec 32 := Scalar.muli c24_i32_746 c1_i32_747
  let v1141 : BitVec 32 := Scalar.addi c0_i32_748 v1140
  v1141.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_748 : BitVec 32 := 0#32
  let c25_i32_746 : BitVec 32 := 25#32
  let c1_i32_747 : BitVec 32 := 1#32
  let v1140 : BitVec 32 := Scalar.muli c25_i32_746 c1_i32_747
  let v1141 : BitVec 32 := Scalar.addi c0_i32_748 v1140
  v1141.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_748 : BitVec 32 := 0#32
  let c26_i32_746 : BitVec 32 := 26#32
  let c1_i32_747 : BitVec 32 := 1#32
  let v1140 : BitVec 32 := Scalar.muli c26_i32_746 c1_i32_747
  let v1141 : BitVec 32 := Scalar.addi c0_i32_748 v1140
  v1141.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_748 : BitVec 32 := 0#32
  let c27_i32_746 : BitVec 32 := 27#32
  let c1_i32_747 : BitVec 32 := 1#32
  let v1140 : BitVec 32 := Scalar.muli c27_i32_746 c1_i32_747
  let v1141 : BitVec 32 := Scalar.addi c0_i32_748 v1140
  v1141.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_748 : BitVec 32 := 0#32
  let c28_i32_746 : BitVec 32 := 28#32
  let c1_i32_747 : BitVec 32 := 1#32
  let v1140 : BitVec 32 := Scalar.muli c28_i32_746 c1_i32_747
  let v1141 : BitVec 32 := Scalar.addi c0_i32_748 v1140
  v1141.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_748 : BitVec 32 := 0#32
  let c29_i32_746 : BitVec 32 := 29#32
  let c1_i32_747 : BitVec 32 := 1#32
  let v1140 : BitVec 32 := Scalar.muli c29_i32_746 c1_i32_747
  let v1141 : BitVec 32 := Scalar.addi c0_i32_748 v1140
  v1141.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_748 : BitVec 32 := 0#32
  let c30_i32_746 : BitVec 32 := 30#32
  let c1_i32_747 : BitVec 32 := 1#32
  let v1140 : BitVec 32 := Scalar.muli c30_i32_746 c1_i32_747
  let v1141 : BitVec 32 := Scalar.addi c0_i32_748 v1140
  v1141.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_748 : BitVec 32 := 0#32
  let c31_i32_746 : BitVec 32 := 31#32
  let c1_i32_747 : BitVec 32 := 1#32
  let v1140 : BitVec 32 := Scalar.muli c31_i32_746 c1_i32_747
  let v1141 : BitVec 32 := Scalar.addi c0_i32_748 v1140
  v1141.toNat
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_43 : BitVec 32 := 0#32
  let v113 : BitVec 1 := Scalar.cmpi .ne v2 c0_i32_43
  let v114 : BitVec 32 := Scalar.extui v113
  let c0_i32_44 : BitVec 32 := 0#32
  let v115 : BitVec 1 := Scalar.cmpi .ne v114 c0_i32_44
  v115

def k0_off1 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off2 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev33 : Nat :=
  let c0_i32_751 : BitVec 32 := 0#32
  let c0_i32_749 : BitVec 32 := 0#32
  let c1_i32_750 : BitVec 32 := 1#32
  let v1140 : BitVec 32 := Scalar.muli c0_i32_749 c1_i32_750
  let v1141 : BitVec 32 := Scalar.addi c0_i32_751 v1140
  v1141.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_45 : BitVec 32 := 1#32
  let v116 : BitVec 1 := Scalar.cmpi .ne v2 c1_i32_45
  let v117 : BitVec 32 := Scalar.extui v116
  let c0_i32_46 : BitVec 32 := 0#32
  let v118 : BitVec 1 := Scalar.cmpi .ne v117 c0_i32_46
  v118

def k0_off3 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off4 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev34 : Nat :=
  let c0_i32_751 : BitVec 32 := 0#32
  let c1_i32_749 : BitVec 32 := 1#32
  let c1_i32_750 : BitVec 32 := 1#32
  let v1140 : BitVec 32 := Scalar.muli c1_i32_749 c1_i32_750
  let v1141 : BitVec 32 := Scalar.addi c0_i32_751 v1140
  v1141.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_47 : BitVec 32 := 2#32
  let v119 : BitVec 1 := Scalar.cmpi .ne v2 c2_i32_47
  let v120 : BitVec 32 := Scalar.extui v119
  let c0_i32_48 : BitVec 32 := 0#32
  let v121 : BitVec 1 := Scalar.cmpi .ne v120 c0_i32_48
  v121

def k0_off5 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off6 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev35 : Nat :=
  let c0_i32_751 : BitVec 32 := 0#32
  let c2_i32_749 : BitVec 32 := 2#32
  let c1_i32_750 : BitVec 32 := 1#32
  let v1140 : BitVec 32 := Scalar.muli c2_i32_749 c1_i32_750
  let v1141 : BitVec 32 := Scalar.addi c0_i32_751 v1140
  v1141.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_49 : BitVec 32 := 3#32
  let v122 : BitVec 1 := Scalar.cmpi .ne v2 c3_i32_49
  let v123 : BitVec 32 := Scalar.extui v122
  let c0_i32_50 : BitVec 32 := 0#32
  let v124 : BitVec 1 := Scalar.cmpi .ne v123 c0_i32_50
  v124

def k0_off7 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off8 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev36 : Nat :=
  let c0_i32_751 : BitVec 32 := 0#32
  let c3_i32_749 : BitVec 32 := 3#32
  let c1_i32_750 : BitVec 32 := 1#32
  let v1140 : BitVec 32 := Scalar.muli c3_i32_749 c1_i32_750
  let v1141 : BitVec 32 := Scalar.addi c0_i32_751 v1140
  v1141.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_51 : BitVec 32 := 4#32
  let v125 : BitVec 1 := Scalar.cmpi .ne v2 c4_i32_51
  let v126 : BitVec 32 := Scalar.extui v125
  let c0_i32_52 : BitVec 32 := 0#32
  let v127 : BitVec 1 := Scalar.cmpi .ne v126 c0_i32_52
  v127

def k0_off9 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off10 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev37 : Nat :=
  let c0_i32_751 : BitVec 32 := 0#32
  let c4_i32_749 : BitVec 32 := 4#32
  let c1_i32_750 : BitVec 32 := 1#32
  let v1140 : BitVec 32 := Scalar.muli c4_i32_749 c1_i32_750
  let v1141 : BitVec 32 := Scalar.addi c0_i32_751 v1140
  v1141.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_53 : BitVec 32 := 5#32
  let v128 : BitVec 1 := Scalar.cmpi .ne v2 c5_i32_53
  let v129 : BitVec 32 := Scalar.extui v128
  let c0_i32_54 : BitVec 32 := 0#32
  let v130 : BitVec 1 := Scalar.cmpi .ne v129 c0_i32_54
  v130

def k0_off11 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off12 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev38 : Nat :=
  let c0_i32_751 : BitVec 32 := 0#32
  let c5_i32_749 : BitVec 32 := 5#32
  let c1_i32_750 : BitVec 32 := 1#32
  let v1140 : BitVec 32 := Scalar.muli c5_i32_749 c1_i32_750
  let v1141 : BitVec 32 := Scalar.addi c0_i32_751 v1140
  v1141.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_55 : BitVec 32 := 6#32
  let v131 : BitVec 1 := Scalar.cmpi .ne v2 c6_i32_55
  let v132 : BitVec 32 := Scalar.extui v131
  let c0_i32_56 : BitVec 32 := 0#32
  let v133 : BitVec 1 := Scalar.cmpi .ne v132 c0_i32_56
  v133

def k0_off13 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off14 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev39 : Nat :=
  let c0_i32_751 : BitVec 32 := 0#32
  let c6_i32_749 : BitVec 32 := 6#32
  let c1_i32_750 : BitVec 32 := 1#32
  let v1140 : BitVec 32 := Scalar.muli c6_i32_749 c1_i32_750
  let v1141 : BitVec 32 := Scalar.addi c0_i32_751 v1140
  v1141.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_57 : BitVec 32 := 7#32
  let v134 : BitVec 1 := Scalar.cmpi .ne v2 c7_i32_57
  let v135 : BitVec 32 := Scalar.extui v134
  let c0_i32_58 : BitVec 32 := 0#32
  let v136 : BitVec 1 := Scalar.cmpi .ne v135 c0_i32_58
  v136

def k0_off15 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off16 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev40 : Nat :=
  let c0_i32_751 : BitVec 32 := 0#32
  let c7_i32_749 : BitVec 32 := 7#32
  let c1_i32_750 : BitVec 32 := 1#32
  let v1140 : BitVec 32 := Scalar.muli c7_i32_749 c1_i32_750
  let v1141 : BitVec 32 := Scalar.addi c0_i32_751 v1140
  v1141.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_59 : BitVec 32 := 8#32
  let v137 : BitVec 1 := Scalar.cmpi .ne v2 c8_i32_59
  let v138 : BitVec 32 := Scalar.extui v137
  let c0_i32_60 : BitVec 32 := 0#32
  let v139 : BitVec 1 := Scalar.cmpi .ne v138 c0_i32_60
  v139

def k0_off17 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off18 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev41 : Nat :=
  let c0_i32_751 : BitVec 32 := 0#32
  let c8_i32_749 : BitVec 32 := 8#32
  let c1_i32_750 : BitVec 32 := 1#32
  let v1140 : BitVec 32 := Scalar.muli c8_i32_749 c1_i32_750
  let v1141 : BitVec 32 := Scalar.addi c0_i32_751 v1140
  v1141.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_61 : BitVec 32 := 9#32
  let v140 : BitVec 1 := Scalar.cmpi .ne v2 c9_i32_61
  let v141 : BitVec 32 := Scalar.extui v140
  let c0_i32_62 : BitVec 32 := 0#32
  let v142 : BitVec 1 := Scalar.cmpi .ne v141 c0_i32_62
  v142

def k0_off19 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off20 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev42 : Nat :=
  let c0_i32_751 : BitVec 32 := 0#32
  let c9_i32_749 : BitVec 32 := 9#32
  let c1_i32_750 : BitVec 32 := 1#32
  let v1140 : BitVec 32 := Scalar.muli c9_i32_749 c1_i32_750
  let v1141 : BitVec 32 := Scalar.addi c0_i32_751 v1140
  v1141.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_63 : BitVec 32 := 10#32
  let v143 : BitVec 1 := Scalar.cmpi .ne v2 c10_i32_63
  let v144 : BitVec 32 := Scalar.extui v143
  let c0_i32_64 : BitVec 32 := 0#32
  let v145 : BitVec 1 := Scalar.cmpi .ne v144 c0_i32_64
  v145

def k0_off21 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off22 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev43 : Nat :=
  let c0_i32_751 : BitVec 32 := 0#32
  let c10_i32_749 : BitVec 32 := 10#32
  let c1_i32_750 : BitVec 32 := 1#32
  let v1140 : BitVec 32 := Scalar.muli c10_i32_749 c1_i32_750
  let v1141 : BitVec 32 := Scalar.addi c0_i32_751 v1140
  v1141.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_65 : BitVec 32 := 11#32
  let v146 : BitVec 1 := Scalar.cmpi .ne v2 c11_i32_65
  let v147 : BitVec 32 := Scalar.extui v146
  let c0_i32_66 : BitVec 32 := 0#32
  let v148 : BitVec 1 := Scalar.cmpi .ne v147 c0_i32_66
  v148

def k0_off23 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off24 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev44 : Nat :=
  let c0_i32_751 : BitVec 32 := 0#32
  let c11_i32_749 : BitVec 32 := 11#32
  let c1_i32_750 : BitVec 32 := 1#32
  let v1140 : BitVec 32 := Scalar.muli c11_i32_749 c1_i32_750
  let v1141 : BitVec 32 := Scalar.addi c0_i32_751 v1140
  v1141.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_67 : BitVec 32 := 12#32
  let v149 : BitVec 1 := Scalar.cmpi .ne v2 c12_i32_67
  let v150 : BitVec 32 := Scalar.extui v149
  let c0_i32_68 : BitVec 32 := 0#32
  let v151 : BitVec 1 := Scalar.cmpi .ne v150 c0_i32_68
  v151

def k0_off25 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off26 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev45 : Nat :=
  let c0_i32_751 : BitVec 32 := 0#32
  let c12_i32_749 : BitVec 32 := 12#32
  let c1_i32_750 : BitVec 32 := 1#32
  let v1140 : BitVec 32 := Scalar.muli c12_i32_749 c1_i32_750
  let v1141 : BitVec 32 := Scalar.addi c0_i32_751 v1140
  v1141.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_69 : BitVec 32 := 13#32
  let v152 : BitVec 1 := Scalar.cmpi .ne v2 c13_i32_69
  let v153 : BitVec 32 := Scalar.extui v152
  let c0_i32_70 : BitVec 32 := 0#32
  let v154 : BitVec 1 := Scalar.cmpi .ne v153 c0_i32_70
  v154

def k0_off27 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off28 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev46 : Nat :=
  let c0_i32_751 : BitVec 32 := 0#32
  let c13_i32_749 : BitVec 32 := 13#32
  let c1_i32_750 : BitVec 32 := 1#32
  let v1140 : BitVec 32 := Scalar.muli c13_i32_749 c1_i32_750
  let v1141 : BitVec 32 := Scalar.addi c0_i32_751 v1140
  v1141.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_71 : BitVec 32 := 14#32
  let v155 : BitVec 1 := Scalar.cmpi .ne v2 c14_i32_71
  let v156 : BitVec 32 := Scalar.extui v155
  let c0_i32_72 : BitVec 32 := 0#32
  let v157 : BitVec 1 := Scalar.cmpi .ne v156 c0_i32_72
  v157

def k0_off29 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off30 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev47 : Nat :=
  let c0_i32_751 : BitVec 32 := 0#32
  let c14_i32_749 : BitVec 32 := 14#32
  let c1_i32_750 : BitVec 32 := 1#32
  let v1140 : BitVec 32 := Scalar.muli c14_i32_749 c1_i32_750
  let v1141 : BitVec 32 := Scalar.addi c0_i32_751 v1140
  v1141.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_73 : BitVec 32 := 15#32
  let v158 : BitVec 1 := Scalar.cmpi .ne v2 c15_i32_73
  let v159 : BitVec 32 := Scalar.extui v158
  let c0_i32_74 : BitVec 32 := 0#32
  let v160 : BitVec 1 := Scalar.cmpi .ne v159 c0_i32_74
  v160

def k0_off31 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off32 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev48 : Nat :=
  let c0_i32_751 : BitVec 32 := 0#32
  let c15_i32_749 : BitVec 32 := 15#32
  let c1_i32_750 : BitVec 32 := 1#32
  let v1140 : BitVec 32 := Scalar.muli c15_i32_749 c1_i32_750
  let v1141 : BitVec 32 := Scalar.addi c0_i32_751 v1140
  v1141.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_75 : BitVec 32 := 16#32
  let v161 : BitVec 1 := Scalar.cmpi .ne v2 c16_i32_75
  let v162 : BitVec 32 := Scalar.extui v161
  let c0_i32_76 : BitVec 32 := 0#32
  let v163 : BitVec 1 := Scalar.cmpi .ne v162 c0_i32_76
  v163

def k0_off33 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off34 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev49 : Nat :=
  let c0_i32_751 : BitVec 32 := 0#32
  let c16_i32_749 : BitVec 32 := 16#32
  let c1_i32_750 : BitVec 32 := 1#32
  let v1140 : BitVec 32 := Scalar.muli c16_i32_749 c1_i32_750
  let v1141 : BitVec 32 := Scalar.addi c0_i32_751 v1140
  v1141.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_77 : BitVec 32 := 17#32
  let v164 : BitVec 1 := Scalar.cmpi .ne v2 c17_i32_77
  let v165 : BitVec 32 := Scalar.extui v164
  let c0_i32_78 : BitVec 32 := 0#32
  let v166 : BitVec 1 := Scalar.cmpi .ne v165 c0_i32_78
  v166

def k0_off35 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off36 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev50 : Nat :=
  let c0_i32_751 : BitVec 32 := 0#32
  let c17_i32_749 : BitVec 32 := 17#32
  let c1_i32_750 : BitVec 32 := 1#32
  let v1140 : BitVec 32 := Scalar.muli c17_i32_749 c1_i32_750
  let v1141 : BitVec 32 := Scalar.addi c0_i32_751 v1140
  v1141.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_79 : BitVec 32 := 18#32
  let v167 : BitVec 1 := Scalar.cmpi .ne v2 c18_i32_79
  let v168 : BitVec 32 := Scalar.extui v167
  let c0_i32_80 : BitVec 32 := 0#32
  let v169 : BitVec 1 := Scalar.cmpi .ne v168 c0_i32_80
  v169

def k0_off37 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off38 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev51 : Nat :=
  let c0_i32_751 : BitVec 32 := 0#32
  let c18_i32_749 : BitVec 32 := 18#32
  let c1_i32_750 : BitVec 32 := 1#32
  let v1140 : BitVec 32 := Scalar.muli c18_i32_749 c1_i32_750
  let v1141 : BitVec 32 := Scalar.addi c0_i32_751 v1140
  v1141.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_81 : BitVec 32 := 19#32
  let v170 : BitVec 1 := Scalar.cmpi .ne v2 c19_i32_81
  let v171 : BitVec 32 := Scalar.extui v170
  let c0_i32_82 : BitVec 32 := 0#32
  let v172 : BitVec 1 := Scalar.cmpi .ne v171 c0_i32_82
  v172

def k0_off39 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off40 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev52 : Nat :=
  let c0_i32_751 : BitVec 32 := 0#32
  let c19_i32_749 : BitVec 32 := 19#32
  let c1_i32_750 : BitVec 32 := 1#32
  let v1140 : BitVec 32 := Scalar.muli c19_i32_749 c1_i32_750
  let v1141 : BitVec 32 := Scalar.addi c0_i32_751 v1140
  v1141.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_83 : BitVec 32 := 20#32
  let v173 : BitVec 1 := Scalar.cmpi .ne v2 c20_i32_83
  let v174 : BitVec 32 := Scalar.extui v173
  let c0_i32_84 : BitVec 32 := 0#32
  let v175 : BitVec 1 := Scalar.cmpi .ne v174 c0_i32_84
  v175

def k0_off41 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off42 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev53 : Nat :=
  let c0_i32_751 : BitVec 32 := 0#32
  let c20_i32_749 : BitVec 32 := 20#32
  let c1_i32_750 : BitVec 32 := 1#32
  let v1140 : BitVec 32 := Scalar.muli c20_i32_749 c1_i32_750
  let v1141 : BitVec 32 := Scalar.addi c0_i32_751 v1140
  v1141.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_85 : BitVec 32 := 21#32
  let v176 : BitVec 1 := Scalar.cmpi .ne v2 c21_i32_85
  let v177 : BitVec 32 := Scalar.extui v176
  let c0_i32_86 : BitVec 32 := 0#32
  let v178 : BitVec 1 := Scalar.cmpi .ne v177 c0_i32_86
  v178

def k0_off43 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off44 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev54 : Nat :=
  let c0_i32_751 : BitVec 32 := 0#32
  let c21_i32_749 : BitVec 32 := 21#32
  let c1_i32_750 : BitVec 32 := 1#32
  let v1140 : BitVec 32 := Scalar.muli c21_i32_749 c1_i32_750
  let v1141 : BitVec 32 := Scalar.addi c0_i32_751 v1140
  v1141.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_87 : BitVec 32 := 22#32
  let v179 : BitVec 1 := Scalar.cmpi .ne v2 c22_i32_87
  let v180 : BitVec 32 := Scalar.extui v179
  let c0_i32_88 : BitVec 32 := 0#32
  let v181 : BitVec 1 := Scalar.cmpi .ne v180 c0_i32_88
  v181

def k0_off45 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off46 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev55 : Nat :=
  let c0_i32_751 : BitVec 32 := 0#32
  let c22_i32_749 : BitVec 32 := 22#32
  let c1_i32_750 : BitVec 32 := 1#32
  let v1140 : BitVec 32 := Scalar.muli c22_i32_749 c1_i32_750
  let v1141 : BitVec 32 := Scalar.addi c0_i32_751 v1140
  v1141.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_89 : BitVec 32 := 23#32
  let v182 : BitVec 1 := Scalar.cmpi .ne v2 c23_i32_89
  let v183 : BitVec 32 := Scalar.extui v182
  let c0_i32_90 : BitVec 32 := 0#32
  let v184 : BitVec 1 := Scalar.cmpi .ne v183 c0_i32_90
  v184

def k0_off47 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off48 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev56 : Nat :=
  let c0_i32_751 : BitVec 32 := 0#32
  let c23_i32_749 : BitVec 32 := 23#32
  let c1_i32_750 : BitVec 32 := 1#32
  let v1140 : BitVec 32 := Scalar.muli c23_i32_749 c1_i32_750
  let v1141 : BitVec 32 := Scalar.addi c0_i32_751 v1140
  v1141.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_91 : BitVec 32 := 24#32
  let v185 : BitVec 1 := Scalar.cmpi .ne v2 c24_i32_91
  let v186 : BitVec 32 := Scalar.extui v185
  let c0_i32_92 : BitVec 32 := 0#32
  let v187 : BitVec 1 := Scalar.cmpi .ne v186 c0_i32_92
  v187

def k0_off49 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off50 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev57 : Nat :=
  let c0_i32_751 : BitVec 32 := 0#32
  let c24_i32_749 : BitVec 32 := 24#32
  let c1_i32_750 : BitVec 32 := 1#32
  let v1140 : BitVec 32 := Scalar.muli c24_i32_749 c1_i32_750
  let v1141 : BitVec 32 := Scalar.addi c0_i32_751 v1140
  v1141.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_93 : BitVec 32 := 25#32
  let v188 : BitVec 1 := Scalar.cmpi .ne v2 c25_i32_93
  let v189 : BitVec 32 := Scalar.extui v188
  let c0_i32_94 : BitVec 32 := 0#32
  let v190 : BitVec 1 := Scalar.cmpi .ne v189 c0_i32_94
  v190

def k0_off51 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off52 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev58 : Nat :=
  let c0_i32_751 : BitVec 32 := 0#32
  let c25_i32_749 : BitVec 32 := 25#32
  let c1_i32_750 : BitVec 32 := 1#32
  let v1140 : BitVec 32 := Scalar.muli c25_i32_749 c1_i32_750
  let v1141 : BitVec 32 := Scalar.addi c0_i32_751 v1140
  v1141.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_95 : BitVec 32 := 26#32
  let v191 : BitVec 1 := Scalar.cmpi .ne v2 c26_i32_95
  let v192 : BitVec 32 := Scalar.extui v191
  let c0_i32_96 : BitVec 32 := 0#32
  let v193 : BitVec 1 := Scalar.cmpi .ne v192 c0_i32_96
  v193

def k0_off53 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off54 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev59 : Nat :=
  let c0_i32_751 : BitVec 32 := 0#32
  let c26_i32_749 : BitVec 32 := 26#32
  let c1_i32_750 : BitVec 32 := 1#32
  let v1140 : BitVec 32 := Scalar.muli c26_i32_749 c1_i32_750
  let v1141 : BitVec 32 := Scalar.addi c0_i32_751 v1140
  v1141.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_97 : BitVec 32 := 27#32
  let v194 : BitVec 1 := Scalar.cmpi .ne v2 c27_i32_97
  let v195 : BitVec 32 := Scalar.extui v194
  let c0_i32_98 : BitVec 32 := 0#32
  let v196 : BitVec 1 := Scalar.cmpi .ne v195 c0_i32_98
  v196

def k0_off55 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off56 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev60 : Nat :=
  let c0_i32_751 : BitVec 32 := 0#32
  let c27_i32_749 : BitVec 32 := 27#32
  let c1_i32_750 : BitVec 32 := 1#32
  let v1140 : BitVec 32 := Scalar.muli c27_i32_749 c1_i32_750
  let v1141 : BitVec 32 := Scalar.addi c0_i32_751 v1140
  v1141.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_99 : BitVec 32 := 28#32
  let v197 : BitVec 1 := Scalar.cmpi .ne v2 c28_i32_99
  let v198 : BitVec 32 := Scalar.extui v197
  let c0_i32_100 : BitVec 32 := 0#32
  let v199 : BitVec 1 := Scalar.cmpi .ne v198 c0_i32_100
  v199

def k0_off57 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off58 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev61 : Nat :=
  let c0_i32_751 : BitVec 32 := 0#32
  let c28_i32_749 : BitVec 32 := 28#32
  let c1_i32_750 : BitVec 32 := 1#32
  let v1140 : BitVec 32 := Scalar.muli c28_i32_749 c1_i32_750
  let v1141 : BitVec 32 := Scalar.addi c0_i32_751 v1140
  v1141.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_101 : BitVec 32 := 29#32
  let v200 : BitVec 1 := Scalar.cmpi .ne v2 c29_i32_101
  let v201 : BitVec 32 := Scalar.extui v200
  let c0_i32_102 : BitVec 32 := 0#32
  let v202 : BitVec 1 := Scalar.cmpi .ne v201 c0_i32_102
  v202

def k0_off59 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off60 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev62 : Nat :=
  let c0_i32_751 : BitVec 32 := 0#32
  let c29_i32_749 : BitVec 32 := 29#32
  let c1_i32_750 : BitVec 32 := 1#32
  let v1140 : BitVec 32 := Scalar.muli c29_i32_749 c1_i32_750
  let v1141 : BitVec 32 := Scalar.addi c0_i32_751 v1140
  v1141.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_103 : BitVec 32 := 30#32
  let v203 : BitVec 1 := Scalar.cmpi .ne v2 c30_i32_103
  let v204 : BitVec 32 := Scalar.extui v203
  let c0_i32_104 : BitVec 32 := 0#32
  let v205 : BitVec 1 := Scalar.cmpi .ne v204 c0_i32_104
  v205

def k0_off61 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off62 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev63 : Nat :=
  let c0_i32_751 : BitVec 32 := 0#32
  let c30_i32_749 : BitVec 32 := 30#32
  let c1_i32_750 : BitVec 32 := 1#32
  let v1140 : BitVec 32 := Scalar.muli c30_i32_749 c1_i32_750
  let v1141 : BitVec 32 := Scalar.addi c0_i32_751 v1140
  v1141.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_105 : BitVec 32 := 31#32
  let v206 : BitVec 1 := Scalar.cmpi .ne v2 c31_i32_105
  let v207 : BitVec 32 := Scalar.extui v206
  let c0_i32_106 : BitVec 32 := 0#32
  let v208 : BitVec 1 := Scalar.cmpi .ne v207 c0_i32_106
  v208

def k0_off63 (d0 : Dev nD) : Fin 2 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off64 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![0, v2.toNat, 0, 0]
def k0_dev64 : Nat :=
  let c0_i32_751 : BitVec 32 := 0#32
  let c31_i32_749 : BitVec 32 := 31#32
  let c1_i32_750 : BitVec 32 := 1#32
  let v1140 : BitVec 32 := Scalar.muli c31_i32_749 c1_i32_750
  let v1141 : BitVec 32 := Scalar.addi c0_i32_751 v1140
  v1141.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_107 : BitVec 32 := 8#32
  let v209 : BitVec 32 := Scalar.muli v2 c8_i32_107
  let v210 : Index := Scalar.indexCast v209
  let c0_108 : Index := 0#32
  ![v210.toNat, 0]
def k0_off66 (d0 : Dev nD) : Fin 4 → Nat :=
  let c0_109 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v212 : Index := Scalar.indexCast v2
  let c0_110 : Index := 0#32
  let c0_111 : Index := 0#32
  ![0, v212.toNat, 0, 0]
def k0_off67 (d0 : Dev nD) : Fin 4 → Nat :=
  let c0_181 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v315 : Index := Scalar.indexCast v2
  let c0_182 : Index := 0#32
  let c0_183 : Index := 0#32
  ![0, v315.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_184 : BitVec 32 := 0#32
  let v319 : BitVec 1 := Scalar.cmpi .ne v2 c0_i32_184
  let v320 : BitVec 32 := Scalar.extui v319
  let c0_i32_185 : BitVec 32 := 0#32
  let v321 : BitVec 1 := Scalar.cmpi .ne v320 c0_i32_185
  v321

def k0_off68 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off69 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev65 : Nat :=
  let c0_i32_752 : BitVec 32 := 0#32
  let c0_i32_750 : BitVec 32 := 0#32
  let c1_i32_751 : BitVec 32 := 1#32
  let v1140 : BitVec 32 := Scalar.muli c0_i32_750 c1_i32_751
  let v1141 : BitVec 32 := Scalar.addi c0_i32_752 v1140
  v1141.toNat
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_186 : BitVec 32 := 1#32
  let v322 : BitVec 1 := Scalar.cmpi .ne v2 c1_i32_186
  let v323 : BitVec 32 := Scalar.extui v322
  let c0_i32_187 : BitVec 32 := 0#32
  let v324 : BitVec 1 := Scalar.cmpi .ne v323 c0_i32_187
  v324

def k0_off70 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off71 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev66 : Nat :=
  let c0_i32_752 : BitVec 32 := 0#32
  let c1_i32_750 : BitVec 32 := 1#32
  let c1_i32_751 : BitVec 32 := 1#32
  let v1140 : BitVec 32 := Scalar.muli c1_i32_750 c1_i32_751
  let v1141 : BitVec 32 := Scalar.addi c0_i32_752 v1140
  v1141.toNat
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_188 : BitVec 32 := 2#32
  let v325 : BitVec 1 := Scalar.cmpi .ne v2 c2_i32_188
  let v326 : BitVec 32 := Scalar.extui v325
  let c0_i32_189 : BitVec 32 := 0#32
  let v327 : BitVec 1 := Scalar.cmpi .ne v326 c0_i32_189
  v327

def k0_off72 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off73 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev67 : Nat :=
  let c0_i32_752 : BitVec 32 := 0#32
  let c2_i32_750 : BitVec 32 := 2#32
  let c1_i32_751 : BitVec 32 := 1#32
  let v1140 : BitVec 32 := Scalar.muli c2_i32_750 c1_i32_751
  let v1141 : BitVec 32 := Scalar.addi c0_i32_752 v1140
  v1141.toNat
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_190 : BitVec 32 := 3#32
  let v328 : BitVec 1 := Scalar.cmpi .ne v2 c3_i32_190
  let v329 : BitVec 32 := Scalar.extui v328
  let c0_i32_191 : BitVec 32 := 0#32
  let v330 : BitVec 1 := Scalar.cmpi .ne v329 c0_i32_191
  v330

def k0_off74 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off75 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev68 : Nat :=
  let c0_i32_752 : BitVec 32 := 0#32
  let c3_i32_750 : BitVec 32 := 3#32
  let c1_i32_751 : BitVec 32 := 1#32
  let v1140 : BitVec 32 := Scalar.muli c3_i32_750 c1_i32_751
  let v1141 : BitVec 32 := Scalar.addi c0_i32_752 v1140
  v1141.toNat
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_192 : BitVec 32 := 4#32
  let v331 : BitVec 1 := Scalar.cmpi .ne v2 c4_i32_192
  let v332 : BitVec 32 := Scalar.extui v331
  let c0_i32_193 : BitVec 32 := 0#32
  let v333 : BitVec 1 := Scalar.cmpi .ne v332 c0_i32_193
  v333

def k0_off76 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off77 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev69 : Nat :=
  let c0_i32_752 : BitVec 32 := 0#32
  let c4_i32_750 : BitVec 32 := 4#32
  let c1_i32_751 : BitVec 32 := 1#32
  let v1140 : BitVec 32 := Scalar.muli c4_i32_750 c1_i32_751
  let v1141 : BitVec 32 := Scalar.addi c0_i32_752 v1140
  v1141.toNat
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_194 : BitVec 32 := 5#32
  let v334 : BitVec 1 := Scalar.cmpi .ne v2 c5_i32_194
  let v335 : BitVec 32 := Scalar.extui v334
  let c0_i32_195 : BitVec 32 := 0#32
  let v336 : BitVec 1 := Scalar.cmpi .ne v335 c0_i32_195
  v336

def k0_off78 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off79 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev70 : Nat :=
  let c0_i32_752 : BitVec 32 := 0#32
  let c5_i32_750 : BitVec 32 := 5#32
  let c1_i32_751 : BitVec 32 := 1#32
  let v1140 : BitVec 32 := Scalar.muli c5_i32_750 c1_i32_751
  let v1141 : BitVec 32 := Scalar.addi c0_i32_752 v1140
  v1141.toNat
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_196 : BitVec 32 := 6#32
  let v337 : BitVec 1 := Scalar.cmpi .ne v2 c6_i32_196
  let v338 : BitVec 32 := Scalar.extui v337
  let c0_i32_197 : BitVec 32 := 0#32
  let v339 : BitVec 1 := Scalar.cmpi .ne v338 c0_i32_197
  v339

def k0_off80 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off81 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev71 : Nat :=
  let c0_i32_752 : BitVec 32 := 0#32
  let c6_i32_750 : BitVec 32 := 6#32
  let c1_i32_751 : BitVec 32 := 1#32
  let v1140 : BitVec 32 := Scalar.muli c6_i32_750 c1_i32_751
  let v1141 : BitVec 32 := Scalar.addi c0_i32_752 v1140
  v1141.toNat
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_198 : BitVec 32 := 7#32
  let v340 : BitVec 1 := Scalar.cmpi .ne v2 c7_i32_198
  let v341 : BitVec 32 := Scalar.extui v340
  let c0_i32_199 : BitVec 32 := 0#32
  let v342 : BitVec 1 := Scalar.cmpi .ne v341 c0_i32_199
  v342

def k0_off82 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off83 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev72 : Nat :=
  let c0_i32_752 : BitVec 32 := 0#32
  let c7_i32_750 : BitVec 32 := 7#32
  let c1_i32_751 : BitVec 32 := 1#32
  let v1140 : BitVec 32 := Scalar.muli c7_i32_750 c1_i32_751
  let v1141 : BitVec 32 := Scalar.addi c0_i32_752 v1140
  v1141.toNat
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_200 : BitVec 32 := 8#32
  let v343 : BitVec 1 := Scalar.cmpi .ne v2 c8_i32_200
  let v344 : BitVec 32 := Scalar.extui v343
  let c0_i32_201 : BitVec 32 := 0#32
  let v345 : BitVec 1 := Scalar.cmpi .ne v344 c0_i32_201
  v345

def k0_off84 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off85 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev73 : Nat :=
  let c0_i32_752 : BitVec 32 := 0#32
  let c8_i32_750 : BitVec 32 := 8#32
  let c1_i32_751 : BitVec 32 := 1#32
  let v1140 : BitVec 32 := Scalar.muli c8_i32_750 c1_i32_751
  let v1141 : BitVec 32 := Scalar.addi c0_i32_752 v1140
  v1141.toNat
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_202 : BitVec 32 := 9#32
  let v346 : BitVec 1 := Scalar.cmpi .ne v2 c9_i32_202
  let v347 : BitVec 32 := Scalar.extui v346
  let c0_i32_203 : BitVec 32 := 0#32
  let v348 : BitVec 1 := Scalar.cmpi .ne v347 c0_i32_203
  v348

def k0_off86 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off87 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev74 : Nat :=
  let c0_i32_752 : BitVec 32 := 0#32
  let c9_i32_750 : BitVec 32 := 9#32
  let c1_i32_751 : BitVec 32 := 1#32
  let v1140 : BitVec 32 := Scalar.muli c9_i32_750 c1_i32_751
  let v1141 : BitVec 32 := Scalar.addi c0_i32_752 v1140
  v1141.toNat
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_204 : BitVec 32 := 10#32
  let v349 : BitVec 1 := Scalar.cmpi .ne v2 c10_i32_204
  let v350 : BitVec 32 := Scalar.extui v349
  let c0_i32_205 : BitVec 32 := 0#32
  let v351 : BitVec 1 := Scalar.cmpi .ne v350 c0_i32_205
  v351

def k0_off88 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off89 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev75 : Nat :=
  let c0_i32_752 : BitVec 32 := 0#32
  let c10_i32_750 : BitVec 32 := 10#32
  let c1_i32_751 : BitVec 32 := 1#32
  let v1140 : BitVec 32 := Scalar.muli c10_i32_750 c1_i32_751
  let v1141 : BitVec 32 := Scalar.addi c0_i32_752 v1140
  v1141.toNat
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_206 : BitVec 32 := 11#32
  let v352 : BitVec 1 := Scalar.cmpi .ne v2 c11_i32_206
  let v353 : BitVec 32 := Scalar.extui v352
  let c0_i32_207 : BitVec 32 := 0#32
  let v354 : BitVec 1 := Scalar.cmpi .ne v353 c0_i32_207
  v354

def k0_off90 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off91 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev76 : Nat :=
  let c0_i32_752 : BitVec 32 := 0#32
  let c11_i32_750 : BitVec 32 := 11#32
  let c1_i32_751 : BitVec 32 := 1#32
  let v1140 : BitVec 32 := Scalar.muli c11_i32_750 c1_i32_751
  let v1141 : BitVec 32 := Scalar.addi c0_i32_752 v1140
  v1141.toNat
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_208 : BitVec 32 := 12#32
  let v355 : BitVec 1 := Scalar.cmpi .ne v2 c12_i32_208
  let v356 : BitVec 32 := Scalar.extui v355
  let c0_i32_209 : BitVec 32 := 0#32
  let v357 : BitVec 1 := Scalar.cmpi .ne v356 c0_i32_209
  v357

def k0_off92 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off93 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev77 : Nat :=
  let c0_i32_752 : BitVec 32 := 0#32
  let c12_i32_750 : BitVec 32 := 12#32
  let c1_i32_751 : BitVec 32 := 1#32
  let v1140 : BitVec 32 := Scalar.muli c12_i32_750 c1_i32_751
  let v1141 : BitVec 32 := Scalar.addi c0_i32_752 v1140
  v1141.toNat
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_210 : BitVec 32 := 13#32
  let v358 : BitVec 1 := Scalar.cmpi .ne v2 c13_i32_210
  let v359 : BitVec 32 := Scalar.extui v358
  let c0_i32_211 : BitVec 32 := 0#32
  let v360 : BitVec 1 := Scalar.cmpi .ne v359 c0_i32_211
  v360

def k0_off94 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off95 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev78 : Nat :=
  let c0_i32_752 : BitVec 32 := 0#32
  let c13_i32_750 : BitVec 32 := 13#32
  let c1_i32_751 : BitVec 32 := 1#32
  let v1140 : BitVec 32 := Scalar.muli c13_i32_750 c1_i32_751
  let v1141 : BitVec 32 := Scalar.addi c0_i32_752 v1140
  v1141.toNat
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_212 : BitVec 32 := 14#32
  let v361 : BitVec 1 := Scalar.cmpi .ne v2 c14_i32_212
  let v362 : BitVec 32 := Scalar.extui v361
  let c0_i32_213 : BitVec 32 := 0#32
  let v363 : BitVec 1 := Scalar.cmpi .ne v362 c0_i32_213
  v363

def k0_off96 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off97 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev79 : Nat :=
  let c0_i32_752 : BitVec 32 := 0#32
  let c14_i32_750 : BitVec 32 := 14#32
  let c1_i32_751 : BitVec 32 := 1#32
  let v1140 : BitVec 32 := Scalar.muli c14_i32_750 c1_i32_751
  let v1141 : BitVec 32 := Scalar.addi c0_i32_752 v1140
  v1141.toNat
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_214 : BitVec 32 := 15#32
  let v364 : BitVec 1 := Scalar.cmpi .ne v2 c15_i32_214
  let v365 : BitVec 32 := Scalar.extui v364
  let c0_i32_215 : BitVec 32 := 0#32
  let v366 : BitVec 1 := Scalar.cmpi .ne v365 c0_i32_215
  v366

def k0_off98 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off99 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev80 : Nat :=
  let c0_i32_752 : BitVec 32 := 0#32
  let c15_i32_750 : BitVec 32 := 15#32
  let c1_i32_751 : BitVec 32 := 1#32
  let v1140 : BitVec 32 := Scalar.muli c15_i32_750 c1_i32_751
  let v1141 : BitVec 32 := Scalar.addi c0_i32_752 v1140
  v1141.toNat
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_216 : BitVec 32 := 16#32
  let v367 : BitVec 1 := Scalar.cmpi .ne v2 c16_i32_216
  let v368 : BitVec 32 := Scalar.extui v367
  let c0_i32_217 : BitVec 32 := 0#32
  let v369 : BitVec 1 := Scalar.cmpi .ne v368 c0_i32_217
  v369

def k0_off100 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off101 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev81 : Nat :=
  let c0_i32_752 : BitVec 32 := 0#32
  let c16_i32_750 : BitVec 32 := 16#32
  let c1_i32_751 : BitVec 32 := 1#32
  let v1140 : BitVec 32 := Scalar.muli c16_i32_750 c1_i32_751
  let v1141 : BitVec 32 := Scalar.addi c0_i32_752 v1140
  v1141.toNat
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_218 : BitVec 32 := 17#32
  let v370 : BitVec 1 := Scalar.cmpi .ne v2 c17_i32_218
  let v371 : BitVec 32 := Scalar.extui v370
  let c0_i32_219 : BitVec 32 := 0#32
  let v372 : BitVec 1 := Scalar.cmpi .ne v371 c0_i32_219
  v372

def k0_off102 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off103 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev82 : Nat :=
  let c0_i32_752 : BitVec 32 := 0#32
  let c17_i32_750 : BitVec 32 := 17#32
  let c1_i32_751 : BitVec 32 := 1#32
  let v1140 : BitVec 32 := Scalar.muli c17_i32_750 c1_i32_751
  let v1141 : BitVec 32 := Scalar.addi c0_i32_752 v1140
  v1141.toNat
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_220 : BitVec 32 := 18#32
  let v373 : BitVec 1 := Scalar.cmpi .ne v2 c18_i32_220
  let v374 : BitVec 32 := Scalar.extui v373
  let c0_i32_221 : BitVec 32 := 0#32
  let v375 : BitVec 1 := Scalar.cmpi .ne v374 c0_i32_221
  v375

def k0_off104 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off105 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev83 : Nat :=
  let c0_i32_752 : BitVec 32 := 0#32
  let c18_i32_750 : BitVec 32 := 18#32
  let c1_i32_751 : BitVec 32 := 1#32
  let v1140 : BitVec 32 := Scalar.muli c18_i32_750 c1_i32_751
  let v1141 : BitVec 32 := Scalar.addi c0_i32_752 v1140
  v1141.toNat
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_222 : BitVec 32 := 19#32
  let v376 : BitVec 1 := Scalar.cmpi .ne v2 c19_i32_222
  let v377 : BitVec 32 := Scalar.extui v376
  let c0_i32_223 : BitVec 32 := 0#32
  let v378 : BitVec 1 := Scalar.cmpi .ne v377 c0_i32_223
  v378

def k0_off106 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off107 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev84 : Nat :=
  let c0_i32_752 : BitVec 32 := 0#32
  let c19_i32_750 : BitVec 32 := 19#32
  let c1_i32_751 : BitVec 32 := 1#32
  let v1140 : BitVec 32 := Scalar.muli c19_i32_750 c1_i32_751
  let v1141 : BitVec 32 := Scalar.addi c0_i32_752 v1140
  v1141.toNat
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_224 : BitVec 32 := 20#32
  let v379 : BitVec 1 := Scalar.cmpi .ne v2 c20_i32_224
  let v380 : BitVec 32 := Scalar.extui v379
  let c0_i32_225 : BitVec 32 := 0#32
  let v381 : BitVec 1 := Scalar.cmpi .ne v380 c0_i32_225
  v381

def k0_off108 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off109 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev85 : Nat :=
  let c0_i32_752 : BitVec 32 := 0#32
  let c20_i32_750 : BitVec 32 := 20#32
  let c1_i32_751 : BitVec 32 := 1#32
  let v1140 : BitVec 32 := Scalar.muli c20_i32_750 c1_i32_751
  let v1141 : BitVec 32 := Scalar.addi c0_i32_752 v1140
  v1141.toNat
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_226 : BitVec 32 := 21#32
  let v382 : BitVec 1 := Scalar.cmpi .ne v2 c21_i32_226
  let v383 : BitVec 32 := Scalar.extui v382
  let c0_i32_227 : BitVec 32 := 0#32
  let v384 : BitVec 1 := Scalar.cmpi .ne v383 c0_i32_227
  v384

def k0_off110 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off111 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev86 : Nat :=
  let c0_i32_752 : BitVec 32 := 0#32
  let c21_i32_750 : BitVec 32 := 21#32
  let c1_i32_751 : BitVec 32 := 1#32
  let v1140 : BitVec 32 := Scalar.muli c21_i32_750 c1_i32_751
  let v1141 : BitVec 32 := Scalar.addi c0_i32_752 v1140
  v1141.toNat
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_228 : BitVec 32 := 22#32
  let v385 : BitVec 1 := Scalar.cmpi .ne v2 c22_i32_228
  let v386 : BitVec 32 := Scalar.extui v385
  let c0_i32_229 : BitVec 32 := 0#32
  let v387 : BitVec 1 := Scalar.cmpi .ne v386 c0_i32_229
  v387

def k0_off112 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off113 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev87 : Nat :=
  let c0_i32_752 : BitVec 32 := 0#32
  let c22_i32_750 : BitVec 32 := 22#32
  let c1_i32_751 : BitVec 32 := 1#32
  let v1140 : BitVec 32 := Scalar.muli c22_i32_750 c1_i32_751
  let v1141 : BitVec 32 := Scalar.addi c0_i32_752 v1140
  v1141.toNat
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_230 : BitVec 32 := 23#32
  let v388 : BitVec 1 := Scalar.cmpi .ne v2 c23_i32_230
  let v389 : BitVec 32 := Scalar.extui v388
  let c0_i32_231 : BitVec 32 := 0#32
  let v390 : BitVec 1 := Scalar.cmpi .ne v389 c0_i32_231
  v390

def k0_off114 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off115 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev88 : Nat :=
  let c0_i32_752 : BitVec 32 := 0#32
  let c23_i32_750 : BitVec 32 := 23#32
  let c1_i32_751 : BitVec 32 := 1#32
  let v1140 : BitVec 32 := Scalar.muli c23_i32_750 c1_i32_751
  let v1141 : BitVec 32 := Scalar.addi c0_i32_752 v1140
  v1141.toNat
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_232 : BitVec 32 := 24#32
  let v391 : BitVec 1 := Scalar.cmpi .ne v2 c24_i32_232
  let v392 : BitVec 32 := Scalar.extui v391
  let c0_i32_233 : BitVec 32 := 0#32
  let v393 : BitVec 1 := Scalar.cmpi .ne v392 c0_i32_233
  v393

def k0_off116 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off117 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev89 : Nat :=
  let c0_i32_752 : BitVec 32 := 0#32
  let c24_i32_750 : BitVec 32 := 24#32
  let c1_i32_751 : BitVec 32 := 1#32
  let v1140 : BitVec 32 := Scalar.muli c24_i32_750 c1_i32_751
  let v1141 : BitVec 32 := Scalar.addi c0_i32_752 v1140
  v1141.toNat
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_234 : BitVec 32 := 25#32
  let v394 : BitVec 1 := Scalar.cmpi .ne v2 c25_i32_234
  let v395 : BitVec 32 := Scalar.extui v394
  let c0_i32_235 : BitVec 32 := 0#32
  let v396 : BitVec 1 := Scalar.cmpi .ne v395 c0_i32_235
  v396

def k0_off118 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off119 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev90 : Nat :=
  let c0_i32_752 : BitVec 32 := 0#32
  let c25_i32_750 : BitVec 32 := 25#32
  let c1_i32_751 : BitVec 32 := 1#32
  let v1140 : BitVec 32 := Scalar.muli c25_i32_750 c1_i32_751
  let v1141 : BitVec 32 := Scalar.addi c0_i32_752 v1140
  v1141.toNat
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_236 : BitVec 32 := 26#32
  let v397 : BitVec 1 := Scalar.cmpi .ne v2 c26_i32_236
  let v398 : BitVec 32 := Scalar.extui v397
  let c0_i32_237 : BitVec 32 := 0#32
  let v399 : BitVec 1 := Scalar.cmpi .ne v398 c0_i32_237
  v399

def k0_off120 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off121 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev91 : Nat :=
  let c0_i32_752 : BitVec 32 := 0#32
  let c26_i32_750 : BitVec 32 := 26#32
  let c1_i32_751 : BitVec 32 := 1#32
  let v1140 : BitVec 32 := Scalar.muli c26_i32_750 c1_i32_751
  let v1141 : BitVec 32 := Scalar.addi c0_i32_752 v1140
  v1141.toNat
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_238 : BitVec 32 := 27#32
  let v400 : BitVec 1 := Scalar.cmpi .ne v2 c27_i32_238
  let v401 : BitVec 32 := Scalar.extui v400
  let c0_i32_239 : BitVec 32 := 0#32
  let v402 : BitVec 1 := Scalar.cmpi .ne v401 c0_i32_239
  v402

def k0_off122 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off123 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev92 : Nat :=
  let c0_i32_752 : BitVec 32 := 0#32
  let c27_i32_750 : BitVec 32 := 27#32
  let c1_i32_751 : BitVec 32 := 1#32
  let v1140 : BitVec 32 := Scalar.muli c27_i32_750 c1_i32_751
  let v1141 : BitVec 32 := Scalar.addi c0_i32_752 v1140
  v1141.toNat
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_240 : BitVec 32 := 28#32
  let v403 : BitVec 1 := Scalar.cmpi .ne v2 c28_i32_240
  let v404 : BitVec 32 := Scalar.extui v403
  let c0_i32_241 : BitVec 32 := 0#32
  let v405 : BitVec 1 := Scalar.cmpi .ne v404 c0_i32_241
  v405

def k0_off124 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off125 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev93 : Nat :=
  let c0_i32_752 : BitVec 32 := 0#32
  let c28_i32_750 : BitVec 32 := 28#32
  let c1_i32_751 : BitVec 32 := 1#32
  let v1140 : BitVec 32 := Scalar.muli c28_i32_750 c1_i32_751
  let v1141 : BitVec 32 := Scalar.addi c0_i32_752 v1140
  v1141.toNat
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_242 : BitVec 32 := 29#32
  let v406 : BitVec 1 := Scalar.cmpi .ne v2 c29_i32_242
  let v407 : BitVec 32 := Scalar.extui v406
  let c0_i32_243 : BitVec 32 := 0#32
  let v408 : BitVec 1 := Scalar.cmpi .ne v407 c0_i32_243
  v408

def k0_off126 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off127 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev94 : Nat :=
  let c0_i32_752 : BitVec 32 := 0#32
  let c29_i32_750 : BitVec 32 := 29#32
  let c1_i32_751 : BitVec 32 := 1#32
  let v1140 : BitVec 32 := Scalar.muli c29_i32_750 c1_i32_751
  let v1141 : BitVec 32 := Scalar.addi c0_i32_752 v1140
  v1141.toNat
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_244 : BitVec 32 := 30#32
  let v409 : BitVec 1 := Scalar.cmpi .ne v2 c30_i32_244
  let v410 : BitVec 32 := Scalar.extui v409
  let c0_i32_245 : BitVec 32 := 0#32
  let v411 : BitVec 1 := Scalar.cmpi .ne v410 c0_i32_245
  v411

def k0_off128 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off129 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev95 : Nat :=
  let c0_i32_752 : BitVec 32 := 0#32
  let c30_i32_750 : BitVec 32 := 30#32
  let c1_i32_751 : BitVec 32 := 1#32
  let v1140 : BitVec 32 := Scalar.muli c30_i32_750 c1_i32_751
  let v1141 : BitVec 32 := Scalar.addi c0_i32_752 v1140
  v1141.toNat
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_246 : BitVec 32 := 31#32
  let v412 : BitVec 1 := Scalar.cmpi .ne v2 c31_i32_246
  let v413 : BitVec 32 := Scalar.extui v412
  let c0_i32_247 : BitVec 32 := 0#32
  let v414 : BitVec 1 := Scalar.cmpi .ne v413 c0_i32_247
  v414

def k0_off130 (d0 : Dev nD) : Fin 2 → Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![0, v2.toNat]
def k0_off131 (d0 : Dev nD) : Fin 4 → Nat :=
  let c0_i32_746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![0, v2.toNat, 0, 0]
def k0_dev96 : Nat :=
  let c0_i32_752 : BitVec 32 := 0#32
  let c31_i32_750 : BitVec 32 := 31#32
  let c1_i32_751 : BitVec 32 := 1#32
  let v1140 : BitVec 32 := Scalar.muli c31_i32_750 c1_i32_751
  let v1141 : BitVec 32 := Scalar.addi c0_i32_752 v1140
  v1141.toNat
def k0_cond129 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_248 : BitVec 32 := 0#32
  let v415 : BitVec 1 := Scalar.cmpi .ne v2 c0_i32_248
  let v416 : BitVec 32 := Scalar.extui v415
  let c0_i32_249 : BitVec 32 := 0#32
  let v417 : BitVec 1 := Scalar.cmpi .ne v416 c0_i32_249
  v417

def k0_off132 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond130 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_250 : BitVec 32 := 1#32
  let v418 : BitVec 1 := Scalar.cmpi .ne v2 c1_i32_250
  let v419 : BitVec 32 := Scalar.extui v418
  let c0_i32_251 : BitVec 32 := 0#32
  let v420 : BitVec 1 := Scalar.cmpi .ne v419 c0_i32_251
  v420

def k0_off133 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond131 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_252 : BitVec 32 := 2#32
  let v421 : BitVec 1 := Scalar.cmpi .ne v2 c2_i32_252
  let v422 : BitVec 32 := Scalar.extui v421
  let c0_i32_253 : BitVec 32 := 0#32
  let v423 : BitVec 1 := Scalar.cmpi .ne v422 c0_i32_253
  v423

def k0_off134 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond132 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_254 : BitVec 32 := 3#32
  let v424 : BitVec 1 := Scalar.cmpi .ne v2 c3_i32_254
  let v425 : BitVec 32 := Scalar.extui v424
  let c0_i32_255 : BitVec 32 := 0#32
  let v426 : BitVec 1 := Scalar.cmpi .ne v425 c0_i32_255
  v426

def k0_off135 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond133 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_256 : BitVec 32 := 4#32
  let v427 : BitVec 1 := Scalar.cmpi .ne v2 c4_i32_256
  let v428 : BitVec 32 := Scalar.extui v427
  let c0_i32_257 : BitVec 32 := 0#32
  let v429 : BitVec 1 := Scalar.cmpi .ne v428 c0_i32_257
  v429

def k0_off136 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond134 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_258 : BitVec 32 := 5#32
  let v430 : BitVec 1 := Scalar.cmpi .ne v2 c5_i32_258
  let v431 : BitVec 32 := Scalar.extui v430
  let c0_i32_259 : BitVec 32 := 0#32
  let v432 : BitVec 1 := Scalar.cmpi .ne v431 c0_i32_259
  v432

def k0_off137 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond135 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_260 : BitVec 32 := 6#32
  let v433 : BitVec 1 := Scalar.cmpi .ne v2 c6_i32_260
  let v434 : BitVec 32 := Scalar.extui v433
  let c0_i32_261 : BitVec 32 := 0#32
  let v435 : BitVec 1 := Scalar.cmpi .ne v434 c0_i32_261
  v435

def k0_off138 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond136 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_262 : BitVec 32 := 7#32
  let v436 : BitVec 1 := Scalar.cmpi .ne v2 c7_i32_262
  let v437 : BitVec 32 := Scalar.extui v436
  let c0_i32_263 : BitVec 32 := 0#32
  let v438 : BitVec 1 := Scalar.cmpi .ne v437 c0_i32_263
  v438

def k0_off139 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond137 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_264 : BitVec 32 := 8#32
  let v439 : BitVec 1 := Scalar.cmpi .ne v2 c8_i32_264
  let v440 : BitVec 32 := Scalar.extui v439
  let c0_i32_265 : BitVec 32 := 0#32
  let v441 : BitVec 1 := Scalar.cmpi .ne v440 c0_i32_265
  v441

def k0_off140 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond138 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_266 : BitVec 32 := 9#32
  let v442 : BitVec 1 := Scalar.cmpi .ne v2 c9_i32_266
  let v443 : BitVec 32 := Scalar.extui v442
  let c0_i32_267 : BitVec 32 := 0#32
  let v444 : BitVec 1 := Scalar.cmpi .ne v443 c0_i32_267
  v444

def k0_off141 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond139 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_268 : BitVec 32 := 10#32
  let v445 : BitVec 1 := Scalar.cmpi .ne v2 c10_i32_268
  let v446 : BitVec 32 := Scalar.extui v445
  let c0_i32_269 : BitVec 32 := 0#32
  let v447 : BitVec 1 := Scalar.cmpi .ne v446 c0_i32_269
  v447

def k0_off142 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond140 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_270 : BitVec 32 := 11#32
  let v448 : BitVec 1 := Scalar.cmpi .ne v2 c11_i32_270
  let v449 : BitVec 32 := Scalar.extui v448
  let c0_i32_271 : BitVec 32 := 0#32
  let v450 : BitVec 1 := Scalar.cmpi .ne v449 c0_i32_271
  v450

def k0_off143 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond141 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_272 : BitVec 32 := 12#32
  let v451 : BitVec 1 := Scalar.cmpi .ne v2 c12_i32_272
  let v452 : BitVec 32 := Scalar.extui v451
  let c0_i32_273 : BitVec 32 := 0#32
  let v453 : BitVec 1 := Scalar.cmpi .ne v452 c0_i32_273
  v453

def k0_off144 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond142 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_274 : BitVec 32 := 13#32
  let v454 : BitVec 1 := Scalar.cmpi .ne v2 c13_i32_274
  let v455 : BitVec 32 := Scalar.extui v454
  let c0_i32_275 : BitVec 32 := 0#32
  let v456 : BitVec 1 := Scalar.cmpi .ne v455 c0_i32_275
  v456

def k0_off145 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond143 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_276 : BitVec 32 := 14#32
  let v457 : BitVec 1 := Scalar.cmpi .ne v2 c14_i32_276
  let v458 : BitVec 32 := Scalar.extui v457
  let c0_i32_277 : BitVec 32 := 0#32
  let v459 : BitVec 1 := Scalar.cmpi .ne v458 c0_i32_277
  v459

def k0_off146 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond144 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_278 : BitVec 32 := 15#32
  let v460 : BitVec 1 := Scalar.cmpi .ne v2 c15_i32_278
  let v461 : BitVec 32 := Scalar.extui v460
  let c0_i32_279 : BitVec 32 := 0#32
  let v462 : BitVec 1 := Scalar.cmpi .ne v461 c0_i32_279
  v462

def k0_off147 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond145 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_280 : BitVec 32 := 16#32
  let v463 : BitVec 1 := Scalar.cmpi .ne v2 c16_i32_280
  let v464 : BitVec 32 := Scalar.extui v463
  let c0_i32_281 : BitVec 32 := 0#32
  let v465 : BitVec 1 := Scalar.cmpi .ne v464 c0_i32_281
  v465

def k0_off148 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond146 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_282 : BitVec 32 := 17#32
  let v466 : BitVec 1 := Scalar.cmpi .ne v2 c17_i32_282
  let v467 : BitVec 32 := Scalar.extui v466
  let c0_i32_283 : BitVec 32 := 0#32
  let v468 : BitVec 1 := Scalar.cmpi .ne v467 c0_i32_283
  v468

def k0_off149 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond147 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_284 : BitVec 32 := 18#32
  let v469 : BitVec 1 := Scalar.cmpi .ne v2 c18_i32_284
  let v470 : BitVec 32 := Scalar.extui v469
  let c0_i32_285 : BitVec 32 := 0#32
  let v471 : BitVec 1 := Scalar.cmpi .ne v470 c0_i32_285
  v471

def k0_off150 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond148 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_286 : BitVec 32 := 19#32
  let v472 : BitVec 1 := Scalar.cmpi .ne v2 c19_i32_286
  let v473 : BitVec 32 := Scalar.extui v472
  let c0_i32_287 : BitVec 32 := 0#32
  let v474 : BitVec 1 := Scalar.cmpi .ne v473 c0_i32_287
  v474

def k0_off151 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond149 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_288 : BitVec 32 := 20#32
  let v475 : BitVec 1 := Scalar.cmpi .ne v2 c20_i32_288
  let v476 : BitVec 32 := Scalar.extui v475
  let c0_i32_289 : BitVec 32 := 0#32
  let v477 : BitVec 1 := Scalar.cmpi .ne v476 c0_i32_289
  v477

def k0_off152 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond150 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_290 : BitVec 32 := 21#32
  let v478 : BitVec 1 := Scalar.cmpi .ne v2 c21_i32_290
  let v479 : BitVec 32 := Scalar.extui v478
  let c0_i32_291 : BitVec 32 := 0#32
  let v480 : BitVec 1 := Scalar.cmpi .ne v479 c0_i32_291
  v480

def k0_off153 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond151 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_292 : BitVec 32 := 22#32
  let v481 : BitVec 1 := Scalar.cmpi .ne v2 c22_i32_292
  let v482 : BitVec 32 := Scalar.extui v481
  let c0_i32_293 : BitVec 32 := 0#32
  let v483 : BitVec 1 := Scalar.cmpi .ne v482 c0_i32_293
  v483

def k0_off154 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond152 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_294 : BitVec 32 := 23#32
  let v484 : BitVec 1 := Scalar.cmpi .ne v2 c23_i32_294
  let v485 : BitVec 32 := Scalar.extui v484
  let c0_i32_295 : BitVec 32 := 0#32
  let v486 : BitVec 1 := Scalar.cmpi .ne v485 c0_i32_295
  v486

def k0_off155 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond153 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_296 : BitVec 32 := 24#32
  let v487 : BitVec 1 := Scalar.cmpi .ne v2 c24_i32_296
  let v488 : BitVec 32 := Scalar.extui v487
  let c0_i32_297 : BitVec 32 := 0#32
  let v489 : BitVec 1 := Scalar.cmpi .ne v488 c0_i32_297
  v489

def k0_off156 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond154 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_298 : BitVec 32 := 25#32
  let v490 : BitVec 1 := Scalar.cmpi .ne v2 c25_i32_298
  let v491 : BitVec 32 := Scalar.extui v490
  let c0_i32_299 : BitVec 32 := 0#32
  let v492 : BitVec 1 := Scalar.cmpi .ne v491 c0_i32_299
  v492

def k0_off157 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond155 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_300 : BitVec 32 := 26#32
  let v493 : BitVec 1 := Scalar.cmpi .ne v2 c26_i32_300
  let v494 : BitVec 32 := Scalar.extui v493
  let c0_i32_301 : BitVec 32 := 0#32
  let v495 : BitVec 1 := Scalar.cmpi .ne v494 c0_i32_301
  v495

def k0_off158 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond156 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_302 : BitVec 32 := 27#32
  let v496 : BitVec 1 := Scalar.cmpi .ne v2 c27_i32_302
  let v497 : BitVec 32 := Scalar.extui v496
  let c0_i32_303 : BitVec 32 := 0#32
  let v498 : BitVec 1 := Scalar.cmpi .ne v497 c0_i32_303
  v498

def k0_off159 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond157 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_304 : BitVec 32 := 28#32
  let v499 : BitVec 1 := Scalar.cmpi .ne v2 c28_i32_304
  let v500 : BitVec 32 := Scalar.extui v499
  let c0_i32_305 : BitVec 32 := 0#32
  let v501 : BitVec 1 := Scalar.cmpi .ne v500 c0_i32_305
  v501

def k0_off160 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond158 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_306 : BitVec 32 := 29#32
  let v502 : BitVec 1 := Scalar.cmpi .ne v2 c29_i32_306
  let v503 : BitVec 32 := Scalar.extui v502
  let c0_i32_307 : BitVec 32 := 0#32
  let v504 : BitVec 1 := Scalar.cmpi .ne v503 c0_i32_307
  v504

def k0_off161 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond159 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_308 : BitVec 32 := 30#32
  let v505 : BitVec 1 := Scalar.cmpi .ne v2 c30_i32_308
  let v506 : BitVec 32 := Scalar.extui v505
  let c0_i32_309 : BitVec 32 := 0#32
  let v507 : BitVec 1 := Scalar.cmpi .ne v506 c0_i32_309
  v507

def k0_off162 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond160 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_310 : BitVec 32 := 31#32
  let v508 : BitVec 1 := Scalar.cmpi .ne v2 c31_i32_310
  let v509 : BitVec 32 := Scalar.extui v508
  let c0_i32_311 : BitVec 32 := 0#32
  let v510 : BitVec 1 := Scalar.cmpi .ne v509 c0_i32_311
  v510

def k0_off163 (d0 : Dev nD) : Fin 4 → Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![0, v2.toNat, 0, 0]
def k0_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_325 : BitVec 32 := 0#32
  let v525 : BitVec 1 := Scalar.cmpi .ne v2 c0_i32_325
  let v526 : BitVec 32 := Scalar.extui v525
  let c0_i32_326 : BitVec 32 := 0#32
  let v527 : BitVec 1 := Scalar.cmpi .ne v526 c0_i32_326
  v527

def k0_off164 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off165 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev97 : Nat :=
  let c0_i32_751 : BitVec 32 := 0#32
  let c0_i32_749 : BitVec 32 := 0#32
  let c1_i32_750 : BitVec 32 := 1#32
  let v1140 : BitVec 32 := Scalar.muli c0_i32_749 c1_i32_750
  let v1141 : BitVec 32 := Scalar.addi c0_i32_751 v1140
  v1141.toNat
def k0_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_327 : BitVec 32 := 1#32
  let v528 : BitVec 1 := Scalar.cmpi .ne v2 c1_i32_327
  let v529 : BitVec 32 := Scalar.extui v528
  let c0_i32_328 : BitVec 32 := 0#32
  let v530 : BitVec 1 := Scalar.cmpi .ne v529 c0_i32_328
  v530

def k0_off166 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off167 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev98 : Nat :=
  let c0_i32_751 : BitVec 32 := 0#32
  let c1_i32_749 : BitVec 32 := 1#32
  let c1_i32_750 : BitVec 32 := 1#32
  let v1140 : BitVec 32 := Scalar.muli c1_i32_749 c1_i32_750
  let v1141 : BitVec 32 := Scalar.addi c0_i32_751 v1140
  v1141.toNat
def k0_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_329 : BitVec 32 := 2#32
  let v531 : BitVec 1 := Scalar.cmpi .ne v2 c2_i32_329
  let v532 : BitVec 32 := Scalar.extui v531
  let c0_i32_330 : BitVec 32 := 0#32
  let v533 : BitVec 1 := Scalar.cmpi .ne v532 c0_i32_330
  v533

def k0_off168 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off169 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev99 : Nat :=
  let c0_i32_751 : BitVec 32 := 0#32
  let c2_i32_749 : BitVec 32 := 2#32
  let c1_i32_750 : BitVec 32 := 1#32
  let v1140 : BitVec 32 := Scalar.muli c2_i32_749 c1_i32_750
  let v1141 : BitVec 32 := Scalar.addi c0_i32_751 v1140
  v1141.toNat
def k0_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_331 : BitVec 32 := 3#32
  let v534 : BitVec 1 := Scalar.cmpi .ne v2 c3_i32_331
  let v535 : BitVec 32 := Scalar.extui v534
  let c0_i32_332 : BitVec 32 := 0#32
  let v536 : BitVec 1 := Scalar.cmpi .ne v535 c0_i32_332
  v536

def k0_off170 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off171 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev100 : Nat :=
  let c0_i32_751 : BitVec 32 := 0#32
  let c3_i32_749 : BitVec 32 := 3#32
  let c1_i32_750 : BitVec 32 := 1#32
  let v1140 : BitVec 32 := Scalar.muli c3_i32_749 c1_i32_750
  let v1141 : BitVec 32 := Scalar.addi c0_i32_751 v1140
  v1141.toNat
def k0_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_333 : BitVec 32 := 4#32
  let v537 : BitVec 1 := Scalar.cmpi .ne v2 c4_i32_333
  let v538 : BitVec 32 := Scalar.extui v537
  let c0_i32_334 : BitVec 32 := 0#32
  let v539 : BitVec 1 := Scalar.cmpi .ne v538 c0_i32_334
  v539

def k0_off172 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off173 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev101 : Nat :=
  let c0_i32_751 : BitVec 32 := 0#32
  let c4_i32_749 : BitVec 32 := 4#32
  let c1_i32_750 : BitVec 32 := 1#32
  let v1140 : BitVec 32 := Scalar.muli c4_i32_749 c1_i32_750
  let v1141 : BitVec 32 := Scalar.addi c0_i32_751 v1140
  v1141.toNat
def k0_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_335 : BitVec 32 := 5#32
  let v540 : BitVec 1 := Scalar.cmpi .ne v2 c5_i32_335
  let v541 : BitVec 32 := Scalar.extui v540
  let c0_i32_336 : BitVec 32 := 0#32
  let v542 : BitVec 1 := Scalar.cmpi .ne v541 c0_i32_336
  v542

def k0_off174 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off175 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev102 : Nat :=
  let c0_i32_751 : BitVec 32 := 0#32
  let c5_i32_749 : BitVec 32 := 5#32
  let c1_i32_750 : BitVec 32 := 1#32
  let v1140 : BitVec 32 := Scalar.muli c5_i32_749 c1_i32_750
  let v1141 : BitVec 32 := Scalar.addi c0_i32_751 v1140
  v1141.toNat
def k0_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_337 : BitVec 32 := 6#32
  let v543 : BitVec 1 := Scalar.cmpi .ne v2 c6_i32_337
  let v544 : BitVec 32 := Scalar.extui v543
  let c0_i32_338 : BitVec 32 := 0#32
  let v545 : BitVec 1 := Scalar.cmpi .ne v544 c0_i32_338
  v545

def k0_off176 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off177 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev103 : Nat :=
  let c0_i32_751 : BitVec 32 := 0#32
  let c6_i32_749 : BitVec 32 := 6#32
  let c1_i32_750 : BitVec 32 := 1#32
  let v1140 : BitVec 32 := Scalar.muli c6_i32_749 c1_i32_750
  let v1141 : BitVec 32 := Scalar.addi c0_i32_751 v1140
  v1141.toNat
def k0_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_339 : BitVec 32 := 7#32
  let v546 : BitVec 1 := Scalar.cmpi .ne v2 c7_i32_339
  let v547 : BitVec 32 := Scalar.extui v546
  let c0_i32_340 : BitVec 32 := 0#32
  let v548 : BitVec 1 := Scalar.cmpi .ne v547 c0_i32_340
  v548

def k0_off178 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off179 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev104 : Nat :=
  let c0_i32_751 : BitVec 32 := 0#32
  let c7_i32_749 : BitVec 32 := 7#32
  let c1_i32_750 : BitVec 32 := 1#32
  let v1140 : BitVec 32 := Scalar.muli c7_i32_749 c1_i32_750
  let v1141 : BitVec 32 := Scalar.addi c0_i32_751 v1140
  v1141.toNat
def k0_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_341 : BitVec 32 := 8#32
  let v549 : BitVec 1 := Scalar.cmpi .ne v2 c8_i32_341
  let v550 : BitVec 32 := Scalar.extui v549
  let c0_i32_342 : BitVec 32 := 0#32
  let v551 : BitVec 1 := Scalar.cmpi .ne v550 c0_i32_342
  v551

def k0_off180 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off181 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev105 : Nat :=
  let c0_i32_751 : BitVec 32 := 0#32
  let c8_i32_749 : BitVec 32 := 8#32
  let c1_i32_750 : BitVec 32 := 1#32
  let v1140 : BitVec 32 := Scalar.muli c8_i32_749 c1_i32_750
  let v1141 : BitVec 32 := Scalar.addi c0_i32_751 v1140
  v1141.toNat
def k0_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_343 : BitVec 32 := 9#32
  let v552 : BitVec 1 := Scalar.cmpi .ne v2 c9_i32_343
  let v553 : BitVec 32 := Scalar.extui v552
  let c0_i32_344 : BitVec 32 := 0#32
  let v554 : BitVec 1 := Scalar.cmpi .ne v553 c0_i32_344
  v554

def k0_off182 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off183 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev106 : Nat :=
  let c0_i32_751 : BitVec 32 := 0#32
  let c9_i32_749 : BitVec 32 := 9#32
  let c1_i32_750 : BitVec 32 := 1#32
  let v1140 : BitVec 32 := Scalar.muli c9_i32_749 c1_i32_750
  let v1141 : BitVec 32 := Scalar.addi c0_i32_751 v1140
  v1141.toNat
def k0_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_345 : BitVec 32 := 10#32
  let v555 : BitVec 1 := Scalar.cmpi .ne v2 c10_i32_345
  let v556 : BitVec 32 := Scalar.extui v555
  let c0_i32_346 : BitVec 32 := 0#32
  let v557 : BitVec 1 := Scalar.cmpi .ne v556 c0_i32_346
  v557

def k0_off184 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off185 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev107 : Nat :=
  let c0_i32_751 : BitVec 32 := 0#32
  let c10_i32_749 : BitVec 32 := 10#32
  let c1_i32_750 : BitVec 32 := 1#32
  let v1140 : BitVec 32 := Scalar.muli c10_i32_749 c1_i32_750
  let v1141 : BitVec 32 := Scalar.addi c0_i32_751 v1140
  v1141.toNat
def k0_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_347 : BitVec 32 := 11#32
  let v558 : BitVec 1 := Scalar.cmpi .ne v2 c11_i32_347
  let v559 : BitVec 32 := Scalar.extui v558
  let c0_i32_348 : BitVec 32 := 0#32
  let v560 : BitVec 1 := Scalar.cmpi .ne v559 c0_i32_348
  v560

def k0_off186 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off187 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev108 : Nat :=
  let c0_i32_751 : BitVec 32 := 0#32
  let c11_i32_749 : BitVec 32 := 11#32
  let c1_i32_750 : BitVec 32 := 1#32
  let v1140 : BitVec 32 := Scalar.muli c11_i32_749 c1_i32_750
  let v1141 : BitVec 32 := Scalar.addi c0_i32_751 v1140
  v1141.toNat
def k0_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_349 : BitVec 32 := 12#32
  let v561 : BitVec 1 := Scalar.cmpi .ne v2 c12_i32_349
  let v562 : BitVec 32 := Scalar.extui v561
  let c0_i32_350 : BitVec 32 := 0#32
  let v563 : BitVec 1 := Scalar.cmpi .ne v562 c0_i32_350
  v563

def k0_off188 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off189 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev109 : Nat :=
  let c0_i32_751 : BitVec 32 := 0#32
  let c12_i32_749 : BitVec 32 := 12#32
  let c1_i32_750 : BitVec 32 := 1#32
  let v1140 : BitVec 32 := Scalar.muli c12_i32_749 c1_i32_750
  let v1141 : BitVec 32 := Scalar.addi c0_i32_751 v1140
  v1141.toNat
def k0_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_351 : BitVec 32 := 13#32
  let v564 : BitVec 1 := Scalar.cmpi .ne v2 c13_i32_351
  let v565 : BitVec 32 := Scalar.extui v564
  let c0_i32_352 : BitVec 32 := 0#32
  let v566 : BitVec 1 := Scalar.cmpi .ne v565 c0_i32_352
  v566

def k0_off190 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off191 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev110 : Nat :=
  let c0_i32_751 : BitVec 32 := 0#32
  let c13_i32_749 : BitVec 32 := 13#32
  let c1_i32_750 : BitVec 32 := 1#32
  let v1140 : BitVec 32 := Scalar.muli c13_i32_749 c1_i32_750
  let v1141 : BitVec 32 := Scalar.addi c0_i32_751 v1140
  v1141.toNat
def k0_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_353 : BitVec 32 := 14#32
  let v567 : BitVec 1 := Scalar.cmpi .ne v2 c14_i32_353
  let v568 : BitVec 32 := Scalar.extui v567
  let c0_i32_354 : BitVec 32 := 0#32
  let v569 : BitVec 1 := Scalar.cmpi .ne v568 c0_i32_354
  v569

def k0_off192 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off193 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev111 : Nat :=
  let c0_i32_751 : BitVec 32 := 0#32
  let c14_i32_749 : BitVec 32 := 14#32
  let c1_i32_750 : BitVec 32 := 1#32
  let v1140 : BitVec 32 := Scalar.muli c14_i32_749 c1_i32_750
  let v1141 : BitVec 32 := Scalar.addi c0_i32_751 v1140
  v1141.toNat
def k0_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_355 : BitVec 32 := 15#32
  let v570 : BitVec 1 := Scalar.cmpi .ne v2 c15_i32_355
  let v571 : BitVec 32 := Scalar.extui v570
  let c0_i32_356 : BitVec 32 := 0#32
  let v572 : BitVec 1 := Scalar.cmpi .ne v571 c0_i32_356
  v572

def k0_off194 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off195 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev112 : Nat :=
  let c0_i32_751 : BitVec 32 := 0#32
  let c15_i32_749 : BitVec 32 := 15#32
  let c1_i32_750 : BitVec 32 := 1#32
  let v1140 : BitVec 32 := Scalar.muli c15_i32_749 c1_i32_750
  let v1141 : BitVec 32 := Scalar.addi c0_i32_751 v1140
  v1141.toNat
def k0_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_357 : BitVec 32 := 16#32
  let v573 : BitVec 1 := Scalar.cmpi .ne v2 c16_i32_357
  let v574 : BitVec 32 := Scalar.extui v573
  let c0_i32_358 : BitVec 32 := 0#32
  let v575 : BitVec 1 := Scalar.cmpi .ne v574 c0_i32_358
  v575

def k0_off196 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off197 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev113 : Nat :=
  let c0_i32_751 : BitVec 32 := 0#32
  let c16_i32_749 : BitVec 32 := 16#32
  let c1_i32_750 : BitVec 32 := 1#32
  let v1140 : BitVec 32 := Scalar.muli c16_i32_749 c1_i32_750
  let v1141 : BitVec 32 := Scalar.addi c0_i32_751 v1140
  v1141.toNat
def k0_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_359 : BitVec 32 := 17#32
  let v576 : BitVec 1 := Scalar.cmpi .ne v2 c17_i32_359
  let v577 : BitVec 32 := Scalar.extui v576
  let c0_i32_360 : BitVec 32 := 0#32
  let v578 : BitVec 1 := Scalar.cmpi .ne v577 c0_i32_360
  v578

def k0_off198 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off199 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev114 : Nat :=
  let c0_i32_751 : BitVec 32 := 0#32
  let c17_i32_749 : BitVec 32 := 17#32
  let c1_i32_750 : BitVec 32 := 1#32
  let v1140 : BitVec 32 := Scalar.muli c17_i32_749 c1_i32_750
  let v1141 : BitVec 32 := Scalar.addi c0_i32_751 v1140
  v1141.toNat
def k0_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_361 : BitVec 32 := 18#32
  let v579 : BitVec 1 := Scalar.cmpi .ne v2 c18_i32_361
  let v580 : BitVec 32 := Scalar.extui v579
  let c0_i32_362 : BitVec 32 := 0#32
  let v581 : BitVec 1 := Scalar.cmpi .ne v580 c0_i32_362
  v581

def k0_off200 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off201 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev115 : Nat :=
  let c0_i32_751 : BitVec 32 := 0#32
  let c18_i32_749 : BitVec 32 := 18#32
  let c1_i32_750 : BitVec 32 := 1#32
  let v1140 : BitVec 32 := Scalar.muli c18_i32_749 c1_i32_750
  let v1141 : BitVec 32 := Scalar.addi c0_i32_751 v1140
  v1141.toNat
def k0_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_363 : BitVec 32 := 19#32
  let v582 : BitVec 1 := Scalar.cmpi .ne v2 c19_i32_363
  let v583 : BitVec 32 := Scalar.extui v582
  let c0_i32_364 : BitVec 32 := 0#32
  let v584 : BitVec 1 := Scalar.cmpi .ne v583 c0_i32_364
  v584

def k0_off202 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off203 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev116 : Nat :=
  let c0_i32_751 : BitVec 32 := 0#32
  let c19_i32_749 : BitVec 32 := 19#32
  let c1_i32_750 : BitVec 32 := 1#32
  let v1140 : BitVec 32 := Scalar.muli c19_i32_749 c1_i32_750
  let v1141 : BitVec 32 := Scalar.addi c0_i32_751 v1140
  v1141.toNat
def k0_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_365 : BitVec 32 := 20#32
  let v585 : BitVec 1 := Scalar.cmpi .ne v2 c20_i32_365
  let v586 : BitVec 32 := Scalar.extui v585
  let c0_i32_366 : BitVec 32 := 0#32
  let v587 : BitVec 1 := Scalar.cmpi .ne v586 c0_i32_366
  v587

def k0_off204 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off205 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev117 : Nat :=
  let c0_i32_751 : BitVec 32 := 0#32
  let c20_i32_749 : BitVec 32 := 20#32
  let c1_i32_750 : BitVec 32 := 1#32
  let v1140 : BitVec 32 := Scalar.muli c20_i32_749 c1_i32_750
  let v1141 : BitVec 32 := Scalar.addi c0_i32_751 v1140
  v1141.toNat
def k0_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_367 : BitVec 32 := 21#32
  let v588 : BitVec 1 := Scalar.cmpi .ne v2 c21_i32_367
  let v589 : BitVec 32 := Scalar.extui v588
  let c0_i32_368 : BitVec 32 := 0#32
  let v590 : BitVec 1 := Scalar.cmpi .ne v589 c0_i32_368
  v590

def k0_off206 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off207 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev118 : Nat :=
  let c0_i32_751 : BitVec 32 := 0#32
  let c21_i32_749 : BitVec 32 := 21#32
  let c1_i32_750 : BitVec 32 := 1#32
  let v1140 : BitVec 32 := Scalar.muli c21_i32_749 c1_i32_750
  let v1141 : BitVec 32 := Scalar.addi c0_i32_751 v1140
  v1141.toNat
def k0_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_369 : BitVec 32 := 22#32
  let v591 : BitVec 1 := Scalar.cmpi .ne v2 c22_i32_369
  let v592 : BitVec 32 := Scalar.extui v591
  let c0_i32_370 : BitVec 32 := 0#32
  let v593 : BitVec 1 := Scalar.cmpi .ne v592 c0_i32_370
  v593

def k0_off208 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off209 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev119 : Nat :=
  let c0_i32_751 : BitVec 32 := 0#32
  let c22_i32_749 : BitVec 32 := 22#32
  let c1_i32_750 : BitVec 32 := 1#32
  let v1140 : BitVec 32 := Scalar.muli c22_i32_749 c1_i32_750
  let v1141 : BitVec 32 := Scalar.addi c0_i32_751 v1140
  v1141.toNat
def k0_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_371 : BitVec 32 := 23#32
  let v594 : BitVec 1 := Scalar.cmpi .ne v2 c23_i32_371
  let v595 : BitVec 32 := Scalar.extui v594
  let c0_i32_372 : BitVec 32 := 0#32
  let v596 : BitVec 1 := Scalar.cmpi .ne v595 c0_i32_372
  v596

def k0_off210 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off211 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev120 : Nat :=
  let c0_i32_751 : BitVec 32 := 0#32
  let c23_i32_749 : BitVec 32 := 23#32
  let c1_i32_750 : BitVec 32 := 1#32
  let v1140 : BitVec 32 := Scalar.muli c23_i32_749 c1_i32_750
  let v1141 : BitVec 32 := Scalar.addi c0_i32_751 v1140
  v1141.toNat
def k0_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_373 : BitVec 32 := 24#32
  let v597 : BitVec 1 := Scalar.cmpi .ne v2 c24_i32_373
  let v598 : BitVec 32 := Scalar.extui v597
  let c0_i32_374 : BitVec 32 := 0#32
  let v599 : BitVec 1 := Scalar.cmpi .ne v598 c0_i32_374
  v599

def k0_off212 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off213 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev121 : Nat :=
  let c0_i32_751 : BitVec 32 := 0#32
  let c24_i32_749 : BitVec 32 := 24#32
  let c1_i32_750 : BitVec 32 := 1#32
  let v1140 : BitVec 32 := Scalar.muli c24_i32_749 c1_i32_750
  let v1141 : BitVec 32 := Scalar.addi c0_i32_751 v1140
  v1141.toNat
def k0_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_375 : BitVec 32 := 25#32
  let v600 : BitVec 1 := Scalar.cmpi .ne v2 c25_i32_375
  let v601 : BitVec 32 := Scalar.extui v600
  let c0_i32_376 : BitVec 32 := 0#32
  let v602 : BitVec 1 := Scalar.cmpi .ne v601 c0_i32_376
  v602

def k0_off214 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off215 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev122 : Nat :=
  let c0_i32_751 : BitVec 32 := 0#32
  let c25_i32_749 : BitVec 32 := 25#32
  let c1_i32_750 : BitVec 32 := 1#32
  let v1140 : BitVec 32 := Scalar.muli c25_i32_749 c1_i32_750
  let v1141 : BitVec 32 := Scalar.addi c0_i32_751 v1140
  v1141.toNat
def k0_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_377 : BitVec 32 := 26#32
  let v603 : BitVec 1 := Scalar.cmpi .ne v2 c26_i32_377
  let v604 : BitVec 32 := Scalar.extui v603
  let c0_i32_378 : BitVec 32 := 0#32
  let v605 : BitVec 1 := Scalar.cmpi .ne v604 c0_i32_378
  v605

def k0_off216 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off217 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev123 : Nat :=
  let c0_i32_751 : BitVec 32 := 0#32
  let c26_i32_749 : BitVec 32 := 26#32
  let c1_i32_750 : BitVec 32 := 1#32
  let v1140 : BitVec 32 := Scalar.muli c26_i32_749 c1_i32_750
  let v1141 : BitVec 32 := Scalar.addi c0_i32_751 v1140
  v1141.toNat
def k0_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_379 : BitVec 32 := 27#32
  let v606 : BitVec 1 := Scalar.cmpi .ne v2 c27_i32_379
  let v607 : BitVec 32 := Scalar.extui v606
  let c0_i32_380 : BitVec 32 := 0#32
  let v608 : BitVec 1 := Scalar.cmpi .ne v607 c0_i32_380
  v608

def k0_off218 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off219 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev124 : Nat :=
  let c0_i32_751 : BitVec 32 := 0#32
  let c27_i32_749 : BitVec 32 := 27#32
  let c1_i32_750 : BitVec 32 := 1#32
  let v1140 : BitVec 32 := Scalar.muli c27_i32_749 c1_i32_750
  let v1141 : BitVec 32 := Scalar.addi c0_i32_751 v1140
  v1141.toNat
def k0_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_381 : BitVec 32 := 28#32
  let v609 : BitVec 1 := Scalar.cmpi .ne v2 c28_i32_381
  let v610 : BitVec 32 := Scalar.extui v609
  let c0_i32_382 : BitVec 32 := 0#32
  let v611 : BitVec 1 := Scalar.cmpi .ne v610 c0_i32_382
  v611

def k0_off220 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off221 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev125 : Nat :=
  let c0_i32_751 : BitVec 32 := 0#32
  let c28_i32_749 : BitVec 32 := 28#32
  let c1_i32_750 : BitVec 32 := 1#32
  let v1140 : BitVec 32 := Scalar.muli c28_i32_749 c1_i32_750
  let v1141 : BitVec 32 := Scalar.addi c0_i32_751 v1140
  v1141.toNat
def k0_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_383 : BitVec 32 := 29#32
  let v612 : BitVec 1 := Scalar.cmpi .ne v2 c29_i32_383
  let v613 : BitVec 32 := Scalar.extui v612
  let c0_i32_384 : BitVec 32 := 0#32
  let v614 : BitVec 1 := Scalar.cmpi .ne v613 c0_i32_384
  v614

def k0_off222 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off223 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev126 : Nat :=
  let c0_i32_751 : BitVec 32 := 0#32
  let c29_i32_749 : BitVec 32 := 29#32
  let c1_i32_750 : BitVec 32 := 1#32
  let v1140 : BitVec 32 := Scalar.muli c29_i32_749 c1_i32_750
  let v1141 : BitVec 32 := Scalar.addi c0_i32_751 v1140
  v1141.toNat
def k0_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_385 : BitVec 32 := 30#32
  let v615 : BitVec 1 := Scalar.cmpi .ne v2 c30_i32_385
  let v616 : BitVec 32 := Scalar.extui v615
  let c0_i32_386 : BitVec 32 := 0#32
  let v617 : BitVec 1 := Scalar.cmpi .ne v616 c0_i32_386
  v617

def k0_off224 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off225 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev127 : Nat :=
  let c0_i32_751 : BitVec 32 := 0#32
  let c30_i32_749 : BitVec 32 := 30#32
  let c1_i32_750 : BitVec 32 := 1#32
  let v1140 : BitVec 32 := Scalar.muli c30_i32_749 c1_i32_750
  let v1141 : BitVec 32 := Scalar.addi c0_i32_751 v1140
  v1141.toNat
def k0_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_387 : BitVec 32 := 31#32
  let v618 : BitVec 1 := Scalar.cmpi .ne v2 c31_i32_387
  let v619 : BitVec 32 := Scalar.extui v618
  let c0_i32_388 : BitVec 32 := 0#32
  let v620 : BitVec 1 := Scalar.cmpi .ne v619 c0_i32_388
  v620

def k0_off226 (d0 : Dev nD) : Fin 2 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off227 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![1, v2.toNat, 0, 0]
def k0_dev128 : Nat :=
  let c0_i32_751 : BitVec 32 := 0#32
  let c31_i32_749 : BitVec 32 := 31#32
  let c1_i32_750 : BitVec 32 := 1#32
  let v1140 : BitVec 32 := Scalar.muli c31_i32_749 c1_i32_750
  let v1141 : BitVec 32 := Scalar.addi c0_i32_751 v1140
  v1141.toNat
def k0_off228 (d0 : Dev nD) : Fin 4 → Nat :=
  let c1 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v624 : Index := Scalar.indexCast v2
  let c0_391 : Index := 0#32
  let c0_392 : Index := 0#32
  ![1, v624.toNat, 0, 0]
def k0_off229 (d0 : Dev nD) : Fin 4 → Nat :=
  let c1_462 : Index := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v727 : Index := Scalar.indexCast v2
  let c0_463 : Index := 0#32
  let c0_464 : Index := 0#32
  ![1, v727.toNat, 0, 0]
def k0_cond225 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_465 : BitVec 32 := 0#32
  let v731 : BitVec 1 := Scalar.cmpi .ne v2 c0_i32_465
  let v732 : BitVec 32 := Scalar.extui v731
  let c0_i32_466 : BitVec 32 := 0#32
  let v733 : BitVec 1 := Scalar.cmpi .ne v732 c0_i32_466
  v733

def k0_off230 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off231 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev129 : Nat :=
  let c0_i32_752 : BitVec 32 := 0#32
  let c0_i32_750 : BitVec 32 := 0#32
  let c1_i32_751 : BitVec 32 := 1#32
  let v1140 : BitVec 32 := Scalar.muli c0_i32_750 c1_i32_751
  let v1141 : BitVec 32 := Scalar.addi c0_i32_752 v1140
  v1141.toNat
def k0_cond226 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_467 : BitVec 32 := 1#32
  let v734 : BitVec 1 := Scalar.cmpi .ne v2 c1_i32_467
  let v735 : BitVec 32 := Scalar.extui v734
  let c0_i32_468 : BitVec 32 := 0#32
  let v736 : BitVec 1 := Scalar.cmpi .ne v735 c0_i32_468
  v736

def k0_off232 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off233 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev130 : Nat :=
  let c0_i32_752 : BitVec 32 := 0#32
  let c1_i32_750 : BitVec 32 := 1#32
  let c1_i32_751 : BitVec 32 := 1#32
  let v1140 : BitVec 32 := Scalar.muli c1_i32_750 c1_i32_751
  let v1141 : BitVec 32 := Scalar.addi c0_i32_752 v1140
  v1141.toNat
def k0_cond227 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_469 : BitVec 32 := 2#32
  let v737 : BitVec 1 := Scalar.cmpi .ne v2 c2_i32_469
  let v738 : BitVec 32 := Scalar.extui v737
  let c0_i32_470 : BitVec 32 := 0#32
  let v739 : BitVec 1 := Scalar.cmpi .ne v738 c0_i32_470
  v739

def k0_off234 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off235 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev131 : Nat :=
  let c0_i32_752 : BitVec 32 := 0#32
  let c2_i32_750 : BitVec 32 := 2#32
  let c1_i32_751 : BitVec 32 := 1#32
  let v1140 : BitVec 32 := Scalar.muli c2_i32_750 c1_i32_751
  let v1141 : BitVec 32 := Scalar.addi c0_i32_752 v1140
  v1141.toNat
def k0_cond228 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_471 : BitVec 32 := 3#32
  let v740 : BitVec 1 := Scalar.cmpi .ne v2 c3_i32_471
  let v741 : BitVec 32 := Scalar.extui v740
  let c0_i32_472 : BitVec 32 := 0#32
  let v742 : BitVec 1 := Scalar.cmpi .ne v741 c0_i32_472
  v742

def k0_off236 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off237 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev132 : Nat :=
  let c0_i32_752 : BitVec 32 := 0#32
  let c3_i32_750 : BitVec 32 := 3#32
  let c1_i32_751 : BitVec 32 := 1#32
  let v1140 : BitVec 32 := Scalar.muli c3_i32_750 c1_i32_751
  let v1141 : BitVec 32 := Scalar.addi c0_i32_752 v1140
  v1141.toNat
def k0_cond229 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_473 : BitVec 32 := 4#32
  let v743 : BitVec 1 := Scalar.cmpi .ne v2 c4_i32_473
  let v744 : BitVec 32 := Scalar.extui v743
  let c0_i32_474 : BitVec 32 := 0#32
  let v745 : BitVec 1 := Scalar.cmpi .ne v744 c0_i32_474
  v745

def k0_off238 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off239 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev133 : Nat :=
  let c0_i32_752 : BitVec 32 := 0#32
  let c4_i32_750 : BitVec 32 := 4#32
  let c1_i32_751 : BitVec 32 := 1#32
  let v1140 : BitVec 32 := Scalar.muli c4_i32_750 c1_i32_751
  let v1141 : BitVec 32 := Scalar.addi c0_i32_752 v1140
  v1141.toNat
def k0_cond230 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_475 : BitVec 32 := 5#32
  let v746 : BitVec 1 := Scalar.cmpi .ne v2 c5_i32_475
  let v747 : BitVec 32 := Scalar.extui v746
  let c0_i32_476 : BitVec 32 := 0#32
  let v748 : BitVec 1 := Scalar.cmpi .ne v747 c0_i32_476
  v748

def k0_off240 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off241 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev134 : Nat :=
  let c0_i32_752 : BitVec 32 := 0#32
  let c5_i32_750 : BitVec 32 := 5#32
  let c1_i32_751 : BitVec 32 := 1#32
  let v1140 : BitVec 32 := Scalar.muli c5_i32_750 c1_i32_751
  let v1141 : BitVec 32 := Scalar.addi c0_i32_752 v1140
  v1141.toNat
def k0_cond231 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_477 : BitVec 32 := 6#32
  let v749 : BitVec 1 := Scalar.cmpi .ne v2 c6_i32_477
  let v750 : BitVec 32 := Scalar.extui v749
  let c0_i32_478 : BitVec 32 := 0#32
  let v751 : BitVec 1 := Scalar.cmpi .ne v750 c0_i32_478
  v751

def k0_off242 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off243 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev135 : Nat :=
  let c0_i32_752 : BitVec 32 := 0#32
  let c6_i32_750 : BitVec 32 := 6#32
  let c1_i32_751 : BitVec 32 := 1#32
  let v1140 : BitVec 32 := Scalar.muli c6_i32_750 c1_i32_751
  let v1141 : BitVec 32 := Scalar.addi c0_i32_752 v1140
  v1141.toNat
def k0_cond232 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_479 : BitVec 32 := 7#32
  let v752 : BitVec 1 := Scalar.cmpi .ne v2 c7_i32_479
  let v753 : BitVec 32 := Scalar.extui v752
  let c0_i32_480 : BitVec 32 := 0#32
  let v754 : BitVec 1 := Scalar.cmpi .ne v753 c0_i32_480
  v754

def k0_off244 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off245 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev136 : Nat :=
  let c0_i32_752 : BitVec 32 := 0#32
  let c7_i32_750 : BitVec 32 := 7#32
  let c1_i32_751 : BitVec 32 := 1#32
  let v1140 : BitVec 32 := Scalar.muli c7_i32_750 c1_i32_751
  let v1141 : BitVec 32 := Scalar.addi c0_i32_752 v1140
  v1141.toNat
def k0_cond233 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_481 : BitVec 32 := 8#32
  let v755 : BitVec 1 := Scalar.cmpi .ne v2 c8_i32_481
  let v756 : BitVec 32 := Scalar.extui v755
  let c0_i32_482 : BitVec 32 := 0#32
  let v757 : BitVec 1 := Scalar.cmpi .ne v756 c0_i32_482
  v757

def k0_off246 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off247 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev137 : Nat :=
  let c0_i32_752 : BitVec 32 := 0#32
  let c8_i32_750 : BitVec 32 := 8#32
  let c1_i32_751 : BitVec 32 := 1#32
  let v1140 : BitVec 32 := Scalar.muli c8_i32_750 c1_i32_751
  let v1141 : BitVec 32 := Scalar.addi c0_i32_752 v1140
  v1141.toNat
def k0_cond234 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_483 : BitVec 32 := 9#32
  let v758 : BitVec 1 := Scalar.cmpi .ne v2 c9_i32_483
  let v759 : BitVec 32 := Scalar.extui v758
  let c0_i32_484 : BitVec 32 := 0#32
  let v760 : BitVec 1 := Scalar.cmpi .ne v759 c0_i32_484
  v760

def k0_off248 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off249 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev138 : Nat :=
  let c0_i32_752 : BitVec 32 := 0#32
  let c9_i32_750 : BitVec 32 := 9#32
  let c1_i32_751 : BitVec 32 := 1#32
  let v1140 : BitVec 32 := Scalar.muli c9_i32_750 c1_i32_751
  let v1141 : BitVec 32 := Scalar.addi c0_i32_752 v1140
  v1141.toNat
def k0_cond235 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_485 : BitVec 32 := 10#32
  let v761 : BitVec 1 := Scalar.cmpi .ne v2 c10_i32_485
  let v762 : BitVec 32 := Scalar.extui v761
  let c0_i32_486 : BitVec 32 := 0#32
  let v763 : BitVec 1 := Scalar.cmpi .ne v762 c0_i32_486
  v763

def k0_off250 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off251 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev139 : Nat :=
  let c0_i32_752 : BitVec 32 := 0#32
  let c10_i32_750 : BitVec 32 := 10#32
  let c1_i32_751 : BitVec 32 := 1#32
  let v1140 : BitVec 32 := Scalar.muli c10_i32_750 c1_i32_751
  let v1141 : BitVec 32 := Scalar.addi c0_i32_752 v1140
  v1141.toNat
def k0_cond236 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_487 : BitVec 32 := 11#32
  let v764 : BitVec 1 := Scalar.cmpi .ne v2 c11_i32_487
  let v765 : BitVec 32 := Scalar.extui v764
  let c0_i32_488 : BitVec 32 := 0#32
  let v766 : BitVec 1 := Scalar.cmpi .ne v765 c0_i32_488
  v766

def k0_off252 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off253 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev140 : Nat :=
  let c0_i32_752 : BitVec 32 := 0#32
  let c11_i32_750 : BitVec 32 := 11#32
  let c1_i32_751 : BitVec 32 := 1#32
  let v1140 : BitVec 32 := Scalar.muli c11_i32_750 c1_i32_751
  let v1141 : BitVec 32 := Scalar.addi c0_i32_752 v1140
  v1141.toNat
def k0_cond237 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_489 : BitVec 32 := 12#32
  let v767 : BitVec 1 := Scalar.cmpi .ne v2 c12_i32_489
  let v768 : BitVec 32 := Scalar.extui v767
  let c0_i32_490 : BitVec 32 := 0#32
  let v769 : BitVec 1 := Scalar.cmpi .ne v768 c0_i32_490
  v769

def k0_off254 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off255 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev141 : Nat :=
  let c0_i32_752 : BitVec 32 := 0#32
  let c12_i32_750 : BitVec 32 := 12#32
  let c1_i32_751 : BitVec 32 := 1#32
  let v1140 : BitVec 32 := Scalar.muli c12_i32_750 c1_i32_751
  let v1141 : BitVec 32 := Scalar.addi c0_i32_752 v1140
  v1141.toNat
def k0_cond238 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_491 : BitVec 32 := 13#32
  let v770 : BitVec 1 := Scalar.cmpi .ne v2 c13_i32_491
  let v771 : BitVec 32 := Scalar.extui v770
  let c0_i32_492 : BitVec 32 := 0#32
  let v772 : BitVec 1 := Scalar.cmpi .ne v771 c0_i32_492
  v772

def k0_off256 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off257 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev142 : Nat :=
  let c0_i32_752 : BitVec 32 := 0#32
  let c13_i32_750 : BitVec 32 := 13#32
  let c1_i32_751 : BitVec 32 := 1#32
  let v1140 : BitVec 32 := Scalar.muli c13_i32_750 c1_i32_751
  let v1141 : BitVec 32 := Scalar.addi c0_i32_752 v1140
  v1141.toNat
def k0_cond239 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_493 : BitVec 32 := 14#32
  let v773 : BitVec 1 := Scalar.cmpi .ne v2 c14_i32_493
  let v774 : BitVec 32 := Scalar.extui v773
  let c0_i32_494 : BitVec 32 := 0#32
  let v775 : BitVec 1 := Scalar.cmpi .ne v774 c0_i32_494
  v775

def k0_off258 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off259 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev143 : Nat :=
  let c0_i32_752 : BitVec 32 := 0#32
  let c14_i32_750 : BitVec 32 := 14#32
  let c1_i32_751 : BitVec 32 := 1#32
  let v1140 : BitVec 32 := Scalar.muli c14_i32_750 c1_i32_751
  let v1141 : BitVec 32 := Scalar.addi c0_i32_752 v1140
  v1141.toNat
def k0_cond240 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_495 : BitVec 32 := 15#32
  let v776 : BitVec 1 := Scalar.cmpi .ne v2 c15_i32_495
  let v777 : BitVec 32 := Scalar.extui v776
  let c0_i32_496 : BitVec 32 := 0#32
  let v778 : BitVec 1 := Scalar.cmpi .ne v777 c0_i32_496
  v778

def k0_off260 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off261 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev144 : Nat :=
  let c0_i32_752 : BitVec 32 := 0#32
  let c15_i32_750 : BitVec 32 := 15#32
  let c1_i32_751 : BitVec 32 := 1#32
  let v1140 : BitVec 32 := Scalar.muli c15_i32_750 c1_i32_751
  let v1141 : BitVec 32 := Scalar.addi c0_i32_752 v1140
  v1141.toNat
def k0_cond241 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_497 : BitVec 32 := 16#32
  let v779 : BitVec 1 := Scalar.cmpi .ne v2 c16_i32_497
  let v780 : BitVec 32 := Scalar.extui v779
  let c0_i32_498 : BitVec 32 := 0#32
  let v781 : BitVec 1 := Scalar.cmpi .ne v780 c0_i32_498
  v781

def k0_off262 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off263 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev145 : Nat :=
  let c0_i32_752 : BitVec 32 := 0#32
  let c16_i32_750 : BitVec 32 := 16#32
  let c1_i32_751 : BitVec 32 := 1#32
  let v1140 : BitVec 32 := Scalar.muli c16_i32_750 c1_i32_751
  let v1141 : BitVec 32 := Scalar.addi c0_i32_752 v1140
  v1141.toNat
def k0_cond242 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_499 : BitVec 32 := 17#32
  let v782 : BitVec 1 := Scalar.cmpi .ne v2 c17_i32_499
  let v783 : BitVec 32 := Scalar.extui v782
  let c0_i32_500 : BitVec 32 := 0#32
  let v784 : BitVec 1 := Scalar.cmpi .ne v783 c0_i32_500
  v784

def k0_off264 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off265 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev146 : Nat :=
  let c0_i32_752 : BitVec 32 := 0#32
  let c17_i32_750 : BitVec 32 := 17#32
  let c1_i32_751 : BitVec 32 := 1#32
  let v1140 : BitVec 32 := Scalar.muli c17_i32_750 c1_i32_751
  let v1141 : BitVec 32 := Scalar.addi c0_i32_752 v1140
  v1141.toNat
def k0_cond243 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_501 : BitVec 32 := 18#32
  let v785 : BitVec 1 := Scalar.cmpi .ne v2 c18_i32_501
  let v786 : BitVec 32 := Scalar.extui v785
  let c0_i32_502 : BitVec 32 := 0#32
  let v787 : BitVec 1 := Scalar.cmpi .ne v786 c0_i32_502
  v787

def k0_off266 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off267 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev147 : Nat :=
  let c0_i32_752 : BitVec 32 := 0#32
  let c18_i32_750 : BitVec 32 := 18#32
  let c1_i32_751 : BitVec 32 := 1#32
  let v1140 : BitVec 32 := Scalar.muli c18_i32_750 c1_i32_751
  let v1141 : BitVec 32 := Scalar.addi c0_i32_752 v1140
  v1141.toNat
def k0_cond244 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_503 : BitVec 32 := 19#32
  let v788 : BitVec 1 := Scalar.cmpi .ne v2 c19_i32_503
  let v789 : BitVec 32 := Scalar.extui v788
  let c0_i32_504 : BitVec 32 := 0#32
  let v790 : BitVec 1 := Scalar.cmpi .ne v789 c0_i32_504
  v790

def k0_off268 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off269 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev148 : Nat :=
  let c0_i32_752 : BitVec 32 := 0#32
  let c19_i32_750 : BitVec 32 := 19#32
  let c1_i32_751 : BitVec 32 := 1#32
  let v1140 : BitVec 32 := Scalar.muli c19_i32_750 c1_i32_751
  let v1141 : BitVec 32 := Scalar.addi c0_i32_752 v1140
  v1141.toNat
def k0_cond245 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_505 : BitVec 32 := 20#32
  let v791 : BitVec 1 := Scalar.cmpi .ne v2 c20_i32_505
  let v792 : BitVec 32 := Scalar.extui v791
  let c0_i32_506 : BitVec 32 := 0#32
  let v793 : BitVec 1 := Scalar.cmpi .ne v792 c0_i32_506
  v793

def k0_off270 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off271 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev149 : Nat :=
  let c0_i32_752 : BitVec 32 := 0#32
  let c20_i32_750 : BitVec 32 := 20#32
  let c1_i32_751 : BitVec 32 := 1#32
  let v1140 : BitVec 32 := Scalar.muli c20_i32_750 c1_i32_751
  let v1141 : BitVec 32 := Scalar.addi c0_i32_752 v1140
  v1141.toNat
def k0_cond246 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_507 : BitVec 32 := 21#32
  let v794 : BitVec 1 := Scalar.cmpi .ne v2 c21_i32_507
  let v795 : BitVec 32 := Scalar.extui v794
  let c0_i32_508 : BitVec 32 := 0#32
  let v796 : BitVec 1 := Scalar.cmpi .ne v795 c0_i32_508
  v796

def k0_off272 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off273 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev150 : Nat :=
  let c0_i32_752 : BitVec 32 := 0#32
  let c21_i32_750 : BitVec 32 := 21#32
  let c1_i32_751 : BitVec 32 := 1#32
  let v1140 : BitVec 32 := Scalar.muli c21_i32_750 c1_i32_751
  let v1141 : BitVec 32 := Scalar.addi c0_i32_752 v1140
  v1141.toNat
def k0_cond247 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_509 : BitVec 32 := 22#32
  let v797 : BitVec 1 := Scalar.cmpi .ne v2 c22_i32_509
  let v798 : BitVec 32 := Scalar.extui v797
  let c0_i32_510 : BitVec 32 := 0#32
  let v799 : BitVec 1 := Scalar.cmpi .ne v798 c0_i32_510
  v799

def k0_off274 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off275 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev151 : Nat :=
  let c0_i32_752 : BitVec 32 := 0#32
  let c22_i32_750 : BitVec 32 := 22#32
  let c1_i32_751 : BitVec 32 := 1#32
  let v1140 : BitVec 32 := Scalar.muli c22_i32_750 c1_i32_751
  let v1141 : BitVec 32 := Scalar.addi c0_i32_752 v1140
  v1141.toNat
def k0_cond248 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_511 : BitVec 32 := 23#32
  let v800 : BitVec 1 := Scalar.cmpi .ne v2 c23_i32_511
  let v801 : BitVec 32 := Scalar.extui v800
  let c0_i32_512 : BitVec 32 := 0#32
  let v802 : BitVec 1 := Scalar.cmpi .ne v801 c0_i32_512
  v802

def k0_off276 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off277 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev152 : Nat :=
  let c0_i32_752 : BitVec 32 := 0#32
  let c23_i32_750 : BitVec 32 := 23#32
  let c1_i32_751 : BitVec 32 := 1#32
  let v1140 : BitVec 32 := Scalar.muli c23_i32_750 c1_i32_751
  let v1141 : BitVec 32 := Scalar.addi c0_i32_752 v1140
  v1141.toNat
def k0_cond249 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_513 : BitVec 32 := 24#32
  let v803 : BitVec 1 := Scalar.cmpi .ne v2 c24_i32_513
  let v804 : BitVec 32 := Scalar.extui v803
  let c0_i32_514 : BitVec 32 := 0#32
  let v805 : BitVec 1 := Scalar.cmpi .ne v804 c0_i32_514
  v805

def k0_off278 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off279 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev153 : Nat :=
  let c0_i32_752 : BitVec 32 := 0#32
  let c24_i32_750 : BitVec 32 := 24#32
  let c1_i32_751 : BitVec 32 := 1#32
  let v1140 : BitVec 32 := Scalar.muli c24_i32_750 c1_i32_751
  let v1141 : BitVec 32 := Scalar.addi c0_i32_752 v1140
  v1141.toNat
def k0_cond250 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_515 : BitVec 32 := 25#32
  let v806 : BitVec 1 := Scalar.cmpi .ne v2 c25_i32_515
  let v807 : BitVec 32 := Scalar.extui v806
  let c0_i32_516 : BitVec 32 := 0#32
  let v808 : BitVec 1 := Scalar.cmpi .ne v807 c0_i32_516
  v808

def k0_off280 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off281 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev154 : Nat :=
  let c0_i32_752 : BitVec 32 := 0#32
  let c25_i32_750 : BitVec 32 := 25#32
  let c1_i32_751 : BitVec 32 := 1#32
  let v1140 : BitVec 32 := Scalar.muli c25_i32_750 c1_i32_751
  let v1141 : BitVec 32 := Scalar.addi c0_i32_752 v1140
  v1141.toNat
def k0_cond251 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_517 : BitVec 32 := 26#32
  let v809 : BitVec 1 := Scalar.cmpi .ne v2 c26_i32_517
  let v810 : BitVec 32 := Scalar.extui v809
  let c0_i32_518 : BitVec 32 := 0#32
  let v811 : BitVec 1 := Scalar.cmpi .ne v810 c0_i32_518
  v811

def k0_off282 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off283 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev155 : Nat :=
  let c0_i32_752 : BitVec 32 := 0#32
  let c26_i32_750 : BitVec 32 := 26#32
  let c1_i32_751 : BitVec 32 := 1#32
  let v1140 : BitVec 32 := Scalar.muli c26_i32_750 c1_i32_751
  let v1141 : BitVec 32 := Scalar.addi c0_i32_752 v1140
  v1141.toNat
def k0_cond252 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_519 : BitVec 32 := 27#32
  let v812 : BitVec 1 := Scalar.cmpi .ne v2 c27_i32_519
  let v813 : BitVec 32 := Scalar.extui v812
  let c0_i32_520 : BitVec 32 := 0#32
  let v814 : BitVec 1 := Scalar.cmpi .ne v813 c0_i32_520
  v814

def k0_off284 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off285 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev156 : Nat :=
  let c0_i32_752 : BitVec 32 := 0#32
  let c27_i32_750 : BitVec 32 := 27#32
  let c1_i32_751 : BitVec 32 := 1#32
  let v1140 : BitVec 32 := Scalar.muli c27_i32_750 c1_i32_751
  let v1141 : BitVec 32 := Scalar.addi c0_i32_752 v1140
  v1141.toNat
def k0_cond253 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_521 : BitVec 32 := 28#32
  let v815 : BitVec 1 := Scalar.cmpi .ne v2 c28_i32_521
  let v816 : BitVec 32 := Scalar.extui v815
  let c0_i32_522 : BitVec 32 := 0#32
  let v817 : BitVec 1 := Scalar.cmpi .ne v816 c0_i32_522
  v817

def k0_off286 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off287 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev157 : Nat :=
  let c0_i32_752 : BitVec 32 := 0#32
  let c28_i32_750 : BitVec 32 := 28#32
  let c1_i32_751 : BitVec 32 := 1#32
  let v1140 : BitVec 32 := Scalar.muli c28_i32_750 c1_i32_751
  let v1141 : BitVec 32 := Scalar.addi c0_i32_752 v1140
  v1141.toNat
def k0_cond254 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_523 : BitVec 32 := 29#32
  let v818 : BitVec 1 := Scalar.cmpi .ne v2 c29_i32_523
  let v819 : BitVec 32 := Scalar.extui v818
  let c0_i32_524 : BitVec 32 := 0#32
  let v820 : BitVec 1 := Scalar.cmpi .ne v819 c0_i32_524
  v820

def k0_off288 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off289 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev158 : Nat :=
  let c0_i32_752 : BitVec 32 := 0#32
  let c29_i32_750 : BitVec 32 := 29#32
  let c1_i32_751 : BitVec 32 := 1#32
  let v1140 : BitVec 32 := Scalar.muli c29_i32_750 c1_i32_751
  let v1141 : BitVec 32 := Scalar.addi c0_i32_752 v1140
  v1141.toNat
def k0_cond255 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_525 : BitVec 32 := 30#32
  let v821 : BitVec 1 := Scalar.cmpi .ne v2 c30_i32_525
  let v822 : BitVec 32 := Scalar.extui v821
  let c0_i32_526 : BitVec 32 := 0#32
  let v823 : BitVec 1 := Scalar.cmpi .ne v822 c0_i32_526
  v823

def k0_off290 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off291 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev159 : Nat :=
  let c0_i32_752 : BitVec 32 := 0#32
  let c30_i32_750 : BitVec 32 := 30#32
  let c1_i32_751 : BitVec 32 := 1#32
  let v1140 : BitVec 32 := Scalar.muli c30_i32_750 c1_i32_751
  let v1141 : BitVec 32 := Scalar.addi c0_i32_752 v1140
  v1141.toNat
def k0_cond256 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_527 : BitVec 32 := 31#32
  let v824 : BitVec 1 := Scalar.cmpi .ne v2 c31_i32_527
  let v825 : BitVec 32 := Scalar.extui v824
  let c0_i32_528 : BitVec 32 := 0#32
  let v826 : BitVec 1 := Scalar.cmpi .ne v825 c0_i32_528
  v826

def k0_off292 (d0 : Dev nD) : Fin 2 → Nat :=
  let c1_i32_747 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![1, v2.toNat]
def k0_off293 (d0 : Dev nD) : Fin 4 → Nat :=
  let c1_i32_746 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_753 : BitVec 32 := 0#32
  let c0_i32_754 : BitVec 32 := 0#32
  ![1, v2.toNat, 0, 0]
def k0_dev160 : Nat :=
  let c0_i32_752 : BitVec 32 := 0#32
  let c31_i32_750 : BitVec 32 := 31#32
  let c1_i32_751 : BitVec 32 := 1#32
  let v1140 : BitVec 32 := Scalar.muli c31_i32_750 c1_i32_751
  let v1141 : BitVec 32 := Scalar.addi c0_i32_752 v1140
  v1141.toNat
def k0_cond257 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_529 : BitVec 32 := 0#32
  let v827 : BitVec 1 := Scalar.cmpi .ne v2 c0_i32_529
  let v828 : BitVec 32 := Scalar.extui v827
  let c0_i32_530 : BitVec 32 := 0#32
  let v829 : BitVec 1 := Scalar.cmpi .ne v828 c0_i32_530
  v829

def k0_off294 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond258 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_531 : BitVec 32 := 1#32
  let v830 : BitVec 1 := Scalar.cmpi .ne v2 c1_i32_531
  let v831 : BitVec 32 := Scalar.extui v830
  let c0_i32_532 : BitVec 32 := 0#32
  let v832 : BitVec 1 := Scalar.cmpi .ne v831 c0_i32_532
  v832

def k0_off295 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond259 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_533 : BitVec 32 := 2#32
  let v833 : BitVec 1 := Scalar.cmpi .ne v2 c2_i32_533
  let v834 : BitVec 32 := Scalar.extui v833
  let c0_i32_534 : BitVec 32 := 0#32
  let v835 : BitVec 1 := Scalar.cmpi .ne v834 c0_i32_534
  v835

def k0_off296 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond260 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_535 : BitVec 32 := 3#32
  let v836 : BitVec 1 := Scalar.cmpi .ne v2 c3_i32_535
  let v837 : BitVec 32 := Scalar.extui v836
  let c0_i32_536 : BitVec 32 := 0#32
  let v838 : BitVec 1 := Scalar.cmpi .ne v837 c0_i32_536
  v838

def k0_off297 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond261 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_537 : BitVec 32 := 4#32
  let v839 : BitVec 1 := Scalar.cmpi .ne v2 c4_i32_537
  let v840 : BitVec 32 := Scalar.extui v839
  let c0_i32_538 : BitVec 32 := 0#32
  let v841 : BitVec 1 := Scalar.cmpi .ne v840 c0_i32_538
  v841

def k0_off298 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond262 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_539 : BitVec 32 := 5#32
  let v842 : BitVec 1 := Scalar.cmpi .ne v2 c5_i32_539
  let v843 : BitVec 32 := Scalar.extui v842
  let c0_i32_540 : BitVec 32 := 0#32
  let v844 : BitVec 1 := Scalar.cmpi .ne v843 c0_i32_540
  v844

def k0_off299 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond263 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_541 : BitVec 32 := 6#32
  let v845 : BitVec 1 := Scalar.cmpi .ne v2 c6_i32_541
  let v846 : BitVec 32 := Scalar.extui v845
  let c0_i32_542 : BitVec 32 := 0#32
  let v847 : BitVec 1 := Scalar.cmpi .ne v846 c0_i32_542
  v847

def k0_off300 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond264 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_543 : BitVec 32 := 7#32
  let v848 : BitVec 1 := Scalar.cmpi .ne v2 c7_i32_543
  let v849 : BitVec 32 := Scalar.extui v848
  let c0_i32_544 : BitVec 32 := 0#32
  let v850 : BitVec 1 := Scalar.cmpi .ne v849 c0_i32_544
  v850

def k0_off301 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond265 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_545 : BitVec 32 := 8#32
  let v851 : BitVec 1 := Scalar.cmpi .ne v2 c8_i32_545
  let v852 : BitVec 32 := Scalar.extui v851
  let c0_i32_546 : BitVec 32 := 0#32
  let v853 : BitVec 1 := Scalar.cmpi .ne v852 c0_i32_546
  v853

def k0_off302 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond266 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_547 : BitVec 32 := 9#32
  let v854 : BitVec 1 := Scalar.cmpi .ne v2 c9_i32_547
  let v855 : BitVec 32 := Scalar.extui v854
  let c0_i32_548 : BitVec 32 := 0#32
  let v856 : BitVec 1 := Scalar.cmpi .ne v855 c0_i32_548
  v856

def k0_off303 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond267 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_549 : BitVec 32 := 10#32
  let v857 : BitVec 1 := Scalar.cmpi .ne v2 c10_i32_549
  let v858 : BitVec 32 := Scalar.extui v857
  let c0_i32_550 : BitVec 32 := 0#32
  let v859 : BitVec 1 := Scalar.cmpi .ne v858 c0_i32_550
  v859

def k0_off304 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond268 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_551 : BitVec 32 := 11#32
  let v860 : BitVec 1 := Scalar.cmpi .ne v2 c11_i32_551
  let v861 : BitVec 32 := Scalar.extui v860
  let c0_i32_552 : BitVec 32 := 0#32
  let v862 : BitVec 1 := Scalar.cmpi .ne v861 c0_i32_552
  v862

def k0_off305 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond269 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_553 : BitVec 32 := 12#32
  let v863 : BitVec 1 := Scalar.cmpi .ne v2 c12_i32_553
  let v864 : BitVec 32 := Scalar.extui v863
  let c0_i32_554 : BitVec 32 := 0#32
  let v865 : BitVec 1 := Scalar.cmpi .ne v864 c0_i32_554
  v865

def k0_off306 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond270 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_555 : BitVec 32 := 13#32
  let v866 : BitVec 1 := Scalar.cmpi .ne v2 c13_i32_555
  let v867 : BitVec 32 := Scalar.extui v866
  let c0_i32_556 : BitVec 32 := 0#32
  let v868 : BitVec 1 := Scalar.cmpi .ne v867 c0_i32_556
  v868

def k0_off307 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond271 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_557 : BitVec 32 := 14#32
  let v869 : BitVec 1 := Scalar.cmpi .ne v2 c14_i32_557
  let v870 : BitVec 32 := Scalar.extui v869
  let c0_i32_558 : BitVec 32 := 0#32
  let v871 : BitVec 1 := Scalar.cmpi .ne v870 c0_i32_558
  v871

def k0_off308 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond272 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_559 : BitVec 32 := 15#32
  let v872 : BitVec 1 := Scalar.cmpi .ne v2 c15_i32_559
  let v873 : BitVec 32 := Scalar.extui v872
  let c0_i32_560 : BitVec 32 := 0#32
  let v874 : BitVec 1 := Scalar.cmpi .ne v873 c0_i32_560
  v874

def k0_off309 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond273 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_561 : BitVec 32 := 16#32
  let v875 : BitVec 1 := Scalar.cmpi .ne v2 c16_i32_561
  let v876 : BitVec 32 := Scalar.extui v875
  let c0_i32_562 : BitVec 32 := 0#32
  let v877 : BitVec 1 := Scalar.cmpi .ne v876 c0_i32_562
  v877

def k0_off310 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond274 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_563 : BitVec 32 := 17#32
  let v878 : BitVec 1 := Scalar.cmpi .ne v2 c17_i32_563
  let v879 : BitVec 32 := Scalar.extui v878
  let c0_i32_564 : BitVec 32 := 0#32
  let v880 : BitVec 1 := Scalar.cmpi .ne v879 c0_i32_564
  v880

def k0_off311 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond275 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_565 : BitVec 32 := 18#32
  let v881 : BitVec 1 := Scalar.cmpi .ne v2 c18_i32_565
  let v882 : BitVec 32 := Scalar.extui v881
  let c0_i32_566 : BitVec 32 := 0#32
  let v883 : BitVec 1 := Scalar.cmpi .ne v882 c0_i32_566
  v883

def k0_off312 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond276 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_567 : BitVec 32 := 19#32
  let v884 : BitVec 1 := Scalar.cmpi .ne v2 c19_i32_567
  let v885 : BitVec 32 := Scalar.extui v884
  let c0_i32_568 : BitVec 32 := 0#32
  let v886 : BitVec 1 := Scalar.cmpi .ne v885 c0_i32_568
  v886

def k0_off313 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond277 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_569 : BitVec 32 := 20#32
  let v887 : BitVec 1 := Scalar.cmpi .ne v2 c20_i32_569
  let v888 : BitVec 32 := Scalar.extui v887
  let c0_i32_570 : BitVec 32 := 0#32
  let v889 : BitVec 1 := Scalar.cmpi .ne v888 c0_i32_570
  v889

def k0_off314 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond278 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_571 : BitVec 32 := 21#32
  let v890 : BitVec 1 := Scalar.cmpi .ne v2 c21_i32_571
  let v891 : BitVec 32 := Scalar.extui v890
  let c0_i32_572 : BitVec 32 := 0#32
  let v892 : BitVec 1 := Scalar.cmpi .ne v891 c0_i32_572
  v892

def k0_off315 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond279 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_573 : BitVec 32 := 22#32
  let v893 : BitVec 1 := Scalar.cmpi .ne v2 c22_i32_573
  let v894 : BitVec 32 := Scalar.extui v893
  let c0_i32_574 : BitVec 32 := 0#32
  let v895 : BitVec 1 := Scalar.cmpi .ne v894 c0_i32_574
  v895

def k0_off316 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond280 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_575 : BitVec 32 := 23#32
  let v896 : BitVec 1 := Scalar.cmpi .ne v2 c23_i32_575
  let v897 : BitVec 32 := Scalar.extui v896
  let c0_i32_576 : BitVec 32 := 0#32
  let v898 : BitVec 1 := Scalar.cmpi .ne v897 c0_i32_576
  v898

def k0_off317 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond281 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_577 : BitVec 32 := 24#32
  let v899 : BitVec 1 := Scalar.cmpi .ne v2 c24_i32_577
  let v900 : BitVec 32 := Scalar.extui v899
  let c0_i32_578 : BitVec 32 := 0#32
  let v901 : BitVec 1 := Scalar.cmpi .ne v900 c0_i32_578
  v901

def k0_off318 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond282 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_579 : BitVec 32 := 25#32
  let v902 : BitVec 1 := Scalar.cmpi .ne v2 c25_i32_579
  let v903 : BitVec 32 := Scalar.extui v902
  let c0_i32_580 : BitVec 32 := 0#32
  let v904 : BitVec 1 := Scalar.cmpi .ne v903 c0_i32_580
  v904

def k0_off319 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond283 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_581 : BitVec 32 := 26#32
  let v905 : BitVec 1 := Scalar.cmpi .ne v2 c26_i32_581
  let v906 : BitVec 32 := Scalar.extui v905
  let c0_i32_582 : BitVec 32 := 0#32
  let v907 : BitVec 1 := Scalar.cmpi .ne v906 c0_i32_582
  v907

def k0_off320 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond284 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_583 : BitVec 32 := 27#32
  let v908 : BitVec 1 := Scalar.cmpi .ne v2 c27_i32_583
  let v909 : BitVec 32 := Scalar.extui v908
  let c0_i32_584 : BitVec 32 := 0#32
  let v910 : BitVec 1 := Scalar.cmpi .ne v909 c0_i32_584
  v910

def k0_off321 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond285 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_585 : BitVec 32 := 28#32
  let v911 : BitVec 1 := Scalar.cmpi .ne v2 c28_i32_585
  let v912 : BitVec 32 := Scalar.extui v911
  let c0_i32_586 : BitVec 32 := 0#32
  let v913 : BitVec 1 := Scalar.cmpi .ne v912 c0_i32_586
  v913

def k0_off322 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond286 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_587 : BitVec 32 := 29#32
  let v914 : BitVec 1 := Scalar.cmpi .ne v2 c29_i32_587
  let v915 : BitVec 32 := Scalar.extui v914
  let c0_i32_588 : BitVec 32 := 0#32
  let v916 : BitVec 1 := Scalar.cmpi .ne v915 c0_i32_588
  v916

def k0_off323 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond287 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_589 : BitVec 32 := 30#32
  let v917 : BitVec 1 := Scalar.cmpi .ne v2 c30_i32_589
  let v918 : BitVec 32 := Scalar.extui v917
  let c0_i32_590 : BitVec 32 := 0#32
  let v919 : BitVec 1 := Scalar.cmpi .ne v918 c0_i32_590
  v919

def k0_off324 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond288 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_591 : BitVec 32 := 31#32
  let v920 : BitVec 1 := Scalar.cmpi .ne v2 c31_i32_591
  let v921 : BitVec 32 := Scalar.extui v920
  let c0_i32_592 : BitVec 32 := 0#32
  let v922 : BitVec 1 := Scalar.cmpi .ne v921 c0_i32_592
  v922

def k0_off325 (d0 : Dev nD) : Fin 4 → Nat :=
  let c1_i32_745 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_757 : BitVec 32 := 0#32
  let c0_i32_758 : BitVec 32 := 0#32
  ![1, v2.toNat, 0, 0]
def k0_cond289 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_606 : BitVec 32 := 0#32
  let v937 : BitVec 1 := Scalar.cmpi .ne v2 c0_i32_606
  let v938 : BitVec 32 := Scalar.extui v937
  let c0_i32_607 : BitVec 32 := 0#32
  let v939 : BitVec 1 := Scalar.cmpi .ne v938 c0_i32_607
  v939

def k0_off326 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off327 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev161 : Nat :=
  let c0_i32_751 : BitVec 32 := 0#32
  let c0_i32_749 : BitVec 32 := 0#32
  let c1_i32_750 : BitVec 32 := 1#32
  let v1140 : BitVec 32 := Scalar.muli c0_i32_749 c1_i32_750
  let v1141 : BitVec 32 := Scalar.addi c0_i32_751 v1140
  v1141.toNat
def k0_cond290 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_608 : BitVec 32 := 1#32
  let v940 : BitVec 1 := Scalar.cmpi .ne v2 c1_i32_608
  let v941 : BitVec 32 := Scalar.extui v940
  let c0_i32_609 : BitVec 32 := 0#32
  let v942 : BitVec 1 := Scalar.cmpi .ne v941 c0_i32_609
  v942

def k0_off328 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off329 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev162 : Nat :=
  let c0_i32_751 : BitVec 32 := 0#32
  let c1_i32_749 : BitVec 32 := 1#32
  let c1_i32_750 : BitVec 32 := 1#32
  let v1140 : BitVec 32 := Scalar.muli c1_i32_749 c1_i32_750
  let v1141 : BitVec 32 := Scalar.addi c0_i32_751 v1140
  v1141.toNat
def k0_cond291 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_610 : BitVec 32 := 2#32
  let v943 : BitVec 1 := Scalar.cmpi .ne v2 c2_i32_610
  let v944 : BitVec 32 := Scalar.extui v943
  let c0_i32_611 : BitVec 32 := 0#32
  let v945 : BitVec 1 := Scalar.cmpi .ne v944 c0_i32_611
  v945

def k0_off330 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off331 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev163 : Nat :=
  let c0_i32_751 : BitVec 32 := 0#32
  let c2_i32_749 : BitVec 32 := 2#32
  let c1_i32_750 : BitVec 32 := 1#32
  let v1140 : BitVec 32 := Scalar.muli c2_i32_749 c1_i32_750
  let v1141 : BitVec 32 := Scalar.addi c0_i32_751 v1140
  v1141.toNat
def k0_cond292 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_612 : BitVec 32 := 3#32
  let v946 : BitVec 1 := Scalar.cmpi .ne v2 c3_i32_612
  let v947 : BitVec 32 := Scalar.extui v946
  let c0_i32_613 : BitVec 32 := 0#32
  let v948 : BitVec 1 := Scalar.cmpi .ne v947 c0_i32_613
  v948

def k0_off332 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off333 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev164 : Nat :=
  let c0_i32_751 : BitVec 32 := 0#32
  let c3_i32_749 : BitVec 32 := 3#32
  let c1_i32_750 : BitVec 32 := 1#32
  let v1140 : BitVec 32 := Scalar.muli c3_i32_749 c1_i32_750
  let v1141 : BitVec 32 := Scalar.addi c0_i32_751 v1140
  v1141.toNat
def k0_cond293 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_614 : BitVec 32 := 4#32
  let v949 : BitVec 1 := Scalar.cmpi .ne v2 c4_i32_614
  let v950 : BitVec 32 := Scalar.extui v949
  let c0_i32_615 : BitVec 32 := 0#32
  let v951 : BitVec 1 := Scalar.cmpi .ne v950 c0_i32_615
  v951

def k0_off334 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off335 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev165 : Nat :=
  let c0_i32_751 : BitVec 32 := 0#32
  let c4_i32_749 : BitVec 32 := 4#32
  let c1_i32_750 : BitVec 32 := 1#32
  let v1140 : BitVec 32 := Scalar.muli c4_i32_749 c1_i32_750
  let v1141 : BitVec 32 := Scalar.addi c0_i32_751 v1140
  v1141.toNat
def k0_cond294 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_616 : BitVec 32 := 5#32
  let v952 : BitVec 1 := Scalar.cmpi .ne v2 c5_i32_616
  let v953 : BitVec 32 := Scalar.extui v952
  let c0_i32_617 : BitVec 32 := 0#32
  let v954 : BitVec 1 := Scalar.cmpi .ne v953 c0_i32_617
  v954

def k0_off336 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off337 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev166 : Nat :=
  let c0_i32_751 : BitVec 32 := 0#32
  let c5_i32_749 : BitVec 32 := 5#32
  let c1_i32_750 : BitVec 32 := 1#32
  let v1140 : BitVec 32 := Scalar.muli c5_i32_749 c1_i32_750
  let v1141 : BitVec 32 := Scalar.addi c0_i32_751 v1140
  v1141.toNat
def k0_cond295 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_618 : BitVec 32 := 6#32
  let v955 : BitVec 1 := Scalar.cmpi .ne v2 c6_i32_618
  let v956 : BitVec 32 := Scalar.extui v955
  let c0_i32_619 : BitVec 32 := 0#32
  let v957 : BitVec 1 := Scalar.cmpi .ne v956 c0_i32_619
  v957

def k0_off338 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off339 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev167 : Nat :=
  let c0_i32_751 : BitVec 32 := 0#32
  let c6_i32_749 : BitVec 32 := 6#32
  let c1_i32_750 : BitVec 32 := 1#32
  let v1140 : BitVec 32 := Scalar.muli c6_i32_749 c1_i32_750
  let v1141 : BitVec 32 := Scalar.addi c0_i32_751 v1140
  v1141.toNat
def k0_cond296 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_620 : BitVec 32 := 7#32
  let v958 : BitVec 1 := Scalar.cmpi .ne v2 c7_i32_620
  let v959 : BitVec 32 := Scalar.extui v958
  let c0_i32_621 : BitVec 32 := 0#32
  let v960 : BitVec 1 := Scalar.cmpi .ne v959 c0_i32_621
  v960

def k0_off340 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off341 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev168 : Nat :=
  let c0_i32_751 : BitVec 32 := 0#32
  let c7_i32_749 : BitVec 32 := 7#32
  let c1_i32_750 : BitVec 32 := 1#32
  let v1140 : BitVec 32 := Scalar.muli c7_i32_749 c1_i32_750
  let v1141 : BitVec 32 := Scalar.addi c0_i32_751 v1140
  v1141.toNat
def k0_cond297 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_622 : BitVec 32 := 8#32
  let v961 : BitVec 1 := Scalar.cmpi .ne v2 c8_i32_622
  let v962 : BitVec 32 := Scalar.extui v961
  let c0_i32_623 : BitVec 32 := 0#32
  let v963 : BitVec 1 := Scalar.cmpi .ne v962 c0_i32_623
  v963

def k0_off342 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off343 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev169 : Nat :=
  let c0_i32_751 : BitVec 32 := 0#32
  let c8_i32_749 : BitVec 32 := 8#32
  let c1_i32_750 : BitVec 32 := 1#32
  let v1140 : BitVec 32 := Scalar.muli c8_i32_749 c1_i32_750
  let v1141 : BitVec 32 := Scalar.addi c0_i32_751 v1140
  v1141.toNat
def k0_cond298 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_624 : BitVec 32 := 9#32
  let v964 : BitVec 1 := Scalar.cmpi .ne v2 c9_i32_624
  let v965 : BitVec 32 := Scalar.extui v964
  let c0_i32_625 : BitVec 32 := 0#32
  let v966 : BitVec 1 := Scalar.cmpi .ne v965 c0_i32_625
  v966

def k0_off344 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off345 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev170 : Nat :=
  let c0_i32_751 : BitVec 32 := 0#32
  let c9_i32_749 : BitVec 32 := 9#32
  let c1_i32_750 : BitVec 32 := 1#32
  let v1140 : BitVec 32 := Scalar.muli c9_i32_749 c1_i32_750
  let v1141 : BitVec 32 := Scalar.addi c0_i32_751 v1140
  v1141.toNat
def k0_cond299 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_626 : BitVec 32 := 10#32
  let v967 : BitVec 1 := Scalar.cmpi .ne v2 c10_i32_626
  let v968 : BitVec 32 := Scalar.extui v967
  let c0_i32_627 : BitVec 32 := 0#32
  let v969 : BitVec 1 := Scalar.cmpi .ne v968 c0_i32_627
  v969

def k0_off346 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off347 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev171 : Nat :=
  let c0_i32_751 : BitVec 32 := 0#32
  let c10_i32_749 : BitVec 32 := 10#32
  let c1_i32_750 : BitVec 32 := 1#32
  let v1140 : BitVec 32 := Scalar.muli c10_i32_749 c1_i32_750
  let v1141 : BitVec 32 := Scalar.addi c0_i32_751 v1140
  v1141.toNat
def k0_cond300 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_628 : BitVec 32 := 11#32
  let v970 : BitVec 1 := Scalar.cmpi .ne v2 c11_i32_628
  let v971 : BitVec 32 := Scalar.extui v970
  let c0_i32_629 : BitVec 32 := 0#32
  let v972 : BitVec 1 := Scalar.cmpi .ne v971 c0_i32_629
  v972

def k0_off348 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off349 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev172 : Nat :=
  let c0_i32_751 : BitVec 32 := 0#32
  let c11_i32_749 : BitVec 32 := 11#32
  let c1_i32_750 : BitVec 32 := 1#32
  let v1140 : BitVec 32 := Scalar.muli c11_i32_749 c1_i32_750
  let v1141 : BitVec 32 := Scalar.addi c0_i32_751 v1140
  v1141.toNat
def k0_cond301 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_630 : BitVec 32 := 12#32
  let v973 : BitVec 1 := Scalar.cmpi .ne v2 c12_i32_630
  let v974 : BitVec 32 := Scalar.extui v973
  let c0_i32_631 : BitVec 32 := 0#32
  let v975 : BitVec 1 := Scalar.cmpi .ne v974 c0_i32_631
  v975

def k0_off350 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off351 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev173 : Nat :=
  let c0_i32_751 : BitVec 32 := 0#32
  let c12_i32_749 : BitVec 32 := 12#32
  let c1_i32_750 : BitVec 32 := 1#32
  let v1140 : BitVec 32 := Scalar.muli c12_i32_749 c1_i32_750
  let v1141 : BitVec 32 := Scalar.addi c0_i32_751 v1140
  v1141.toNat
def k0_cond302 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_632 : BitVec 32 := 13#32
  let v976 : BitVec 1 := Scalar.cmpi .ne v2 c13_i32_632
  let v977 : BitVec 32 := Scalar.extui v976
  let c0_i32_633 : BitVec 32 := 0#32
  let v978 : BitVec 1 := Scalar.cmpi .ne v977 c0_i32_633
  v978

def k0_off352 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off353 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev174 : Nat :=
  let c0_i32_751 : BitVec 32 := 0#32
  let c13_i32_749 : BitVec 32 := 13#32
  let c1_i32_750 : BitVec 32 := 1#32
  let v1140 : BitVec 32 := Scalar.muli c13_i32_749 c1_i32_750
  let v1141 : BitVec 32 := Scalar.addi c0_i32_751 v1140
  v1141.toNat
def k0_cond303 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_634 : BitVec 32 := 14#32
  let v979 : BitVec 1 := Scalar.cmpi .ne v2 c14_i32_634
  let v980 : BitVec 32 := Scalar.extui v979
  let c0_i32_635 : BitVec 32 := 0#32
  let v981 : BitVec 1 := Scalar.cmpi .ne v980 c0_i32_635
  v981

def k0_off354 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off355 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev175 : Nat :=
  let c0_i32_751 : BitVec 32 := 0#32
  let c14_i32_749 : BitVec 32 := 14#32
  let c1_i32_750 : BitVec 32 := 1#32
  let v1140 : BitVec 32 := Scalar.muli c14_i32_749 c1_i32_750
  let v1141 : BitVec 32 := Scalar.addi c0_i32_751 v1140
  v1141.toNat
def k0_cond304 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_636 : BitVec 32 := 15#32
  let v982 : BitVec 1 := Scalar.cmpi .ne v2 c15_i32_636
  let v983 : BitVec 32 := Scalar.extui v982
  let c0_i32_637 : BitVec 32 := 0#32
  let v984 : BitVec 1 := Scalar.cmpi .ne v983 c0_i32_637
  v984

def k0_off356 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off357 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev176 : Nat :=
  let c0_i32_751 : BitVec 32 := 0#32
  let c15_i32_749 : BitVec 32 := 15#32
  let c1_i32_750 : BitVec 32 := 1#32
  let v1140 : BitVec 32 := Scalar.muli c15_i32_749 c1_i32_750
  let v1141 : BitVec 32 := Scalar.addi c0_i32_751 v1140
  v1141.toNat
def k0_cond305 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_638 : BitVec 32 := 16#32
  let v985 : BitVec 1 := Scalar.cmpi .ne v2 c16_i32_638
  let v986 : BitVec 32 := Scalar.extui v985
  let c0_i32_639 : BitVec 32 := 0#32
  let v987 : BitVec 1 := Scalar.cmpi .ne v986 c0_i32_639
  v987

def k0_off358 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off359 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev177 : Nat :=
  let c0_i32_751 : BitVec 32 := 0#32
  let c16_i32_749 : BitVec 32 := 16#32
  let c1_i32_750 : BitVec 32 := 1#32
  let v1140 : BitVec 32 := Scalar.muli c16_i32_749 c1_i32_750
  let v1141 : BitVec 32 := Scalar.addi c0_i32_751 v1140
  v1141.toNat
def k0_cond306 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_640 : BitVec 32 := 17#32
  let v988 : BitVec 1 := Scalar.cmpi .ne v2 c17_i32_640
  let v989 : BitVec 32 := Scalar.extui v988
  let c0_i32_641 : BitVec 32 := 0#32
  let v990 : BitVec 1 := Scalar.cmpi .ne v989 c0_i32_641
  v990

def k0_off360 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off361 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev178 : Nat :=
  let c0_i32_751 : BitVec 32 := 0#32
  let c17_i32_749 : BitVec 32 := 17#32
  let c1_i32_750 : BitVec 32 := 1#32
  let v1140 : BitVec 32 := Scalar.muli c17_i32_749 c1_i32_750
  let v1141 : BitVec 32 := Scalar.addi c0_i32_751 v1140
  v1141.toNat
def k0_cond307 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_642 : BitVec 32 := 18#32
  let v991 : BitVec 1 := Scalar.cmpi .ne v2 c18_i32_642
  let v992 : BitVec 32 := Scalar.extui v991
  let c0_i32_643 : BitVec 32 := 0#32
  let v993 : BitVec 1 := Scalar.cmpi .ne v992 c0_i32_643
  v993

def k0_off362 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off363 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev179 : Nat :=
  let c0_i32_751 : BitVec 32 := 0#32
  let c18_i32_749 : BitVec 32 := 18#32
  let c1_i32_750 : BitVec 32 := 1#32
  let v1140 : BitVec 32 := Scalar.muli c18_i32_749 c1_i32_750
  let v1141 : BitVec 32 := Scalar.addi c0_i32_751 v1140
  v1141.toNat
def k0_cond308 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_644 : BitVec 32 := 19#32
  let v994 : BitVec 1 := Scalar.cmpi .ne v2 c19_i32_644
  let v995 : BitVec 32 := Scalar.extui v994
  let c0_i32_645 : BitVec 32 := 0#32
  let v996 : BitVec 1 := Scalar.cmpi .ne v995 c0_i32_645
  v996

def k0_off364 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off365 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev180 : Nat :=
  let c0_i32_751 : BitVec 32 := 0#32
  let c19_i32_749 : BitVec 32 := 19#32
  let c1_i32_750 : BitVec 32 := 1#32
  let v1140 : BitVec 32 := Scalar.muli c19_i32_749 c1_i32_750
  let v1141 : BitVec 32 := Scalar.addi c0_i32_751 v1140
  v1141.toNat
def k0_cond309 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_646 : BitVec 32 := 20#32
  let v997 : BitVec 1 := Scalar.cmpi .ne v2 c20_i32_646
  let v998 : BitVec 32 := Scalar.extui v997
  let c0_i32_647 : BitVec 32 := 0#32
  let v999 : BitVec 1 := Scalar.cmpi .ne v998 c0_i32_647
  v999

def k0_off366 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off367 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev181 : Nat :=
  let c0_i32_751 : BitVec 32 := 0#32
  let c20_i32_749 : BitVec 32 := 20#32
  let c1_i32_750 : BitVec 32 := 1#32
  let v1140 : BitVec 32 := Scalar.muli c20_i32_749 c1_i32_750
  let v1141 : BitVec 32 := Scalar.addi c0_i32_751 v1140
  v1141.toNat
def k0_cond310 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_648 : BitVec 32 := 21#32
  let v1000 : BitVec 1 := Scalar.cmpi .ne v2 c21_i32_648
  let v1001 : BitVec 32 := Scalar.extui v1000
  let c0_i32_649 : BitVec 32 := 0#32
  let v1002 : BitVec 1 := Scalar.cmpi .ne v1001 c0_i32_649
  v1002

def k0_off368 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off369 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev182 : Nat :=
  let c0_i32_751 : BitVec 32 := 0#32
  let c21_i32_749 : BitVec 32 := 21#32
  let c1_i32_750 : BitVec 32 := 1#32
  let v1140 : BitVec 32 := Scalar.muli c21_i32_749 c1_i32_750
  let v1141 : BitVec 32 := Scalar.addi c0_i32_751 v1140
  v1141.toNat
def k0_cond311 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_650 : BitVec 32 := 22#32
  let v1003 : BitVec 1 := Scalar.cmpi .ne v2 c22_i32_650
  let v1004 : BitVec 32 := Scalar.extui v1003
  let c0_i32_651 : BitVec 32 := 0#32
  let v1005 : BitVec 1 := Scalar.cmpi .ne v1004 c0_i32_651
  v1005

def k0_off370 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off371 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev183 : Nat :=
  let c0_i32_751 : BitVec 32 := 0#32
  let c22_i32_749 : BitVec 32 := 22#32
  let c1_i32_750 : BitVec 32 := 1#32
  let v1140 : BitVec 32 := Scalar.muli c22_i32_749 c1_i32_750
  let v1141 : BitVec 32 := Scalar.addi c0_i32_751 v1140
  v1141.toNat
def k0_cond312 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_652 : BitVec 32 := 23#32
  let v1006 : BitVec 1 := Scalar.cmpi .ne v2 c23_i32_652
  let v1007 : BitVec 32 := Scalar.extui v1006
  let c0_i32_653 : BitVec 32 := 0#32
  let v1008 : BitVec 1 := Scalar.cmpi .ne v1007 c0_i32_653
  v1008

def k0_off372 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off373 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev184 : Nat :=
  let c0_i32_751 : BitVec 32 := 0#32
  let c23_i32_749 : BitVec 32 := 23#32
  let c1_i32_750 : BitVec 32 := 1#32
  let v1140 : BitVec 32 := Scalar.muli c23_i32_749 c1_i32_750
  let v1141 : BitVec 32 := Scalar.addi c0_i32_751 v1140
  v1141.toNat
def k0_cond313 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_654 : BitVec 32 := 24#32
  let v1009 : BitVec 1 := Scalar.cmpi .ne v2 c24_i32_654
  let v1010 : BitVec 32 := Scalar.extui v1009
  let c0_i32_655 : BitVec 32 := 0#32
  let v1011 : BitVec 1 := Scalar.cmpi .ne v1010 c0_i32_655
  v1011

def k0_off374 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off375 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev185 : Nat :=
  let c0_i32_751 : BitVec 32 := 0#32
  let c24_i32_749 : BitVec 32 := 24#32
  let c1_i32_750 : BitVec 32 := 1#32
  let v1140 : BitVec 32 := Scalar.muli c24_i32_749 c1_i32_750
  let v1141 : BitVec 32 := Scalar.addi c0_i32_751 v1140
  v1141.toNat
def k0_cond314 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_656 : BitVec 32 := 25#32
  let v1012 : BitVec 1 := Scalar.cmpi .ne v2 c25_i32_656
  let v1013 : BitVec 32 := Scalar.extui v1012
  let c0_i32_657 : BitVec 32 := 0#32
  let v1014 : BitVec 1 := Scalar.cmpi .ne v1013 c0_i32_657
  v1014

def k0_off376 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off377 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev186 : Nat :=
  let c0_i32_751 : BitVec 32 := 0#32
  let c25_i32_749 : BitVec 32 := 25#32
  let c1_i32_750 : BitVec 32 := 1#32
  let v1140 : BitVec 32 := Scalar.muli c25_i32_749 c1_i32_750
  let v1141 : BitVec 32 := Scalar.addi c0_i32_751 v1140
  v1141.toNat
def k0_cond315 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_658 : BitVec 32 := 26#32
  let v1015 : BitVec 1 := Scalar.cmpi .ne v2 c26_i32_658
  let v1016 : BitVec 32 := Scalar.extui v1015
  let c0_i32_659 : BitVec 32 := 0#32
  let v1017 : BitVec 1 := Scalar.cmpi .ne v1016 c0_i32_659
  v1017

def k0_off378 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off379 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev187 : Nat :=
  let c0_i32_751 : BitVec 32 := 0#32
  let c26_i32_749 : BitVec 32 := 26#32
  let c1_i32_750 : BitVec 32 := 1#32
  let v1140 : BitVec 32 := Scalar.muli c26_i32_749 c1_i32_750
  let v1141 : BitVec 32 := Scalar.addi c0_i32_751 v1140
  v1141.toNat
def k0_cond316 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_660 : BitVec 32 := 27#32
  let v1018 : BitVec 1 := Scalar.cmpi .ne v2 c27_i32_660
  let v1019 : BitVec 32 := Scalar.extui v1018
  let c0_i32_661 : BitVec 32 := 0#32
  let v1020 : BitVec 1 := Scalar.cmpi .ne v1019 c0_i32_661
  v1020

def k0_off380 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off381 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev188 : Nat :=
  let c0_i32_751 : BitVec 32 := 0#32
  let c27_i32_749 : BitVec 32 := 27#32
  let c1_i32_750 : BitVec 32 := 1#32
  let v1140 : BitVec 32 := Scalar.muli c27_i32_749 c1_i32_750
  let v1141 : BitVec 32 := Scalar.addi c0_i32_751 v1140
  v1141.toNat
def k0_cond317 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_662 : BitVec 32 := 28#32
  let v1021 : BitVec 1 := Scalar.cmpi .ne v2 c28_i32_662
  let v1022 : BitVec 32 := Scalar.extui v1021
  let c0_i32_663 : BitVec 32 := 0#32
  let v1023 : BitVec 1 := Scalar.cmpi .ne v1022 c0_i32_663
  v1023

def k0_off382 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off383 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev189 : Nat :=
  let c0_i32_751 : BitVec 32 := 0#32
  let c28_i32_749 : BitVec 32 := 28#32
  let c1_i32_750 : BitVec 32 := 1#32
  let v1140 : BitVec 32 := Scalar.muli c28_i32_749 c1_i32_750
  let v1141 : BitVec 32 := Scalar.addi c0_i32_751 v1140
  v1141.toNat
def k0_cond318 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_664 : BitVec 32 := 29#32
  let v1024 : BitVec 1 := Scalar.cmpi .ne v2 c29_i32_664
  let v1025 : BitVec 32 := Scalar.extui v1024
  let c0_i32_665 : BitVec 32 := 0#32
  let v1026 : BitVec 1 := Scalar.cmpi .ne v1025 c0_i32_665
  v1026

def k0_off384 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off385 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev190 : Nat :=
  let c0_i32_751 : BitVec 32 := 0#32
  let c29_i32_749 : BitVec 32 := 29#32
  let c1_i32_750 : BitVec 32 := 1#32
  let v1140 : BitVec 32 := Scalar.muli c29_i32_749 c1_i32_750
  let v1141 : BitVec 32 := Scalar.addi c0_i32_751 v1140
  v1141.toNat
def k0_cond319 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_666 : BitVec 32 := 30#32
  let v1027 : BitVec 1 := Scalar.cmpi .ne v2 c30_i32_666
  let v1028 : BitVec 32 := Scalar.extui v1027
  let c0_i32_667 : BitVec 32 := 0#32
  let v1029 : BitVec 1 := Scalar.cmpi .ne v1028 c0_i32_667
  v1029

def k0_off386 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off387 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev191 : Nat :=
  let c0_i32_751 : BitVec 32 := 0#32
  let c30_i32_749 : BitVec 32 := 30#32
  let c1_i32_750 : BitVec 32 := 1#32
  let v1140 : BitVec 32 := Scalar.muli c30_i32_749 c1_i32_750
  let v1141 : BitVec 32 := Scalar.addi c0_i32_751 v1140
  v1141.toNat
def k0_cond320 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_668 : BitVec 32 := 31#32
  let v1030 : BitVec 1 := Scalar.cmpi .ne v2 c31_i32_668
  let v1031 : BitVec 32 := Scalar.extui v1030
  let c0_i32_669 : BitVec 32 := 0#32
  let v1032 : BitVec 1 := Scalar.cmpi .ne v1031 c0_i32_669
  v1032

def k0_off388 (d0 : Dev nD) : Fin 2 → Nat :=
  let c2_i32_746 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![2, v2.toNat]
def k0_off389 (d0 : Dev nD) : Fin 4 → Nat :=
  let c2_i32_745 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_752 : BitVec 32 := 0#32
  let c0_i32_753 : BitVec 32 := 0#32
  ![2, v2.toNat, 0, 0]
def k0_dev192 : Nat :=
  let c0_i32_751 : BitVec 32 := 0#32
  let c31_i32_749 : BitVec 32 := 31#32
  let c1_i32_750 : BitVec 32 := 1#32
  let v1140 : BitVec 32 := Scalar.muli c31_i32_749 c1_i32_750
  let v1141 : BitVec 32 := Scalar.addi c0_i32_751 v1140
  v1141.toNat
def k0_off390 (d0 : Dev nD) : Fin 4 → Nat :=
  let c2 : Index := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1036 : Index := Scalar.indexCast v2
  let c0_672 : Index := 0#32
  let c0_673 : Index := 0#32
  ![2, v1036.toNat, 0, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x16384 : Shape := ⟨2, ![256, 16384]⟩
abbrev S16384x256 : Shape := ⟨2, ![16384, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x16384, .f32⟩
  | .hbm, ⟨2, _⟩ => ⟨S16384x256, .f32⟩
  | .hbm, ⟨3, _⟩ => ⟨S256x16384, .f32⟩
  | .hbm, ⟨4, _⟩ => ⟨S16384x256, .f32⟩
  | .hbm, ⟨5, _⟩ => ⟨S256x16384, .f32⟩
  | .hbm, ⟨6, _⟩ => ⟨S16384x256, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x256, .f32⟩
  | .hbm, ⟨12, _⟩ => ⟨S256x16384, .f32⟩
  | .hbm, ⟨13, _⟩ => ⟨S_, .f32⟩
  | .hbm, ⟨14, _⟩ => ⟨S256x16384, .f32⟩
  | .hbm, ⟨15, _⟩ => ⟨S256x16384, .f32⟩
  | .hbm, ⟨16, _⟩ => ⟨S256x256, .f32⟩
  | .hbm, ⟨17, _⟩ => ⟨S256x16384, .f32⟩
  | .hbm, ⟨18, _⟩ => ⟨S_, .f32⟩
  | .hbm, ⟨19, _⟩ => ⟨S256x16384, .f32⟩
  | .hbm, ⟨20, _⟩ => ⟨S256x16384, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Steps.lean ====
/-
# The kernel's body as loops over the devices

The kernel runs, for every device other than its own, the same step: a signal, a transfer, a pair of waits. This module
names each kind of step at a symbolic layer `l` and peer `j`, and shows (`body_eq`) that the printed body is the sequence
of those loops with the loads and stores between them.
-/
module

public import proofs.«01_k».proof.Proof.Gen.KernelIdeal.Skeleton

@[expose] public section

set_option synthInstance.maxSize 4096

noncomputable section

namespace Cert.KernelIdeal.Mlp

open Cert.KernelIdeal Cert.KernelIdeal.Gen
open Idealize.ShloMosaic Idealize.SL.Sem
open Idealize.ShloMosaic.TcCoe

variable {F : FTy → Type} [FloatOps F]

/-! ## The buffers -/

abbrev xM : Memref sig .tc .vmem S256x256 .f32 := Memref.whole cc0_stg0_0
abbrev wi0M : Memref sig .tc .vmem S256x512 .f32 := Memref.whole cc0_stg1_0
abbrev wo0M : Memref sig .tc .vmem S512x256 .f32 := Memref.whole cc0_stg2_0
abbrev wi1M : Memref sig .tc .vmem S256x512 .f32 := Memref.whole cc0_stg3_0
abbrev wo1M : Memref sig .tc .vmem S512x256 .f32 := Memref.whole cc0_stg4_0
abbrev wi2M : Memref sig .tc .vmem S256x512 .f32 := Memref.whole cc0_stg5_0
abbrev wo2M : Memref sig .tc .vmem S512x256 .f32 := Memref.whole cc0_stg6_0
abbrev outM : Memref sig .tc .vmem S8x256 .f32 := Memref.whole cc0_stg7_0
abbrev accM : Memref sig .tc .vmem S256x256 .f32 := Memref.whole cc0_scratch0
abbrev rsM : Memref sig .tc .vmem S3x32x8x256 .f32 := Memref.whole cc0_scratch1
abbrev agM : Memref sig .tc .vmem S2x32x8x256 .f32 := Memref.whole cc0_scratch2
abbrev barS : Sems sig S_ := SemArray.scalar (sig.barrier 0 rfl)

/-- A function of the body's arguments, at the buffers the launch passes. -/
abbrev onArgs {α : Sort _}
    (f : (a0 : Memref sig .tc .vmem S256x256 .f32) → a0.IsWhole → (a1 : Memref sig .tc .vmem S256x512 .f32) → a1.IsWhole
      → (a2 : Memref sig .tc .vmem S512x256 .f32) → a2.IsWhole → (a3 : Memref sig .tc .vmem S256x512 .f32) → a3.IsWhole
      → (a4 : Memref sig .tc .vmem S512x256 .f32) → a4.IsWhole → (a5 : Memref sig .tc .vmem S256x512 .f32) → a5.IsWhole
      → (a6 : Memref sig .tc .vmem S512x256 .f32) → a6.IsWhole → (a7 : Memref sig .tc .vmem S8x256 .f32) → a7.IsWhole
      → (a8 : Memref sig .tc .vmem S256x256 .f32) → a8.IsWhole → (a9 : Memref sig .tc .vmem S3x32x8x256 .f32) → a9.IsWhole
      → (a10 : Memref sig .tc .vmem S2x32x8x256 .f32) → a10.IsWhole
      → DmaSems sig S3x32 → DmaSems sig S3x32 → DmaSems sig S2x32 → DmaSems sig S2x32 → α) : α :=
  f xM (Memref.isWhole_whole _) wi0M (Memref.isWhole_whole _) wo0M (Memref.isWhole_whole _) wi1M (Memref.isWhole_whole _)
    wo1M (Memref.isWhole_whole _) wi2M (Memref.isWhole_whole _) wo2M (Memref.isWhole_whole _) outM (Memref.isWhole_whole _)
    accM (Memref.isWhole_whole _) rsM (Memref.isWhole_whole _) agM (Memref.isWhole_whole _)
    cc0_scratch3 cc0_scratch4 cc0_scratch5 cc0_scratch6

/-! ## A device's own number, and whether a peer is another device -/

/-- The device's own number, as the kernel computes it. -/
def my (c : Dev nD) : BitVec 32 := Scalar.remsi (Scalar.divsi (Dev.word c) 1#32) 32#32

theorem my_toNat : ∀ c : Dev nD, (my c).toNat = c.val := by decide +kernel
theorem my_lt (c : Dev nD) : (my c).toNat < 32 := by rw [my_toNat]; exact c.isLt

/-- The condition under which the kernel runs peer `j`'s step. -/
def other (c : Dev nD) (j : Fin 32) : BitVec 1 := Scalar.cmpi .ne (Scalar.extui (Scalar.cmpi .ne (my c) (BitVec.ofNat 32 j.val)) : BitVec 32) 0#32

theorem other_iff : ∀ (c : Dev nD) (j : Fin 32), Iff (other c j = 1#1) (j ≠ c) := by decide +kernel

/-! ## The slots and their semaphores -/

theorem rs_inb (l : Fin 3) (o : Nat) (h : o < 32) : ∀ a, (![l.val, o, 0, 0] : Fin 4 → Nat) a + S1x1x8x256.size a ≤ S3x32x8x256.size a := by
  have := l.isLt
  intro a; fin_cases a <;> simp <;> omega
theorem ag_inb (l : Fin 2) (o : Nat) (h : o < 32) : ∀ a, (![l.val, o, 0, 0] : Fin 4 → Nat) a + S1x1x8x256.size a ≤ S2x32x8x256.size a := by
  have := l.isLt
  intro a; fin_cases a <;> simp <;> omega
theorem acc_inb (j : Fin 32) : ∀ a, (![8 * j.val, 0] : Fin 2 → Nat) a + S8x256.size a ≤ S256x256.size a := by
  have := j.isLt
  intro a; fin_cases a <;> simp <;> omega
theorem sem3_inb (l : Fin 3) (o : Nat) (h : o < 32) : ∀ a, (![l.val, o] : Fin 2 → Nat) a + S1x1.size a ≤ S3x32.size a := by
  have := l.isLt
  intro a; fin_cases a <;> simp <;> omega
theorem sem2_inb (l : Fin 2) (o : Nat) (h : o < 32) : ∀ a, (![l.val, o] : Fin 2 → Nat) a + S1x1.size a ≤ S2x32.size a := by
  have := l.isLt
  intro a; fin_cases a <;> simp <;> omega

/-- The landing slot of layer `l`'s partial sums from device `o`. -/
abbrev rsSlot (l : Fin 3) (o : Nat) (h : o < 32) : Memref sig .tc .vmem S8x256 .f32 :=
  (rsM.slice (Rect.unit (s := S3x32x8x256) ![l.val, o, 0, 0] S1x1x8x256.size (rs_inb l o h)) (fun _ => rfl)).squeeze S8x256 squeezes_S1x1x8x256_S8x256
/-- The slot of layer `l`'s summed rows of device `o`. -/
abbrev agSlot (l : Fin 2) (o : Nat) (h : o < 32) : Memref sig .tc .vmem S8x256 .f32 :=
  (agM.slice (Rect.unit (s := S2x32x8x256) ![l.val, o, 0, 0] S1x1x8x256.size (ag_inb l o h)) (fun _ => rfl)).squeeze S8x256 squeezes_S1x1x8x256_S8x256
/-- The rows of the partial sums that go to device `j`. -/
abbrev accRows (j : Fin 32) : Memref sig .tc .vmem S8x256 .f32 :=
  accM.slice (Rect.unit (s := S256x256) ![8 * j.val, 0] S8x256.size (acc_inb j)) (fun _ => rfl)

abbrev sem3 (a : DmaSems sig S3x32) (l : Fin 3) (o : Nat) (h : o < 32) : DmaSem sig :=
  ((a.slice (Rect.unit (s := S3x32) ![l.val, o] S1x1.size (sem3_inb l o h))).squeeze S_ squeezes_S1x1_S_).sem
abbrev sem2 (a : DmaSems sig S2x32) (l : Fin 2) (o : Nat) (h : o < 32) : DmaSem sig :=
  ((a.slice (Rect.unit (s := S2x32) ![l.val, o] S1x1.size (sem2_inb l o h))).squeeze S_ squeezes_S1x1_S_).sem

/-! ## The steps -/

abbrev KProg (F : FTy → Type) (α : Type) := Prog (TpuEff nD τ sig (Elt F) Λ₀ .tc) α

/-- Announce to device `j` that this device has entered the kernel. -/
def sigStep (c : Dev nD) (j : Fin 32) : KProg F PUnit :=
  if h : other c j = 1#1 then semSignalWord (j : Dev nD) barS.sem 1#32
  else pure ⟨⟩

/-- Send device `j` its rows of this device's partial sums; `o` is this device's number. -/
def rsSendAt (l : Fin 3) (j : Fin 32) (o : Nat) (ho : o < 32) : KProg F PUnit :=
  Prog.lift (.enqueueDma (accRows j) (.remote (Dev.tc (j : Dev nD)) (rsSlot l o ho) (.dma (sem3 cc0_scratch3 l j.val j.isLt)))
    (.dma (sem3 cc0_scratch4 l o ho)) (View.wordExact_bits rfl) ((View.wordExact_bits rfl).reshape _ _) ⟨⟨rfl, Or.inl rfl⟩, trivial⟩)
def rsSend (c : Dev nD) (l : Fin 3) (j : Fin 32) : KProg F PUnit :=
  if h : other c j = 1#1 then rsSendAt l j (my c).toNat (my_lt c)
  else pure ⟨⟩

/-- Wait for device `j`'s partial sums, then for this device's transfer to `j` to be read out. -/
def rsWait (c : Dev nD) (l : Fin 3) (j : Fin 32) : KProg F PUnit :=
  if h : other c j = 1#1 then do
    Prog.lift (.waitDma2 (sem3 cc0_scratch4 l j.val j.isLt) (accRows j) (rsSlot l j.val j.isLt) (View.wordExact_bits rfl) ((View.wordExact_bits rfl).reshape _ _))
    Prog.lift (.waitDma2 (sem3 cc0_scratch3 l j.val j.isLt) (rsSlot l j.val j.isLt) (accRows j) ((View.wordExact_bits rfl).reshape _ _) (View.wordExact_bits rfl))
  else pure ⟨⟩

/-- Send device `j` this device's summed rows; `o` is this device's number. -/
def agSendAt (l : Fin 2) (j : Fin 32) (o : Nat) (ho : o < 32) : KProg F PUnit :=
  Prog.lift (.enqueueDma (agSlot l o ho) (.remote (Dev.tc (j : Dev nD)) (agSlot l o ho) (.dma (sem2 cc0_scratch5 l j.val j.isLt)))
    (.dma (sem2 cc0_scratch6 l o ho)) ((View.wordExact_bits rfl).reshape _ _) ((View.wordExact_bits rfl).reshape _ _) ⟨⟨rfl, Or.inl rfl⟩, trivial⟩)
def agSend (c : Dev nD) (l : Fin 2) (j : Fin 32) : KProg F PUnit :=
  if h : other c j = 1#1 then agSendAt l j (my c).toNat (my_lt c)
  else pure ⟨⟩

/-- Wait for device `j`'s summed rows, then for this device's transfer to `j` to be read out; `o` is this device's number. -/
def agWaitAt (l : Fin 2) (j : Fin 32) (o : Nat) (ho : o < 32) : KProg F PUnit := do
  Prog.lift (.waitDma2 (sem2 cc0_scratch6 l j.val j.isLt) (agSlot l o ho) (agSlot l j.val j.isLt) ((View.wordExact_bits rfl).reshape _ _) ((View.wordExact_bits rfl).reshape _ _))
  Prog.lift (.waitDma2 (sem2 cc0_scratch5 l j.val j.isLt) (agSlot l j.val j.isLt) (agSlot l o ho) ((View.wordExact_bits rfl).reshape _ _) ((View.wordExact_bits rfl).reshape _ _))
def agWait (c : Dev nD) (l : Fin 2) (j : Fin 32) : KProg F PUnit :=
  if h : other c j = 1#1 then agWaitAt l j (my c).toNat (my_lt c)
  else pure ⟨⟩

/-! ## Loops -/

/-- `n` device numbers from `a` on. -/
def rng (a : Nat) : Nat → List (Fin 32)
  | 0 => []
  | n + 1 => Fin.ofNat 32 a :: rng (a + 1) n

/-- The steps of the listed peers, then `k`. -/
def seqs {α : Type} (l : List (Fin 32)) (st : Fin 32 → KProg F PUnit) (k : KProg F α) : KProg F α :=
  l.foldr (fun j p => st j >>= fun _ => p) k

/-! ## Loads and stores between the loops -/

abbrev rSq : Rect S256x256 := Rect.unit (s := S256x256) ![0, 0] S256x256.size inb_S256x256_S256x256_0_0
abbrev rWi : Rect S256x512 := Rect.unit (s := S256x512) ![0, 0] S256x512.size inb_S256x512_S256x512_0_0
abbrev rWo : Rect S512x256 := Rect.unit (s := S512x256) ![0, 0] S512x256.size inb_S512x256_S512x256_0_0
abbrev rOut : Rect S8x256 := Rect.unit (s := S8x256) ![0, 0] S8x256.size inb_S8x256_S8x256_0_0

theorem mine_inb (o : Nat) (h : o < 32) : ∀ a, (![(Scalar.muli (BitVec.ofNat 32 o) 8#32 : BitVec 32).toNat, 0] : Fin 2 → Nat) a + S8x256.size a ≤ S256x256.size a := by
  revert o; decide +kernel

theorem rsRow_inb (l : Fin 3) : ∀ a, (![l.val, 0, 0, 0] : Fin 4 → Nat) a + S1x32x8x256.size a ≤ S3x32x8x256.size a := by
  have := l.isLt
  intro a; fin_cases a <;> simp <;> omega
theorem agRow_inb (l : Fin 2) : ∀ a, (![l.val, 0, 0, 0] : Fin 4 → Nat) a + S1x32x8x256.size a ≤ S2x32x8x256.size a := by
  have := l.isLt
  intro a; fin_cases a <;> simp <;> omega

/-- The whole accumulator stored with `p`. -/
def storeAcc (p : FVec F S256x256 .f32) : KProg F PUnit := do
  let _ : Vec F S256x256 .f32 ← Prog.lift (.load accM rSq.toLoadRect (View.loadsAt_vmem h_S256x256))
  Prog.lift (.store accM rSq p Finset.univ (View.stores_vmem_bits_univ h_S256x256 rfl) (.inl rfl))

def acc0 : KProg F PUnit := do
  let x : Vec F S256x256 .f32 ← Prog.lift (.load xM rSq.toLoadRect (View.loadsAt_vmem h_S256x256))
  let wi : Vec F S256x512 .f32 ← Prog.lift (.load wi0M rWi.toLoadRect (View.loadsAt_vmem h_S256x512))
  let wo : Vec F S512x256 .f32 ← Prog.lift (.load wo0M rWo.toLoadRect (View.loadsAt_vmem h_S512x256))
  storeAcc (k0_pay2 x wi wo)

abbrev agRow (l : Fin 2) : Rect S2x32x8x256 := Rect.unit (s := S2x32x8x256) ![l.val, 0, 0, 0] S1x32x8x256.size (agRow_inb l)
abbrev rsRow (l : Fin 3) : Rect S3x32x8x256 := Rect.unit (s := S3x32x8x256) ![l.val, 0, 0, 0] S1x32x8x256.size (rsRow_inb l)

def acc1 : KProg F PUnit := do
  let x : Vec F S1x32x8x256 .f32 ← Prog.lift (.load agM (agRow 0).toLoadRect (View.loadsAt_vmem h_S1x32x8x256))
  let wi : Vec F S256x512 .f32 ← Prog.lift (.load wi1M rWi.toLoadRect (View.loadsAt_vmem h_S256x512))
  let wo : Vec F S512x256 .f32 ← Prog.lift (.load wo1M rWo.toLoadRect (View.loadsAt_vmem h_S512x256))
  storeAcc (k0_pay5 x wi wo)

def acc2In : KProg F (FVec F S256x256 .f32 × FVec F S256x512 .f32) := do
  let x : Vec F S1x32x8x256 .f32 ← Prog.lift (.load agM (agRow 1).toLoadRect (View.loadsAt_vmem h_S1x32x8x256))
  let wi : Vec F S256x512 .f32 ← Prog.lift (.load wi2M rWi.toLoadRect (View.loadsAt_vmem h_S256x512))
  pure (k0_pay8 x, k0_pay9 wi)
def acc2Out (x : FVec F S256x256 .f32) (wi : FVec F S256x512 .f32) : KProg F PUnit := do
  let wo : Vec F S512x256 .f32 ← Prog.lift (.load wo2M rWo.toLoadRect (View.loadsAt_vmem h_S512x256))
  storeAcc (k0_pay10 x wi wo)

abbrev rsMine (l : Fin 3) (o : Nat) (h : o < 32) : Rect S3x32x8x256 := Rect.unit (s := S3x32x8x256) ![l.val, o, 0, 0] S1x1x8x256.size (rs_inb l o h)
abbrev agMine (l : Fin 2) (o : Nat) (h : o < 32) : Rect S2x32x8x256 := Rect.unit (s := S2x32x8x256) ![l.val, o, 0, 0] S1x1x8x256.size (ag_inb l o h)

/-- The device's own rows of its partial sums copied into its own landing slot. -/
def keep (c : Dev nD) (l : Fin 3) : KProg F PUnit := do
  let v : Vec F S8x256 .f32 ← Prog.lift (.load accM (Rect.unit (s := S256x256) (k0_off65 c) S8x256.size (k0_off65_inb c)).toLoadRect (View.loadsAt_vmem h_S8x256))
  let _ : Vec F S1x1x8x256 .f32 ← Prog.lift (.load rsM (rsMine l (my c).toNat (my_lt c)).toLoadRect (View.loadsAt_vmem h_S1x1x8x256))
  Prog.lift (.store rsM (rsMine l (my c).toNat (my_lt c)) (k0_pay3 v) Finset.univ (View.stores_vmem_bits_univ h_S1x1x8x256 rfl) (.inl rfl))

/-- The landed partial sums added up into the device's own slot of summed rows. -/
def reduce (c : Dev nD) (l : Fin 2) : KProg F PUnit := do
  let v : Vec F S1x32x8x256 .f32 ← Prog.lift (.load rsM (rsRow (l.castLT (by omega))).toLoadRect (View.loadsAt_vmem h_S1x32x8x256))
  let _ : Vec F S1x1x8x256 .f32 ← Prog.lift (.load agM (agMine l (my c).toNat (my_lt c)).toLoadRect (View.loadsAt_vmem h_S1x1x8x256))
  Prog.lift (.store agM (agMine l (my c).toNat (my_lt c)) (k0_pay4 v) Finset.univ (View.stores_vmem_bits_univ h_S1x1x8x256 rfl) (.inl rfl))

/-- The last layer's landed partial sums, ready to be added up. -/
def finishIn : KProg F (FVec F S32x8x256 .f32) := do
  let v : Vec F S1x32x8x256 .f32 ← Prog.lift (.load rsM (rsRow 2).toLoadRect (View.loadsAt_vmem h_S1x32x8x256))
  pure (k0_pay12 v)
/-- The last layer's partial sums added up into the result. -/
def finishOut (v : FVec F S32x8x256 .f32) : KProg F PUnit := do
  let _ : Vec F S8x256 .f32 ← Prog.lift (.load outM rOut.toLoadRect (View.loadsAt_vmem h_S8x256))
  Prog.lift (.store outM rOut (k0_pay1 v) Finset.univ (View.stores_vmem_bits_univ h_S8x256 rfl) (.inl rfl))

end Cert.KernelIdeal.Mlp

end
-- ==== Proof.KernelIdeal.Slots.lean ====
/-
# The pieces of the scratch buffers

The accumulator is cut into 32 blocks of 8 rows, one per device. The landing buffer of partial sums holds, per layer, one
slot per device; so does the buffer of summed rows. This module names the pieces as sets of indices, says which elements a
transfer's source and destination are, and cuts a buffer into its pieces.
-/
module

public import proofs.«01_k».proof.Proof.KernelIdeal.Steps
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Pipeline.ValueKit.Geometry
public import Idealize.ShloMosaic.Lib.Tactic

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## Sets of indices -/

/-- The accumulator's rows for device `j`. -/
def accSet (j : Fin 32) : Finset S256x256.Idx := Finset.univ.filter fun i => (i 0).val / 8 = j.val
/-- Layer `l` of the landing buffer, and device `j`'s slot in it. -/
def rsLayer (l : Fin 3) : Finset S3x32x8x256.Idx := Finset.univ.filter fun i => (i 0).val = l.val
def rsSet (l : Fin 3) (j : Fin 32) : Finset S3x32x8x256.Idx := (rsLayer l).filter fun i => (i 1).val = j.val
/-- Layer `l` of the buffer of summed rows, and device `j`'s slot in it. -/
def agLayer (l : Fin 2) : Finset S2x32x8x256.Idx := Finset.univ.filter fun i => (i 0).val = l.val
def agSet (l : Fin 2) (j : Fin 32) : Finset S2x32x8x256.Idx := (agLayer l).filter fun i => (i 1).val = j.val

theorem slot_reshape (h : S8x256.numel = S1x1x8x256.numel) (x : S8x256.Idx) :
    Shape.reshapeEquiv h x = (ix4 0 0 (x 0) (x 1) : S1x1x8x256.Idx) :=
  (congrArg (Shape.reshapeEquiv h) (eq_ix2 (n0 := 8) (n1 := 256) x)).trans (reshapeEquiv_ix2_11ab h (x 0) (x 1))

theorem rsSlot_emb (l : Fin 3) (o : Nat) (h : o < 32) (x : S8x256.Idx) :
    (rsSlot l o h).view.emb x = (ix4 l ⟨o, h⟩ (x 0) (x 1) : S3x32x8x256.Idx) := by
  show (Rect.unit (s := S3x32x8x256) ![l.val, o, 0, 0] S1x1x8x256.size (rs_inb l o h)).emb (Shape.reshapeEquiv _ x) = _
  rw [slot_reshape]
  funext a
  refine Fin.ext ?_
  rw [ValueKit.rect_emb_unit_val]
  fin_cases a <;> simp

theorem agSlot_emb (l : Fin 2) (o : Nat) (h : o < 32) (x : S8x256.Idx) :
    (agSlot l o h).view.emb x = (ix4 l ⟨o, h⟩ (x 0) (x 1) : S2x32x8x256.Idx) := by
  show (Rect.unit (s := S2x32x8x256) ![l.val, o, 0, 0] S1x1x8x256.size (ag_inb l o h)).emb (Shape.reshapeEquiv _ x) = _
  rw [slot_reshape]
  funext a
  refine Fin.ext ?_
  rw [ValueKit.rect_emb_unit_val]
  fin_cases a <;> simp

theorem row_lt (j : Fin 32) (r : Fin 8) : 8 * j.val + r.val < 256 := by have := j.isLt; have := r.isLt; omega
/-- Row `r` of device `j`'s rows of a 256-row array. -/
def rowOf (j : Fin 32) (r : Fin 8) : Fin 256 := ⟨8 * j.val + r.val, row_lt j r⟩

theorem accRows_emb (j : Fin 32) (x : S8x256.Idx) :
    (accRows j).view.emb x = (ix2 (rowOf j (x 0)) (x 1) : S256x256.Idx) := by
  show (Rect.unit (s := S256x256) ![8 * j.val, 0] S8x256.size (acc_inb j)).emb x = _
  funext a
  refine Fin.ext ?_
  rw [ValueKit.rect_emb_unit_val]
  fin_cases a <;> simp [rowOf]

theorem accRows_set (j : Fin 32) : (accRows j).view.set = accSet j := by
  ext i
  unfold View.set accSet
  rw [Finset.mem_map, Finset.mem_filter]
  constructor
  · rintro ⟨x, -, rfl⟩
    have h := (x 0).isLt
    refine ⟨Finset.mem_univ _, ?_⟩
    rw [accRows_emb]
    show (8 * j.val + (x 0).val) / 8 = j.val
    have : (x 0).val < 8 := h
    omega
  · rintro ⟨-, hi⟩
    have h0 : (i 0).val < 256 := (i 0).isLt
    refine ⟨ix2 ⟨(i 0).val % 8, Nat.mod_lt _ (by decide)⟩ (i 1), Finset.mem_univ _, ?_⟩
    rw [accRows_emb, eq_ix2 (n0 := 256) (n1 := 256) i]
    congr 1
    refine Fin.ext ?_
    show 8 * j.val + (i 0).val % 8 = (i 0).val
    omega

theorem rsSlot_set (l : Fin 3) (o : Nat) (h : o < 32) : (rsSlot l o h).view.set = rsSet l ⟨o, h⟩ := by
  ext i
  unfold View.set rsSet rsLayer
  rw [Finset.mem_map, Finset.mem_filter, Finset.mem_filter]
  constructor
  · rintro ⟨x, -, rfl⟩
    rw [rsSlot_emb]
    exact ⟨⟨Finset.mem_univ _, rfl⟩, rfl⟩
  · rintro ⟨⟨-, h0⟩, h1⟩
    refine ⟨ix2 (i 2) (i 3), Finset.mem_univ _, ?_⟩
    rw [rsSlot_emb, eq_ix4 (n0 := 3) (n1 := 32) (n2 := 8) (n3 := 256) i]
    congr 1
    · exact Fin.ext h0.symm
    · exact Fin.ext h1.symm

theorem agSlot_set (l : Fin 2) (o : Nat) (h : o < 32) : (agSlot l o h).view.set = agSet l ⟨o, h⟩ := by
  ext i
  unfold View.set agSet agLayer
  rw [Finset.mem_map, Finset.mem_filter, Finset.mem_filter]
  constructor
  · rintro ⟨x, -, rfl⟩
    rw [agSlot_emb]
    exact ⟨⟨Finset.mem_univ _, rfl⟩, rfl⟩
  · rintro ⟨⟨-, h0⟩, h1⟩
    refine ⟨ix2 (i 2) (i 3), Finset.mem_univ _, ?_⟩
    rw [agSlot_emb, eq_ix4 (n0 := 2) (n1 := 32) (n2 := 8) (n3 := 256) i]
    congr 1
    · exact Fin.ext h0.symm
    · exact Fin.ext h1.symm

/-! ## A buffer cut into pieces -/

abbrev UB : Type := URounds (GSem nD τ sig) (Fin 32)
abbrev UU : Type := UR sig nD τ × UB
local notation "𝕄" => MT nD τ sig Unit (Elt F) ℕ UU ℕ

/-- A buffer over a set of indices that is covered by disjoint pieces, one per `t`, is the pieces side by side. -/
theorem pointsTo_cut {T : Type} [Fintype T] {ℓ : Loc nD τ sig} {q : PosShare TreeShare} {f : Buf (Elt F) ℓ}
    (S : Finset (Idx ℓ)) (K : T → Finset (Idx ℓ)) (hS : ∀ i, i ∈ S ↔ ∃ t, i ∈ K t)
    (hK : ∀ i t t', i ∈ K t → i ∈ K t' → t = t') :
    (ℓ ↦[S]{q} f : sProp 𝕄) = bigSep Finset.univ fun t => ℓ ↦[K t]{q} f := by
  classical
  have h : S = Finset.univ.biUnion K := by
    ext i
    rw [hS, Finset.mem_biUnion]
    simp
  rw [h]
  exact pointsTo_biUnion Finset.univ K fun t _ t' _ hne =>
    Finset.disjoint_left.mpr fun i hi hi' => hne (hK i t t' hi hi')

abbrev accLoc (c : Dev nD) : Loc nD τ sig := (c : Thread nD τ).loc cc0_scratch0
abbrev rsLoc (c : Dev nD) : Loc nD τ sig := (c : Thread nD τ).loc cc0_scratch1
abbrev agLoc (c : Dev nD) : Loc nD τ sig := (c : Thread nD τ).loc cc0_scratch2

theorem acc_cut (c : Dev nD) (q : PosShare TreeShare) (f : Buf (Elt F) (accLoc c)) :
    (accLoc c ↦{q} f : sProp 𝕄) = bigSep Finset.univ fun j => accLoc c ↦[accSet j]{q} f := by
  refine pointsTo_cut (ℓ := accLoc c) (T := Fin 32) _ accSet (fun i => ?_) (fun i t t' h h' => ?_)
  · have h0 : (i 0).val < 256 := (i 0).isLt
    refine ⟨fun _ => ⟨⟨(i 0).val / 8, by omega⟩, ?_⟩, fun _ => Finset.mem_univ _⟩
    exact Finset.mem_filter.mpr ⟨Finset.mem_univ _, rfl⟩
  · exact Fin.ext ((Finset.mem_filter.mp h).2.symm.trans (Finset.mem_filter.mp h').2)

theorem rs_cut (c : Dev nD) (q : PosShare TreeShare) (f : Buf (Elt F) (rsLoc c)) :
    (rsLoc c ↦{q} f : sProp 𝕄) = bigSep Finset.univ fun l => rsLoc c ↦[rsLayer l]{q} f := by
  refine pointsTo_cut (ℓ := rsLoc c) (T := Fin 3) _ rsLayer (fun i => ?_) (fun i t t' h h' => ?_)
  · exact ⟨fun _ => ⟨i 0, Finset.mem_filter.mpr ⟨Finset.mem_univ _, rfl⟩⟩, fun _ => Finset.mem_univ _⟩
  · exact Fin.ext ((Finset.mem_filter.mp h).2.symm.trans (Finset.mem_filter.mp h').2)

theorem rsLayer_cut (c : Dev nD) (l : Fin 3) (q : PosShare TreeShare) (f : Buf (Elt F) (rsLoc c)) :
    (rsLoc c ↦[rsLayer l]{q} f : sProp 𝕄) = bigSep Finset.univ fun j => rsLoc c ↦[rsSet l j]{q} f := by
  refine pointsTo_cut (ℓ := rsLoc c) (T := Fin 32) _ (rsSet l) (fun i => ?_) (fun i t t' h h' => ?_)
  · exact ⟨fun h => ⟨i 1, Finset.mem_filter.mpr ⟨h, rfl⟩⟩, fun ⟨t, h⟩ => (Finset.mem_filter.mp h).1⟩
  · exact Fin.ext ((Finset.mem_filter.mp h).2.symm.trans (Finset.mem_filter.mp h').2)

theorem ag_cut (c : Dev nD) (q : PosShare TreeShare) (f : Buf (Elt F) (agLoc c)) :
    (agLoc c ↦{q} f : sProp 𝕄) = bigSep Finset.univ fun l => agLoc c ↦[agLayer l]{q} f := by
  refine pointsTo_cut (ℓ := agLoc c) (T := Fin 2) _ agLayer (fun i => ?_) (fun i t t' h h' => ?_)
  · exact ⟨fun _ => ⟨i 0, Finset.mem_filter.mpr ⟨Finset.mem_univ _, rfl⟩⟩, fun _ => Finset.mem_univ _⟩
  · exact Fin.ext ((Finset.mem_filter.mp h).2.symm.trans (Finset.mem_filter.mp h').2)

theorem agLayer_cut (c : Dev nD) (l : Fin 2) (q : PosShare TreeShare) (f : Buf (Elt F) (agLoc c)) :
    (agLoc c ↦[agLayer l]{q} f : sProp 𝕄) = bigSep Finset.univ fun j => agLoc c ↦[agSet l j]{q} f := by
  refine pointsTo_cut (ℓ := agLoc c) (T := Fin 32) _ (agSet l) (fun i => ?_) (fun i t t' h h' => ?_)
  · exact ⟨fun h => ⟨i 1, Finset.mem_filter.mpr ⟨h, rfl⟩⟩, fun ⟨t, h⟩ => (Finset.mem_filter.mp h).1⟩
  · exact Fin.ext ((Finset.mem_filter.mp h).2.symm.trans (Finset.mem_filter.mp h').2)

/-- Two contents that a view reads alike agree on the view's elements. -/
theorem agree_of_read {κ : Kind} {sp : Space} {s : Shape} {e : EltTy} (v : View sig κ sp s e)
    (f g : v.ty.Contents (Elt F)) (h : ∀ x, f (v.emb x) = g (v.emb x)) : ∀ i ∈ v.set, f i = g i := by
  intro i hi
  obtain ⟨x, -, rfl⟩ := Finset.mem_map.mp hi
  exact h x

end Cert.KernelIdeal.Mlp

end
-- ==== Proof.KernelIdeal.Parts.lean ====
/-
# The printed body is the sequence of loops

The printed body is cut into parts at fixed lengths. Each part is a stretch of one or two loops (`part1_eq` … `part38_eq`);
put together the stretches make whole loops over the devices (`body_eq`).
-/
module

public import proofs.«01_k».proof.Proof.KernelIdeal.Steps

@[expose] public section

set_option synthInstance.maxSize 4096

noncomputable section

namespace Cert.KernelIdeal.Mlp

open Cert.KernelIdeal Cert.KernelIdeal.Gen
open Idealize.ShloMosaic Idealize.SL.Sem
open Idealize.ShloMosaic.TcCoe

variable {F : FTy → Type} [FloatOps F]

/-- A guarded step of one operation with the rest of the program in both branches. -/
theorem jp_one {α : Type} {p : Prop} [Decidable p] (A : p → KProg F PUnit) (q : KProg F α) :
    (if h : p then A h >>= fun _ => q else q) = ((if h : p then A h else pure ⟨⟩) >>= fun _ => q) := by split <;> rfl
/-- A guarded step of two operations with the rest of the program in both branches. -/
theorem jp_two {α : Type} {p : Prop} [Decidable p] (A B : p → KProg F PUnit) (q : KProg F α) :
    (if h : p then A h >>= fun _ => B h >>= fun _ => q else q) = ((if h : p then A h >>= fun _ => B h else pure ⟨⟩) >>= fun _ => q) := by
  split
  · exact (Prog.bind_assoc _ _ _).symm
  · rfl

theorem seqs_step {α : Type} {p : KProg F PUnit} {q : KProg F α} {j : Fin 32} {l : List (Fin 32)} {st : Fin 32 → KProg F PUnit} {k : KProg F α}
    (hp : p = st j) (hq : q = seqs l st k) : (p >>= fun _ => q) = seqs (j :: l) st k := by
  subst hp hq; rfl
theorem seqs_end {α : Type} {q : KProg F α} {st : Fin 32 → KProg F PUnit} {k : KProg F α}
    (hq : q = k) : q = seqs [] st k := hq
theorem bind_step {α β : Type} {p p' : KProg F α} {q q' : α → KProg F β}
    (hq : ∀ v, q v = q' v) (hp : p = p') : (p >>= q) = (p' >>= q') := by
  subst hp; rw [funext hq]
theorem pure_step {α β : Type} (a : α) (q : α → KProg F β) : ((pure a : KProg F α) >>= q) = q a := rfl

theorem seqs_bind {α β : Type} (l : List (Fin 32)) (st : Fin 32 → KProg F PUnit) (k : KProg F α) (q : α → KProg F β) :
    (seqs l st k >>= q) = seqs l st (k >>= q) := by
  induction l with
  | nil => rfl
  | cons j l ih => exact (Prog.bind_assoc _ _ _).trans (bind_step (fun _ => ih) rfl)
theorem seqs_append {α : Type} (l l' : List (Fin 32)) (st : Fin 32 → KProg F PUnit) (k : KProg F α) :
    seqs l st (seqs l' st k) = seqs (l ++ l') st k := (List.foldr_append ..).symm

section Parts
variable (c : Dev nD)
set_option maxRecDepth 65536

theorem part1_eq : onArgs (k0_part1_skel (F := F)) = (Prog.lift .deviceId >>= fun c : Dev nD => seqs (rng 0 8) (sigStep c) (pure ⟨c, my c, barS⟩)) := by
  unfold onArgs k0_part1_skel
  simp only [jp_one]
  refine bind_step (fun c => ?_) rfl
  repeat refine seqs_step rfl ?_
  rfl
theorem part2_eq : onArgs (k0_part2_skel (F := F)) c (my c) barS =
    seqs (rng 8 10) (sigStep c) (pure ⟨⟩) := by
  unfold onArgs k0_part2_skel
  simp only [jp_one]
  repeat refine seqs_step rfl ?_
  rfl
theorem part3_eq : onArgs (k0_part3_skel (F := F)) c (my c) barS =
    seqs (rng 18 10) (sigStep c) (pure ⟨⟩) := by
  unfold onArgs k0_part3_skel
  simp only [jp_one]
  repeat refine seqs_step rfl ?_
  rfl
theorem part4_eq : onArgs (k0_part4_skel (F := F)) c (my c) barS =
    seqs (rng 28 4) (sigStep c) (semWaitWord barS.sem 31#32 >>= fun _ => acc0 >>= fun _ => seqs (rng 0 2) (rsSend c 0) (pure 2#32)) := by
  unfold onArgs k0_part4_skel
  simp only [jp_one, Prog.bind_assoc, acc0, storeAcc]
  repeat refine seqs_step rfl ?_
  refine seqs_end ?_
  repeat with_reducible refine bind_step (fun _ => ?_) ?_
  repeat refine seqs_step rfl ?_
  all_goals rfl
theorem part5_eq (v : BitVec 32) : onArgs (k0_part5_skel (F := F)) c (my c) v =
    seqs (rng 2 10) (rsSend c 0) (pure 12#32) := by
  unfold onArgs k0_part5_skel
  simp only [jp_one]
  repeat refine seqs_step rfl ?_
  rfl
theorem part6_eq (v : BitVec 32) : onArgs (k0_part6_skel (F := F)) c (my c) v =
    seqs (rng 12 10) (rsSend c 0) (pure 22#32) := by
  unfold onArgs k0_part6_skel
  simp only [jp_one]
  repeat refine seqs_step rfl ?_
  rfl
theorem part7_eq (v : BitVec 32) : onArgs (k0_part7_skel (F := F)) c (my c) v =
    seqs (rng 22 10) (rsSend c 0) (pure 8#32) := by
  unfold onArgs k0_part7_skel
  simp only [jp_one]
  repeat refine seqs_step rfl ?_
  rfl
theorem part8_eq (v : BitVec 32) : onArgs (k0_part8_skel (F := F)) c (my c) v =
    keep c 0 >>= fun _ => seqs (rng 0 8) (rsWait c 0) (pure ⟨⟩) := by
  unfold onArgs k0_part8_skel
  simp only [jp_two, Prog.bind_assoc, keep]
  repeat with_reducible refine bind_step (fun _ => ?_) ?_
  repeat refine seqs_step rfl ?_
  all_goals rfl
theorem part9_eq : onArgs (k0_part9_skel (F := F)) (my c) =
    seqs (rng 8 10) (rsWait c 0) (pure ⟨⟩) := by
  unfold onArgs k0_part9_skel
  simp only [jp_two]
  repeat refine seqs_step rfl ?_
  rfl
theorem part10_eq : onArgs (k0_part10_skel (F := F)) (my c) =
    seqs (rng 18 10) (rsWait c 0) (pure ⟨⟩) := by
  unfold onArgs k0_part10_skel
  simp only [jp_two]
  repeat refine seqs_step rfl ?_
  rfl
theorem part11_eq : onArgs (k0_part11_skel (F := F)) c (my c) =
    seqs (rng 28 4) (rsWait c 0) (reduce c 0 >>= fun _ => seqs (rng 0 3) (agSend c 0) (pure (Scalar.cmpi .ne (my c) 3#32))) := by
  unfold onArgs k0_part11_skel
  simp only [jp_one, jp_two, Prog.bind_assoc, reduce]
  repeat refine seqs_step rfl ?_
  refine seqs_end ?_
  repeat with_reducible refine bind_step (fun _ => ?_) ?_
  repeat refine seqs_step rfl ?_
  all_goals rfl
theorem part12_eq : onArgs (k0_part12_skel (F := F)) c (my c) (Scalar.cmpi .ne (my c) 3#32) =
    seqs (rng 3 10) (agSend c 0) (pure (Scalar.cmpi .ne (my c) 13#32)) := by
  unfold onArgs k0_part12_skel
  simp only [jp_one]
  repeat refine seqs_step rfl ?_
  rfl
theorem part13_eq : onArgs (k0_part13_skel (F := F)) c (my c) (Scalar.cmpi .ne (my c) 13#32) =
    seqs (rng 13 10) (agSend c 0) (pure (Scalar.cmpi .ne (my c) 23#32)) := by
  unfold onArgs k0_part13_skel
  simp only [jp_one]
  repeat refine seqs_step rfl ?_
  rfl
theorem part14_eq : onArgs (k0_part14_skel (F := F)) c (my c) (Scalar.cmpi .ne (my c) 23#32) =
    seqs (rng 23 9) (agSend c 0) (seqs (rng 0 1) (agWait c 0) (pure (Scalar.cmpi .ne (my c) 1#32))) := by
  unfold onArgs k0_part14_skel
  simp only [jp_one, jp_two]
  repeat refine seqs_step rfl ?_
  refine seqs_end ?_
  repeat refine seqs_step rfl ?_
  rfl
theorem part15_eq : onArgs (k0_part15_skel (F := F)) c (my c) (Scalar.cmpi .ne (my c) 1#32) =
    seqs (rng 1 10) (agWait c 0) (pure (Scalar.cmpi .ne (my c) 11#32)) := by
  unfold onArgs k0_part15_skel
  simp only [jp_two]
  repeat refine seqs_step rfl ?_
  rfl
theorem part16_eq : onArgs (k0_part16_skel (F := F)) c (my c) (Scalar.cmpi .ne (my c) 11#32) =
    seqs (rng 11 10) (agWait c 0) (pure (Scalar.cmpi .ne (my c) 21#32)) := by
  unfold onArgs k0_part16_skel
  simp only [jp_two]
  repeat refine seqs_step rfl ?_
  rfl
theorem part17_eq : onArgs (k0_part17_skel (F := F)) c (my c) (Scalar.cmpi .ne (my c) 21#32) =
    seqs (rng 21 10) (agWait c 0) (pure (Scalar.cmpi .ne (my c) 31#32)) := by
  unfold onArgs k0_part17_skel
  simp only [jp_two]
  repeat refine seqs_step rfl ?_
  rfl
theorem part18_eq : onArgs (k0_part18_skel (F := F)) c (my c) (Scalar.cmpi .ne (my c) 31#32) =
    seqs (rng 31 1) (agWait c 0) (acc1 >>= fun _ => seqs (rng 0 4) (rsSend c 1) (pure ⟨(Scalar.extui (Scalar.cmpi .ne (my c) 4#32) : BitVec 32), 0#32⟩)) := by
  unfold onArgs k0_part18_skel
  simp only [jp_one, jp_two, Prog.bind_assoc, acc1]
  repeat refine seqs_step rfl ?_
  refine seqs_end ?_
  repeat with_reducible refine bind_step (fun _ => ?_) ?_
  repeat refine seqs_step rfl ?_
  all_goals rfl
theorem part19_eq : onArgs (k0_part19_skel (F := F)) c (my c) (Scalar.extui (Scalar.cmpi .ne (my c) 4#32) : BitVec 32) 0#32 =
    seqs (rng 4 10) (rsSend c 1) (pure ⟨(Scalar.extui (Scalar.cmpi .ne (my c) 14#32) : BitVec 32), 0#32⟩) := by
  unfold onArgs k0_part19_skel
  simp only [jp_one]
  repeat refine seqs_step rfl ?_
  rfl
theorem part20_eq : onArgs (k0_part20_skel (F := F)) c (my c) (Scalar.extui (Scalar.cmpi .ne (my c) 14#32) : BitVec 32) 0#32 =
    seqs (rng 14 10) (rsSend c 1) (pure ⟨(Scalar.extui (Scalar.cmpi .ne (my c) 24#32) : BitVec 32), 0#32⟩) := by
  unfold onArgs k0_part20_skel
  simp only [jp_one]
  repeat refine seqs_step rfl ?_
  rfl
theorem part21_eq : onArgs (k0_part21_skel (F := F)) c (my c) (Scalar.extui (Scalar.cmpi .ne (my c) 24#32) : BitVec 32) 0#32 =
    seqs (rng 24 8) (rsSend c 1) (keep c 1 >>= fun _ => pure (Scalar.extui (Scalar.cmpi .ne (my c) 0#32) : BitVec 32)) := by
  unfold onArgs k0_part21_skel
  simp only [jp_one, Prog.bind_assoc, keep]
  repeat refine seqs_step rfl ?_
  refine seqs_end ?_
  rfl
theorem part22_eq : onArgs (k0_part22_skel (F := F)) (my c) (Scalar.extui (Scalar.cmpi .ne (my c) 0#32) : BitVec 32) =
    seqs (rng 0 10) (rsWait c 1) (pure (Scalar.extui (Scalar.cmpi .ne (my c) 10#32) : BitVec 32)) := by
  unfold onArgs k0_part22_skel
  simp only [jp_two]
  repeat refine seqs_step rfl ?_
  rfl
theorem part23_eq : onArgs (k0_part23_skel (F := F)) (my c) (Scalar.extui (Scalar.cmpi .ne (my c) 10#32) : BitVec 32) =
    seqs (rng 10 10) (rsWait c 1) (pure (Scalar.extui (Scalar.cmpi .ne (my c) 20#32) : BitVec 32)) := by
  unfold onArgs k0_part23_skel
  simp only [jp_two]
  repeat refine seqs_step rfl ?_
  rfl
theorem part24_eq : onArgs (k0_part24_skel (F := F)) (my c) (Scalar.extui (Scalar.cmpi .ne (my c) 20#32) : BitVec 32) =
    seqs (rng 20 10) (rsWait c 1) (pure (Scalar.extui (Scalar.cmpi .ne (my c) 30#32) : BitVec 32)) := by
  unfold onArgs k0_part24_skel
  simp only [jp_two]
  repeat refine seqs_step rfl ?_
  rfl
theorem part25_eq : onArgs (k0_part25_skel (F := F)) c (my c) (Scalar.extui (Scalar.cmpi .ne (my c) 30#32) : BitVec 32) =
    seqs (rng 30 2) (rsWait c 1) (reduce c 1 >>= fun _ => seqs (rng 0 5) (agSend c 1) (pure ⟨⟩)) := by
  unfold onArgs k0_part25_skel
  simp only [jp_one, jp_two, Prog.bind_assoc, reduce]
  repeat refine seqs_step rfl ?_
  refine seqs_end ?_
  repeat with_reducible refine bind_step (fun _ => ?_) ?_
  repeat refine seqs_step rfl ?_
  all_goals rfl
theorem part26_eq : onArgs (k0_part26_skel (F := F)) c (my c) =
    seqs (rng 5 10) (agSend c 1) (pure ⟨⟩) := by
  unfold onArgs k0_part26_skel
  simp only [jp_one]
  repeat refine seqs_step rfl ?_
  rfl
theorem part27_eq : onArgs (k0_part27_skel (F := F)) c (my c) =
    seqs (rng 15 10) (agSend c 1) (pure ⟨⟩) := by
  unfold onArgs k0_part27_skel
  simp only [jp_one]
  repeat refine seqs_step rfl ?_
  rfl
theorem part28_eq : onArgs (k0_part28_skel (F := F)) c (my c) =
    seqs (rng 25 7) (agSend c 1) (seqs (rng 0 3) (agWait c 1) (pure ⟨⟩)) := by
  unfold onArgs k0_part28_skel
  simp only [jp_one, jp_two]
  repeat refine seqs_step rfl ?_
  refine seqs_end ?_
  repeat refine seqs_step rfl ?_
  rfl
theorem part29_eq : onArgs (k0_part29_skel (F := F)) c (my c) =
    seqs (rng 3 10) (agWait c 1) (pure ⟨⟩) := by
  unfold onArgs k0_part29_skel
  simp only [jp_two]
  repeat refine seqs_step rfl ?_
  rfl
theorem part30_eq : onArgs (k0_part30_skel (F := F)) c (my c) =
    seqs (rng 13 10) (agWait c 1) (pure ⟨⟩) := by
  unfold onArgs k0_part30_skel
  simp only [jp_two]
  repeat refine seqs_step rfl ?_
  rfl
theorem part31_eq : onArgs (k0_part31_skel (F := F)) c (my c) =
    seqs (rng 23 9) (agWait c 1) (acc2In >>= fun p => pure ⟨p.1, p.2⟩) := by
  unfold onArgs k0_part31_skel
  simp only [jp_two, Prog.bind_assoc, acc2In]
  repeat refine seqs_step rfl ?_
  refine seqs_end ?_
  rfl
theorem part32_eq (p : FVec F S256x256 .f32) (q : FVec F S256x512 .f32) : onArgs (k0_part32_skel (F := F)) c (my c) p q =
    acc2Out p q >>= fun _ => seqs (rng 0 7) (rsSend c 2) (pure 7#32) := by
  unfold onArgs k0_part32_skel
  simp only [jp_one, Prog.bind_assoc, acc2Out]
  repeat with_reducible refine bind_step (fun _ => ?_) ?_
  repeat refine seqs_step rfl ?_
  all_goals rfl
theorem part33_eq (v : BitVec 32) : onArgs (k0_part33_skel (F := F)) c (my c) v =
    seqs (rng 7 10) (rsSend c 2) (pure 17#32) := by
  unfold onArgs k0_part33_skel
  simp only [jp_one]
  repeat refine seqs_step rfl ?_
  rfl
theorem part34_eq (v : BitVec 32) : onArgs (k0_part34_skel (F := F)) c (my c) v =
    seqs (rng 17 10) (rsSend c 2) (pure 27#32) := by
  unfold onArgs k0_part34_skel
  simp only [jp_one]
  repeat refine seqs_step rfl ?_
  rfl
theorem part35_eq (v : BitVec 32) : onArgs (k0_part35_skel (F := F)) c (my c) v =
    seqs (rng 27 5) (rsSend c 2) (keep c 2 >>= fun _ => seqs (rng 0 3) (rsWait c 2) (pure ⟨⟩)) := by
  unfold onArgs k0_part35_skel
  simp only [jp_one, jp_two, Prog.bind_assoc, keep]
  repeat refine seqs_step rfl ?_
  refine seqs_end ?_
  repeat with_reducible refine bind_step (fun _ => ?_) ?_
  repeat refine seqs_step rfl ?_
  all_goals rfl
theorem part36_eq : onArgs (k0_part36_skel (F := F)) (my c) =
    seqs (rng 3 10) (rsWait c 2) (pure ⟨⟩) := by
  unfold onArgs k0_part36_skel
  simp only [jp_two]
  repeat refine seqs_step rfl ?_
  rfl
theorem part37_eq : onArgs (k0_part37_skel (F := F)) (my c) =
    seqs (rng 13 10) (rsWait c 2) (pure ⟨⟩) := by
  unfold onArgs k0_part37_skel
  simp only [jp_two]
  repeat refine seqs_step rfl ?_
  rfl
theorem part38_eq : onArgs (k0_part38_skel (F := F)) (my c) =
    seqs (rng 23 9) (rsWait c 2) (finishIn) := by
  unfold onArgs k0_part38_skel
  simp only [jp_two, Prog.bind_assoc, finishIn]
  repeat refine seqs_step rfl ?_
  refine seqs_end ?_
  rfl
end Parts

/-- The kernel's body as loops over the devices. -/
def body : KProg F PUnit := do
  let c ← Prog.lift .deviceId
  seqs (rng 0 32) (sigStep c) do
  semWaitWord barS.sem 31#32
  acc0
  seqs (rng 0 32) (rsSend c 0) do
  keep c 0
  seqs (rng 0 32) (rsWait c 0) do
  reduce c 0
  seqs (rng 0 32) (agSend c 0) do
  seqs (rng 0 32) (agWait c 0) do
  acc1
  seqs (rng 0 32) (rsSend c 1) do
  keep c 1
  seqs (rng 0 32) (rsWait c 1) do
  reduce c 1
  seqs (rng 0 32) (agSend c 1) do
  seqs (rng 0 32) (agWait c 1) do
  let p ← acc2In
  acc2Out p.1 p.2
  seqs (rng 0 32) (rsSend c 2) do
  keep c 2
  seqs (rng 0 32) (rsWait c 2) do
  let v ← finishIn
  finishOut v
  pure ⟨⟩

theorem body_eq : onArgs (cc0_body (F := F)) = body := by
  rw [cc0_body_eq_skeleton]
  unfold onArgs cc0_body_skel body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, part1_eq, Prog.bind_assoc, seqs_bind, pure_step]
  with_reducible refine bind_step (F := F) (fun c => ?_) ?_
  · simp only [part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, Prog.bind_assoc, seqs_bind, pure_step, seqs_append]
    rfl
  · rfl

end Cert.KernelIdeal.Mlp

end
-- ==== Proof.KernelIdeal.Contents.lean ====
/-
# What the buffers hold

Per layer: each device's partial sums, the 32 blocks of partial sums that land on a device, their sum over the devices, and
the summed rows of all devices. The two exchange buffers are described by their final contents, layer by layer; a slot is at
those contents from the moment it is written.
-/
module

public import proofs.«01_k».proof.Proof.KernelIdeal.Slots
public import proofs.«01_k».proof.Proof.KernelIdeal.Parts

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (m : (ℓ : Loc nD τ sig) → Buf (Elt F) ℓ)

/-! ## The inputs, as staged -/

def inX (c : Dev nD) : Vec F S256x256 .f32 := (win0_0.blk (0 : Fin 1)).view.read (Elt F) (m ((c : Thread nD τ).loc main_arg0))
def inWi0 (c : Dev nD) : Vec F S256x512 .f32 := (win0_1.blk (0 : Fin 1)).view.read (Elt F) (m ((c : Thread nD τ).loc main_arg1))
def inWo0 (c : Dev nD) : Vec F S512x256 .f32 := (win0_2.blk (0 : Fin 1)).view.read (Elt F) (m ((c : Thread nD τ).loc main_arg2))
def inWi1 (c : Dev nD) : Vec F S256x512 .f32 := (win0_3.blk (0 : Fin 1)).view.read (Elt F) (m ((c : Thread nD τ).loc main_arg3))
def inWo1 (c : Dev nD) : Vec F S512x256 .f32 := (win0_4.blk (0 : Fin 1)).view.read (Elt F) (m ((c : Thread nD τ).loc main_arg4))
def inWi2 (c : Dev nD) : Vec F S256x512 .f32 := (win0_5.blk (0 : Fin 1)).view.read (Elt F) (m ((c : Thread nD τ).loc main_arg5))
def inWo2 (c : Dev nD) : Vec F S512x256 .f32 := (win0_6.blk (0 : Fin 1)).view.read (Elt F) (m ((c : Thread nD τ).loc main_arg6))

/-! ## One layer's exchange -/

/-- Device `c`'s rows of every device's partial sums `A`. -/
def landed (A : Dev nD → Vec F S256x256 .f32) (c : Dev nD) : Vec F S1x32x8x256 .f32 :=
  fun i => A (i 1 : Fin 32) (ix2 (rowOf c (i 2 : Fin 8)) (i 3 : Fin 256))
/-- Those rows added up over the devices. -/
def summed (A : Dev nD → Vec F S256x256 .f32) (c : Dev nD) : Vec F S1x1x8x256 .f32 := k0_pay4 (landed A c)
/-- The summed rows of all devices. -/
def gathered (A : Dev nD → Vec F S256x256 .f32) : Vec F S1x32x8x256 .f32 :=
  fun i => summed A (i 1 : Fin 32) (ix4 0 0 (i 2 : Fin 8) (i 3 : Fin 256))

/-! ## The three layers -/

def part0 (c : Dev nD) : Vec F S256x256 .f32 := k0_pay2 (inX m c) (inWi0 m c) (inWo0 m c)
def part1 (c : Dev nD) : Vec F S256x256 .f32 := k0_pay5 (gathered (part0 m)) (inWi1 m c) (inWo1 m c)
def part2 (c : Dev nD) : Vec F S256x256 .f32 := k0_pay10 (k0_pay8 (gathered (part1 m))) (k0_pay9 (inWi2 m c)) (inWo2 m c)
/-- Layer `l`'s partial sums on device `c`. -/
def part (l : Fin 3) (c : Dev nD) : Vec F S256x256 .f32 :=
  match l with | 0 => part0 m c | 1 => part1 m c | 2 => part2 m c
/-- The kernel's result on device `c`. -/
def outAt (c : Dev nD) : Vec F S8x256 .f32 := k0_pay1 (k0_pay12 (landed (part2 m) c))

/-- A layer of the buffer of summed rows, as a layer of the landing buffer. -/
abbrev up (l : Fin 2) : Fin 3 := l.castLT (by omega)

/-- The landing buffer on device `c`, all layers landed. -/
def rsFull (c : Dev nD) : Buf (Elt F) (rsLoc c) :=
  fun (i : S3x32x8x256.Idx) => part m (i 0 : Fin 3) (i 1 : Fin 32) (ix2 (rowOf c (i 2 : Fin 8)) (i 3 : Fin 256))
/-- The buffer of summed rows, all layers gathered: the same on every device. -/
def agFull (c : Dev nD) : Buf (Elt F) (agLoc c) :=
  fun (i : S2x32x8x256.Idx) => summed (part m (up (i 0 : Fin 2))) (i 1 : Fin 32) (ix4 0 0 (i 2 : Fin 8) (i 3 : Fin 256))

/-! ## What a transfer leaves in its destination -/

theorem rs_arrives (l : Fin 3) (c j : Dev nD) (fd : Buf (Elt F) (rsLoc j)) :
    ∀ i ∈ (rsSlot l c.val c.isLt).view.set,
      (rsSlot l c.val c.isLt).view.write (Elt F) fd ((accRows j).view.read (Elt F) (part m l c)) Finset.univ i = rsFull m j i := by
  refine agree_of_read _ _ _ fun x => ?_
  rw [View.write_emb_of_mem _ _ (Finset.mem_univ x), View.read_apply, accRows_emb, rsSlot_emb]
  rfl

theorem ag_arrives (l : Fin 2) (c j : Dev nD) (fd : Buf (Elt F) (agLoc j)) :
    ∀ i ∈ (agSlot l c.val c.isLt).view.set,
      (agSlot l c.val c.isLt).view.write (Elt F) fd ((agSlot l c.val c.isLt).view.read (Elt F) (agFull m c)) Finset.univ i = agFull m j i := by
  refine agree_of_read _ _ _ fun x => ?_
  rw [View.write_emb_of_mem _ _ (Finset.mem_univ x), View.read_apply, agSlot_emb]
  rfl

/-! ## What loads and stores between the exchanges touch -/

theorem rsRow_emb (l : Fin 3) (x : S1x32x8x256.Idx) :
    (rsM.access (rsRow l)).emb x = (ix4 l (x 1) (x 2) (x 3) : S3x32x8x256.Idx) := by
  show (rsRow l).emb x = _
  have h : (x 0).val < 1 := (x 0).isLt
  funext a
  refine Fin.ext ?_
  rw [ValueKit.rect_emb_unit_val]
  fin_cases a <;> simp

theorem agRow_emb (l : Fin 2) (x : S1x32x8x256.Idx) :
    (agM.access (agRow l)).emb x = (ix4 l (x 1) (x 2) (x 3) : S2x32x8x256.Idx) := by
  show (agRow l).emb x = _
  have h : (x 0).val < 1 := (x 0).isLt
  funext a
  refine Fin.ext ?_
  rw [ValueKit.rect_emb_unit_val]
  fin_cases a <;> simp

theorem rsMine_emb (l : Fin 3) (o : Nat) (h : o < 32) (x : S1x1x8x256.Idx) :
    (rsM.access (rsMine l o h)).emb x = (ix4 l ⟨o, h⟩ (x 2) (x 3) : S3x32x8x256.Idx) := by
  show (rsMine l o h).emb x = _
  have h0 : (x 0).val < 1 := (x 0).isLt
  have h1 : (x 1).val < 1 := (x 1).isLt
  funext a
  refine Fin.ext ?_
  rw [ValueKit.rect_emb_unit_val]
  fin_cases a <;> simp <;> omega

theorem agMine_emb (l : Fin 2) (o : Nat) (h : o < 32) (x : S1x1x8x256.Idx) :
    (agM.access (agMine l o h)).emb x = (ix4 l ⟨o, h⟩ (x 2) (x 3) : S2x32x8x256.Idx) := by
  show (agMine l o h).emb x = _
  have h0 : (x 0).val < 1 := (x 0).isLt
  have h1 : (x 1).val < 1 := (x 1).isLt
  funext a
  refine Fin.ext ?_
  rw [ValueKit.rect_emb_unit_val]
  fin_cases a <;> simp <;> omega

/-- The device's own rows of its accumulator, as the kernel addresses them. -/
abbrev accMine (c : Dev nD) : Rect S256x256 := Rect.unit (s := S256x256) (k0_off65 c) S8x256.size (k0_off65_inb c)

theorem off65_val : ∀ (c : Dev nD), And (k0_off65 c 0 = 8 * c.val) (k0_off65 c 1 = 0) := by decide +kernel

theorem accMine_emb (c : Dev nD) (x : S8x256.Idx) :
    (accM.access (accMine c)).emb x = (ix2 (rowOf c (x 0)) (x 1) : S256x256.Idx) := by
  show (accMine c).emb x = _
  funext a
  refine Fin.ext ?_
  rw [ValueKit.rect_emb_unit_val]
  fin_cases a
  · exact congrArg (· + (x 0).val) (off65_val c).1
  · exact (congrArg (· + (x 1).val) (off65_val c).2).trans (Nat.zero_add _)

theorem rsRow_sub (l : Fin 3) : (rsM.access (rsRow l)).set ⊆ rsLayer l := by
  intro i hi
  obtain ⟨x, -, rfl⟩ := Finset.mem_map.mp hi
  exact Finset.mem_filter.mpr ⟨Finset.mem_univ _, by rw [rsRow_emb]⟩

theorem agRow_sub (l : Fin 2) : (agM.access (agRow l)).set ⊆ agLayer l := by
  intro i hi
  obtain ⟨x, -, rfl⟩ := Finset.mem_map.mp hi
  exact Finset.mem_filter.mpr ⟨Finset.mem_univ _, by rw [agRow_emb]⟩

theorem rsMine_sub (l : Fin 3) (o : Nat) (h : o < 32) : (rsM.access (rsMine l o h)).set ⊆ rsSet l ⟨o, h⟩ := by
  intro i hi
  obtain ⟨x, -, rfl⟩ := Finset.mem_map.mp hi
  exact Finset.mem_filter.mpr ⟨Finset.mem_filter.mpr ⟨Finset.mem_univ _, by rw [rsMine_emb]⟩, by rw [rsMine_emb]⟩

theorem agMine_sub (l : Fin 2) (o : Nat) (h : o < 32) : (agM.access (agMine l o h)).set ⊆ agSet l ⟨o, h⟩ := by
  intro i hi
  obtain ⟨x, -, rfl⟩ := Finset.mem_map.mp hi
  exact Finset.mem_filter.mpr ⟨Finset.mem_filter.mpr ⟨Finset.mem_univ _, by rw [agMine_emb]⟩, by rw [agMine_emb]⟩

theorem accMine_sub (c : Dev nD) : (accM.access (accMine c)).set ⊆ accSet c := by
  intro i hi
  obtain ⟨x, -, rfl⟩ := Finset.mem_map.mp hi
  have h : (x 0).val < 8 := (x 0).isLt
  refine Finset.mem_filter.mpr ⟨Finset.mem_univ _, ?_⟩
  rw [accMine_emb]
  show (8 * c.val + (x 0).val) / 8 = c.val
  omega

/-! ## What those loads read and stores leave -/

theorem rsRow_read (l : Fin 3) (c : Dev nD) : (rsM.access (rsRow l)).read (Elt F) (rsFull m c) = landed (part m l) c := by
  funext x
  rw [View.read_apply, rsRow_emb]
  rfl

theorem agRow_read (l : Fin 2) (c : Dev nD) : (agM.access (agRow l)).read (Elt F) (agFull m c) = gathered (part m (up l)) := by
  funext x
  rw [View.read_apply, agRow_emb]
  rfl

theorem pay3_apply (v : Vec F S8x256 .f32) (x : S1x1x8x256.Idx) : k0_pay3 v x = v (ix2 (x 2) (x 3)) := by
  unfold k0_pay3
  have h0 : (x 0).val < 1 := (x 0).isLt
  have h1 : (x 1).val < 1 := (x 1).isLt
  refine shapeCast_apply (t := S1x1x8x256) v shapeCasts_S8x256_S1x1x8x256 x _ ?_
  rw [Shape.rowMajor_val_two, Shape.rowMajor_val_four]
  show (x 2).val * 256 + (x 3).val = (((x 0).val * 1 + (x 1).val) * 8 + (x 2).val) * 256 + (x 3).val
  omega

/-- `keep`'s store leaves the device's own slot at its final contents. -/
theorem keep_stores (l : Fin 3) (c : Dev nD) (o : Nat) (h : o < 32) (ho : o = c.val) (f : Buf (Elt F) (rsLoc c)) :
    ∀ i ∈ rsSet l c, (rsM.access (rsMine l o h)).write (Elt F) f (k0_pay3 ((accM.access (accMine c)).read (Elt F) (part m l c))) Finset.univ i
      = rsFull m c i := by
  subst ho
  intro i hi
  have hs : i ∈ (rsSlot l c.val c.isLt).view.set := by rw [rsSlot_set]; exact hi
  obtain ⟨y, -, rfl⟩ := Finset.mem_map.mp hs
  have he : (rsSlot l c.val c.isLt).view.emb y = (rsM.access (rsMine l c.val h)).emb (ix4 0 0 (y 0) (y 1) : S1x1x8x256.Idx) := by
    rw [rsSlot_emb, rsMine_emb]
  rw [he, View.write_emb_of_mem _ _ (Finset.mem_univ _), pay3_apply, View.read_apply, accMine_emb, rsMine_emb]
  rfl

/-- `reduce`'s store leaves the device's own slot of summed rows at its final contents. -/
theorem reduce_stores (l : Fin 2) (c : Dev nD) (o : Nat) (h : o < 32) (ho : o = c.val) (f : Buf (Elt F) (agLoc c)) :
    ∀ i ∈ agSet l c, (agM.access (agMine l o h)).write (Elt F) f (k0_pay4 (landed (part m (up l)) c)) Finset.univ i
      = agFull m c i := by
  subst ho
  intro i hi
  have hs : i ∈ (agSlot l c.val c.isLt).view.set := by rw [agSlot_set]; exact hi
  obtain ⟨y, -, rfl⟩ := Finset.mem_map.mp hs
  have he : (agSlot l c.val c.isLt).view.emb y = (agM.access (agMine l c.val h)).emb (ix4 0 0 (y 0) (y 1) : S1x1x8x256.Idx) := by
    rw [agSlot_emb, agMine_emb]
  rw [he, View.write_emb_of_mem _ _ (Finset.mem_univ _), agMine_emb]
  rfl

end Cert.KernelIdeal.Mlp

end
-- ==== Proof.KernelIdeal.Schedule.lean ====
/-
# The protocol

A device's barrier cell collects one signal from each peer; with it the peer hands over its own landing slots for this
device. Per layer a device sends each peer the peer's rows of its partial sums, waits for the 31 transfers to itself, adds
up, and sends each peer the summed rows. Every transfer has a cell of its own on the sender, credited when the source is read
out, and one on the receiver, credited when the data has landed. Each cell is used for one round.
-/
module

public import proofs.«01_k».proof.Proof.KernelIdeal.Contents
public import Idealize.ShloMosaic.Lib.ShareLeaves

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev ER : Emb UB (MT nD τ sig Unit (Elt F) ℕ UU ℕ) := embR

variable (m : (ℓ : Loc nD τ sig) → Buf (Elt F) ℓ)

/-! ## Cells -/

/-- The transfer cells come in ten families of 32, one cell per peer: sent and landed partial sums of each of three layers,
    sent and landed summed rows of each of two. -/
abbrev rsS (l : Fin 3) : Fin 10 := ⟨l.val, by omega⟩
abbrev rsR (l : Fin 3) : Fin 10 := ⟨3 + l.val, by omega⟩
abbrev agS (l : Fin 2) : Fin 10 := ⟨6 + l.val, by omega⟩
abbrev agR (l : Fin 2) : Fin 10 := ⟨8 + l.val, by omega⟩

/-- A device's cells: the barrier cell, and one per family and peer. -/
abbrev CK : Type := Option (Fin 10 × Fin 32)

def dsem (b : Fin 10) (j : Fin 32) : DmaSem sig := (⟨8 + 32 * b.val + j.val, by omega⟩ : Fin 328)
def csem : CK → SemLoc sig
  | none => .reg barS.sem
  | some p => .dma (dsem p.1 p.2)
abbrev kcell (c : Dev nD) (k : CK) : GSem nD τ sig := ((c : Thread nD τ), csem k)
abbrev bar (c : Dev nD) : GSem nD τ sig := kcell c none
abbrev xcell (c : Dev nD) (b : Fin 10) (j : Fin 32) : GSem nD τ sig := kcell c (some (b, j))

/-- The cell a semaphore is, if any. -/
def keyOf : SemLoc sig → Option CK
  | .reg s => if s = barS.sem then some none else none
  | .dma (q : Fin 328) => if h : 8 ≤ q.val then some (some (⟨(q.val - 8) / 32, by omega⟩, ⟨(q.val - 8) % 32, by omega⟩)) else none

theorem keyOf_csem (k : CK) : keyOf (csem k) = some k := by
  rcases k with _ | ⟨b, j⟩
  · show (if barS.sem = barS.sem then some none else none : Option CK) = some none
    exact if_pos rfl
  · have hb := b.isLt
    have hj := j.isLt
    refine (dif_pos (c := 8 ≤ 8 + 32 * b.val + j.val) (by omega)).trans ?_
    have h1 : (8 + 32 * b.val + j.val - 8) / 32 = b.val := by omega
    have h2 : (8 + 32 * b.val + j.val - 8) % 32 = j.val := by omega
    exact congrArg (fun p => some (some p)) (Prod.ext (Fin.ext h1) (Fin.ext h2))

theorem csem_inj : Function.Injective csem := fun k k' h => by
  have := congrArg keyOf h
  rw [keyOf_csem, keyOf_csem] at this
  exact Option.some.inj this

theorem sem_rsS : ∀ (l : Fin 3) (j : Fin 32), sem3 cc0_scratch3 l j.val j.isLt = dsem (rsS l) j := by decide +kernel
theorem sem_rsR : ∀ (l : Fin 3) (j : Fin 32), sem3 cc0_scratch4 l j.val j.isLt = dsem (rsR l) j := by decide +kernel
theorem sem_agS : ∀ (l : Fin 2) (j : Fin 32), sem2 cc0_scratch5 l j.val j.isLt = dsem (agS l) j := by decide +kernel
theorem sem_agR : ∀ (l : Fin 2) (j : Fin 32), sem2 cc0_scratch6 l j.val j.isLt = dsem (agR l) j := by decide +kernel

/-! ## What the cells hand over -/

/-- The credit of one transferred block of 8 rows. -/
abbrev N : ℕ := (accRows 0).view.dmaCredit
theorem N_pos : 0 < N := View.dmaCredit_pos _ (by decide)

/-- Device `c`'s rows for `j` of its layer `l` partial sums. -/
def accPts (l : Fin 3) (c : Dev nD) (j : Fin 32) : sProp 𝕄 := accLoc c ↦[accSet j]{fullShare} part m l c
/-- Device `c`'s landing slot for `j`, landed; at any contents. -/
def rsPts (l : Fin 3) (c : Dev nD) (j : Fin 32) : sProp 𝕄 := rsLoc c ↦[rsSet l j]{fullShare} rsFull m c
def rsAny (l : Fin 3) (c : Dev nD) (j : Fin 32) : sProp 𝕄 := iprop(∃ f, rsLoc c ↦[rsSet l j]{fullShare} f)
/-- A share of device `c`'s slot of `j`'s summed rows, gathered; the slot at any contents. -/
def agPts (q : PosShare TreeShare) (l : Fin 2) (c : Dev nD) (j : Fin 32) : sProp 𝕄 := agLoc c ↦[agSet l j]{q} agFull m c
def agAny (l : Fin 2) (c : Dev nD) (j : Fin 32) : sProp 𝕄 := iprop(∃ f, agLoc c ↦[agSet l j]{fullShare} f)
/-- Device `c`'s slots for `j`, which `c`'s signal hands to `j`. -/
def slots (c : Dev nD) (j : Fin 32) : sProp 𝕄 :=
  iprop(rsAny 0 c j ∗ rsAny 1 c j ∗ rsAny 2 c j ∗ agAny 0 c j ∗ agAny 1 c j)
/-- The share of the sent slot that the transfer to `j` reads. -/
abbrev shareOf (j : Fin 32) : PosShare TreeShare := ShareLeaves.leaf 5 fullShare j

def xferPay (c : Dev nD) (b : Fin 10) (j : Fin 32) : sProp 𝕄 :=
  match b with
  | 0 => accPts m 0 c j | 1 => accPts m 1 c j | 2 => accPts m 2 c j
  | 3 => rsPts m 0 c j | 4 => rsPts m 1 c j | 5 => rsPts m 2 c j
  | 6 => agPts m (shareOf j) 0 c c | 7 => agPts m (shareOf j) 1 c c
  | 8 => agPts m fullShare 0 c j | 9 => agPts m fullShare 1 c j

def dutiesAt (c : Dev nD) : Option CK → Finset (Fin 32)
  | some none => Finset.univ.erase c
  | some (some p) => if p.2 = c then ∅ else {0}
  | none => ∅
def payAt (c : Dev nD) (d : Fin 32) : Option CK → sProp 𝕄
  | some none => slots d c
  | some (some p) => xferPay m c p.1 p.2
  | none => iprop(emp)

/-- One round. A barrier cell has one duty of one unit per peer; a transfer's cell has the one duty of a block's credit. -/
def Rd : Rounds.Schedule (GSem nD τ sig) (Fin 32) 𝕄 where
  duties g r := if r = 0 ∧ g.1.2 = .tc then dutiesAt g.1.1 (keyOf g.2) else ∅
  unitless _ := False
  amount g _ _ := if keyOf g.2 = some none then 1 else N
  payload g _ d := payAt m g.1.1 d (keyOf g.2)
  amount_pos g _ _ _ := by
    by_cases h : keyOf g.2 = some none
    · rw [if_pos h]; exact Nat.one_pos
    · rw [if_neg h]; exact N_pos

instance accPts_storable (l) (c : Dev nD) (j) : BI.Storable (upEmb : UEmb _ 𝕄) (accPts m l c j) := by unfold accPts; infer_instance
instance rsPts_storable (l) (c : Dev nD) (j) : BI.Storable (upEmb : UEmb _ 𝕄) (rsPts m l c j) := by unfold rsPts; infer_instance
instance agPts_storable (q l) (c : Dev nD) (j) : BI.Storable (upEmb : UEmb _ 𝕄) (agPts m q l c j) := by unfold agPts; infer_instance
omit [FloatOps F] in
instance slots_storable (c : Dev nD) (j) : BI.Storable (upEmb : UEmb _ 𝕄) (slots (F := F) c j) := by
  unfold slots rsAny agAny; infer_instance
instance payload_storable (g : GSem nD τ sig) (r : ℕ) (d : Fin 32) : BI.Storable (upEmb : UEmb _ 𝕄) ((Rd m).payload g r d) := by
  show BI.Storable upEmb (payAt m g.1.1 d (keyOf g.2))
  unfold payAt xferPay
  (repeat' split) <;> infer_instance

/-! ## The schedule's tables -/

theorem duties_cell (c : Dev nD) (k : CK) : (Rd m).duties (kcell c k) 0 = dutiesAt c (some k) := by
  show (if (0 : ℕ) = 0 ∧ ((c : Thread nD τ).2 = .tc) then dutiesAt c (keyOf (csem k)) else ∅) = _
  rw [if_pos ⟨rfl, rfl⟩, keyOf_csem]
theorem duties_bar (c : Dev nD) : (Rd m).duties (bar c) 0 = Finset.univ.erase c := duties_cell m c none
theorem duties_xfer (c : Dev nD) (b : Fin 10) (j : Fin 32) (h : j ≠ c) : (Rd m).duties (xcell c b j) 0 = {0} :=
  (duties_cell m c (some (b, j))).trans (if_neg h)
theorem duties_later (g : GSem nD τ sig) : ∀ r, 1 ≤ r → (Rd m).duties g r = ∅ :=
  fun r hr => if_neg fun h => by omega
theorem duties_own (c : Dev nD) (b : Fin 10) : ∀ r, 0 ≤ r → (Rd m).duties (xcell c b c) r = ∅ := fun r _ => by
  by_cases h : r = 0
  · subst h; exact (duties_cell m c (some (b, c))).trans (if_pos rfl)
  · exact if_neg fun h' => h h'.1

theorem amount_bar (c : Dev nD) (d : Fin 32) : (Rd m).amount (bar c) 0 d = 1 := by
  show (if keyOf (csem none) = some none then 1 else N) = 1
  exact if_pos (keyOf_csem none)
theorem amount_xfer (c : Dev nD) (b : Fin 10) (j d : Fin 32) : (Rd m).amount (xcell c b j) 0 d = N :=
  if_neg fun h => by
    have h := (keyOf_csem (some (b, j))).symm.trans h
    cases h

theorem expect_bar (c : Dev nD) : (Rd m).expect (bar c) 0 = 31 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_xfer (c : Dev nD) (b : Fin 10) (j : Fin 32) (h : j ≠ c) : (Rd m).expect (xcell c b j) 0 = N := by
  unfold Schedule.expect Schedule.amountOf
  rw [duties_xfer m c b j h, Finset.sum_singleton, amount_xfer]

theorem payload_bar (c : Dev nD) (d : Fin 32) : (Rd m).payload (bar c) 0 d = slots d c := by
  show payAt m c d (keyOf (csem none)) = _
  rw [keyOf_csem]; rfl
theorem payload_xfer (c : Dev nD) (b : Fin 10) (j d : Fin 32) : (Rd m).payload (xcell c b j) 0 d = xferPay m c b j := by
  show payAt m c d (keyOf (csem (some (b, j)))) = _
  rw [keyOf_csem]; rfl

theorem xferPay_rsS (l : Fin 3) (c : Dev nD) (j : Fin 32) : xferPay m c (rsS l) j = accPts m l c j := by fin_cases l <;> rfl
theorem xferPay_rsR (l : Fin 3) (c : Dev nD) (j : Fin 32) : xferPay m c (rsR l) j = rsPts m l c j := by fin_cases l <;> rfl
theorem xferPay_agS (l : Fin 2) (c : Dev nD) (j : Fin 32) : xferPay m c (agS l) j = agPts m (shareOf j) l c c := by fin_cases l <;> rfl
theorem xferPay_agR (l : Fin 2) (c : Dev nD) (j : Fin 32) : xferPay m c (agR l) j = agPts m fullShare l c j := by fin_cases l <;> rfl

theorem rest_bar (c : Dev nD) : bigSep ((Rd m).duties (bar c) 0 \ ∅) (fun d => (Rd m).payload (bar c) 0 d)
    = bigSep (Finset.univ.erase c) fun d => slots (F := F) d c := by
  rw [Finset.sdiff_empty, duties_bar]
  exact bigSep_congr fun d _ => payload_bar m c d
theorem rest_xfer (c : Dev nD) (b : Fin 10) (j : Fin 32) (h : j ≠ c) :
    bigSep ((Rd m).duties (xcell c b j) 0 \ ∅) (fun d => (Rd m).payload (xcell c b j) 0 d) = xferPay m c b j := by
  rw [Finset.sdiff_empty, duties_xfer m c b j h, bigSep_singleton, payload_xfer]

/-! ## Levels -/

def L (g : GSem nD τ sig) : Finset Unit := if g.1.2 = .tc then {()} else ∅
def famLevel (b : Fin 10) : ℕ := (![0, 0, 0, 2, 4, 6, 0, 0, 3, 5] : Fin 10 → ℕ) b
/-- In the order of waiting: the barrier, then per layer the landed partial sums and the landed summed rows; everything else,
    which never waits on a peer, at 0. -/
def levelOf : Option CK → ℕ
  | some none => 1
  | some (some p) => famLevel p.1
  | none => 0
def lv (g : GSem nD τ sig) (_ : Unit) : ℕ := levelOf (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell c k) u = levelOf (some k) := by
  show levelOf (keyOf (csem k)) = _
  rw [keyOf_csem]

/-- Everything owed in `O` is owed to a cell above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem Above.tally {n : ℕ} (c : Dev nD) (k : CK) (x : ℕ) (h : n < levelOf (some k)) : Above n (tallyAt (kcell c k) () x) := fun g u hg => by
  rw [tallyAt_apply] at hg
  by_cases hc : g = kcell c k ∧ u = ()
  · rw [hc.1]
    exact ⟨rfl, by rw [lv_cell]; exact h⟩
  · rw [if_neg hc] at hg; exact absurd hg (Nat.lt_irrefl 0)
theorem Above.mono {n n' : ℕ} {O : CellTallies nD τ sig Unit} (h : Above n O) (hn : n' ≤ n) : Above n' O :=
  fun g u hg => ⟨(h g u hg).1, lt_of_le_of_lt hn (h g u hg).2⟩

omit [FloatOps F] in
/-- A device may wait on a cell below everything that it still owes. -/
theorem mayWait_above (c : Dev nD) (sm : SemLoc sig) (n : ℕ) (hn : levelOf (keyOf sm) ≤ n) (O : CellTallies nD τ sig Unit) (h : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn)
    (fun g u hg => (h g u hg).2)

/-! ## What a device owes -/

/-- The dues `f j` of the listed peers, on top of `O`. -/
def owedTo (f : Fin 32 → CellTallies nD τ sig Unit) (l : List (Fin 32)) (O : CellTallies nD τ sig Unit) : CellTallies nD τ sig Unit :=
  l.foldr (fun j acc => acc + f j) O

def dueSig (j : Fin 32) : CellTallies nD τ sig Unit := tallyAt (bar j) () 1
def dueX (b : Fin 10) (c : Dev nD) (j : Fin 32) : CellTallies nD τ sig Unit := tallyAt (xcell j b c) () N

theorem Above.owedTo {n : ℕ} {f : Fin 32 → CellTallies nD τ sig Unit} (hf : ∀ j, Above n (f j)) (l : List (Fin 32))
    {O : CellTallies nD τ sig Unit} (hO : Above n O) : Above n (owedTo f l O) := by
  induction l with
  | nil => exact hO
  | cons j r ih => exact ih.add (hf j)

/-- The peers of a device, in the order in which it serves them. -/
def peers (c : Dev nD) : List (Fin 32) := (rng 0 32).filter fun j => j ≠ c

/-- What device `c` owes before it sends the last layer's partial sums, and before each earlier exchange. -/
def owed5 (c : Dev nD) : CellTallies nD τ sig Unit := owedTo (dueX (rsR 2) c) (peers c) 0
def owed4 (c : Dev nD) : CellTallies nD τ sig Unit := owedTo (dueX (agR 1) c) (peers c) (owed5 c)
def owed3 (c : Dev nD) : CellTallies nD τ sig Unit := owedTo (dueX (rsR 1) c) (peers c) (owed4 c)
def owed2 (c : Dev nD) : CellTallies nD τ sig Unit := owedTo (dueX (agR 0) c) (peers c) (owed3 c)
def owed1 (c : Dev nD) : CellTallies nD τ sig Unit := owedTo (dueX (rsR 0) c) (peers c) (owed2 c)
def owed0 (c : Dev nD) : CellTallies nD τ sig Unit := owedTo dueSig (peers c) (owed1 c)

theorem above5 (c : Dev nD) : Above 5 (owed5 c) := Above.owedTo (fun j => Above.tally j _ _ (show 5 < famLevel (rsR 2) by decide)) _ (Above.zero _)
theorem above4 (c : Dev nD) : Above 4 (owed4 c) := Above.owedTo (fun j => Above.tally j _ _ (show 4 < famLevel (agR 1) by decide)) _ ((above5 c).mono (by decide))
theorem above3 (c : Dev nD) : Above 3 (owed3 c) := Above.owedTo (fun j => Above.tally j _ _ (show 3 < famLevel (rsR 1) by decide)) _ ((above4 c).mono (by decide))
theorem above2 (c : Dev nD) : Above 2 (owed2 c) := Above.owedTo (fun j => Above.tally j _ _ (show 2 < famLevel (agR 0) by decide)) _ ((above3 c).mono (by decide))
theorem above1 (c : Dev nD) : Above 1 (owed1 c) := Above.owedTo (fun j => Above.tally j _ _ (show 1 < famLevel (rsR 0) by decide)) _ ((above2 c).mono (by decide))
theorem above0 (c : Dev nD) : Above 0 (owed0 c) := Above.owedTo (fun j => Above.tally j _ _ (show 0 < 1 by decide)) _ ((above1 c).mono (by decide))

end Cert.KernelIdeal.Mlp

end
-- ==== Proof.KernelIdeal.Moves.lean ====
/-
# One step of each loop

The rule for a loop over a device's peers, and what one signal, one transfer and one wait do, in terms of the protocol.
-/
module

public import proofs.«01_k».proof.Proof.KernelIdeal.Schedule

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

abbrev 𝒱₀ : Variants := Variants.none
/-- What holds of the program `p` on device `c`, run to the postcondition `Q`. -/
abbrev runs (c : Dev nD) {α : Type} (p : KProg F α) (Q : α → sProp 𝕄) : sProp 𝕄 :=
  wp frame (wpE (defs₀ (F := F)) 𝒱₀ (c : Thread nD τ) none) Set.univ p Q

/-! ## Loops -/

theorem seqs_filter {α : Type} (p : Fin 32 → Prop) [DecidablePred p] (st st' : Fin 32 → KProg F PUnit)
    (h₁ : ∀ j, p j → st j = st' j) (h₂ : ∀ j, ¬ p j → st j = pure ⟨⟩) (l : List (Fin 32)) (k : KProg F α) :
    seqs l st k = seqs (l.filter p) st' k := by
  induction l with
  | nil => rfl
  | cons j r ih =>
    show (st j >>= fun _ => seqs r st k) = _
    rw [ih]
    by_cases h : p j
    · rw [List.filter_cons_of_pos (by simpa using h), h₁ j h]; rfl
    · rw [List.filter_cons_of_neg (by simpa using h), h₂ j h]; rfl

theorem rng_nodup : (rng 0 32).Nodup := by decide +kernel
theorem mem_rng : ∀ j : Fin 32, j ∈ rng 0 32 := by decide +kernel
theorem mem_peers (c : Dev nD) (j : Fin 32) : j ∈ peers c ↔ j ≠ c := by
  unfold peers
  rw [List.mem_filter]
  simpa using fun _ => mem_rng j
theorem peers_nodup (c : Dev nD) : (peers c).Nodup := rng_nodup.filter _
theorem peers_toFinset (c : Dev nD) : (peers c).toFinset = Finset.univ.erase c := by
  ext j
  rw [List.mem_toFinset, mem_peers, Finset.mem_erase]
  simp

/-- A loop over `l`: each step takes its `A j` to its `B j` and moves the invariant `I` on by one. -/
theorem runs_seqs {α : Type} (c : Dev nD) (st : Fin 32 → KProg F PUnit) (A B : Fin 32 → sProp 𝕄) (I : List (Fin 32) → sProp 𝕄)
    (k : KProg F α) (Q : α → sProp 𝕄) (l : List (Fin 32)) (hl : l.Nodup)
    (hst : ∀ j ∈ l, ∀ r, iprop(A j ∗ I (j :: r)) ⊢ runs c (st j) fun _ => iprop(B j ∗ I r)) :
    iprop(bigSep l.toFinset A ∗ I l) ⊢ iprop(((bigSep l.toFinset B ∗ I []) -∗ runs c k Q) -∗ runs c (seqs l st k) Q) := by
  induction l with
  | nil =>
    iintro H Hk
    iapply Hk
    iexact H
  | cons j r ih =>
    have hn := List.nodup_cons.mp hl
    have hj : j ∉ r.toFinset := fun h => hn.1 (List.mem_toFinset.mp h)
    show _ ⊢ iprop(_ -∗ runs c (st j >>= fun _ => seqs r st k) Q)
    have e : ∀ Φ : Fin 32 → sProp 𝕄, bigSep (insert j r.toFinset) Φ = iprop(Φ j ∗ bigSep r.toFinset Φ) := fun Φ => bigSep_insert hj
    unfold runs
    rw [wp_bind, List.toFinset_cons, e, e]
    iintro ⟨⟨HA, Hr⟩, HI⟩ Hk
    iapply wp_wand $$ [HA HI]
    · iapply (hst j List.mem_cons_self r)
      isplitl [HA]; · iexact HA
      iexact HI
    iintro %u ⟨HB, HI⟩
    iapply (ih hn.2 fun i hi => hst i (List.mem_cons_of_mem _ hi)) $$ [Hr HI]
    · isplitl [Hr]; · iexact Hr
      iexact HI
    iintro ⟨HBr, HI⟩
    iapply Hk
    isplitl [HB HBr]
    · isplitl [HB]; · iexact HB
      iexact HBr
    iexact HI

/-- The loop over a device's peers, paying one of the dues `f j` in each step. -/
theorem runs_peers {α : Type} (c : Dev nD) (st : Fin 32 → KProg F PUnit) (A B : Fin 32 → sProp 𝕄) (I : List (Fin 32) → sProp 𝕄)
    (k : KProg F α) (Q : α → sProp 𝕄)
    (hst : ∀ j, j ≠ c → ∀ r, iprop(A j ∗ I (j :: r)) ⊢ runs c (st j) fun _ => iprop(B j ∗ I r)) :
    iprop(bigSep (Finset.univ.erase c) A ∗ I (peers c))
      ⊢ iprop(((bigSep (Finset.univ.erase c) B ∗ I []) -∗ runs c k Q) -∗ runs c (seqs (peers c) st k) Q) := by
  rw [← peers_toFinset c]
  exact runs_seqs c st A B I k Q (peers c) (peers_nodup c) fun j hj => hst j ((mem_peers c j).mp hj)

/-! ## The facts that every step may use -/

/-- Every cell's level. -/
def levels_ : sProp 𝕄 := levAts L lv
omit [FloatOps F] in
instance levels_persistent : BI.Persistent (levels_ (F := F)) := by unfold levels_; infer_instance

/-- The cells' invariants, at the names `K`, that every cell is at round 0, and the levels. -/
def known (K : Dev nD × CK → ℕ) : sProp 𝕄 :=
  iprop((bigSep Finset.univ fun p : Dev nD × CK => cellInv ER (Rd m) (K p) (kcell p.1 p.2))
    ∗ (bigSep Finset.univ fun p : Dev nD × CK => reached ER (kcell p.1 p.2) 0) ∗ levels_)

instance known_persistent (K : Dev nD × CK → ℕ) : BI.Persistent (known m K) := by unfold known; infer_instance

theorem known_inv (K : Dev nD × CK → ℕ) (c : Dev nD) (k : CK) : known m K ⊢ cellInv ER (Rd m) (K (c, k)) (kcell c k) :=
  sep_elim_left.trans (bigSep_elim (Φ := fun p : Dev nD × CK => cellInv ER (Rd m) (K p) (kcell p.1 p.2)) (Finset.mem_univ (c, k)))
theorem known_reached (K : Dev nD × CK → ℕ) (c : Dev nD) (k : CK) : known m K ⊢ reached ER (kcell c k) 0 :=
  sep_elim_right.trans (sep_elim_left.trans
    (bigSep_elim (Φ := fun p : Dev nD × CK => (reached ER (kcell p.1 p.2) 0 : sProp 𝕄)) (Finset.mem_univ (c, k))))
theorem known_levels (K : Dev nD × CK → ℕ) : known m K ⊢ levels_ := by
  unfold known
  iintro ⟨-, -, H⟩
  iexact H

/-- Device `c` at work, owing `O`. -/
def at_ (K : Dev nD × CK → ℕ) (c : Dev nD) (O : CellTallies nD τ sig Unit) : sProp 𝕄 :=
  iprop(known m K ∗ ∃ W, owes (c : Thread nD τ) O W)

/-! ## The steps -/

/-- A signal to `j` hands over this device's slots for `j`. -/
theorem step_signal (K : Dev nD × CK → ℕ) (c j : Dev nD) (hne : j ≠ c) (O : CellTallies nD τ sig Unit) :
    iprop((dutyTok ER (bar j) 0 c ∗ slots c j) ∗ at_ m K c (O + dueSig j))
      ⊢ runs c (semSignalWord (j : Dev nD) barS.sem 1#32) fun _ => iprop(emp ∗ at_ m K c O) := by
  unfold at_ semSignalWord
  iintro ⟨⟨Ht, Hs⟩, #HK, ⟨%W, HO⟩⟩
  iapply (Rounds.wp_signal 𝒱₀ ER (Rd m) (c : Thread nD τ) none (dst := (j : Thread nD τ)) (κ := K (j, none)) (d := c)
      (by rw [show ((j : Thread nD τ), SemLoc.reg barS.sem) = bar j from rfl, duties_bar]; exact Finset.mem_erase.mpr ⟨fun h => hne h.symm, Finset.mem_univ _⟩)
      ((amount_bar m j c).trans (by decide)) () O rfl) $$ [HO Ht Hs]
  · isplitr; · iapply (known_inv m K j none); iexact HK
    isplitl [HO]; · iexact HO
    isplitl [Ht]; · iexact Ht
    isplitl [Hs]; · iapply (show slots c j ⊢ (Rd m).payload ((j : Thread nD τ), SemLoc.reg barS.sem) 0 c from Entails.of_eq (payload_bar m j c).symm); iexact Hs
    iapply (known_reached m K j none); iexact HK
  iintro HO
  rw [wp_ret]; imodintro
  isplitr; · iempintro
  isplitr; · iexact HK
  iexists W; iexact HO

theorem level_bar : levelOf (keyOf (SemLoc.reg barS.sem : SemLoc sig)) ≤ 1 := by
  have h : keyOf (SemLoc.reg barS.sem : SemLoc sig) = some none := keyOf_csem none
  rw [h]
  exact le_refl 1
theorem mayWait_bar (K : Dev nD × CK → ℕ) (c : Dev nD) (O : CellTallies nD τ sig Unit) (hO : Above 1 O) :
    known m K ⊢ MayWait (c : Thread nD τ) (.reg barS.sem) () O := by
  refine (@known_levels F _ m K).trans (mayWait_above (F := F) c (.reg barS.sem) 1 ?_ O ?_)
  · exact level_bar
  · exact hO

/-- The wait for the peers' signals: their slots for this device. -/
theorem step_barrier (K : Dev nD × CK → ℕ) (c : Dev nD) (O : CellTallies nD τ sig Unit) (hO : Above 1 O) :
    iprop((cred (tallyAt (bar c) () 31) ∗ atPos ER (bar c) 0 ∅ 0) ∗ at_ m K c O)
      ⊢ runs c (semWaitWord barS.sem 31#32) fun _ =>
        iprop((bigSep (Finset.univ.erase c) (fun d => slots (F := F) d c) ∗ atPos ER (bar c) 1 ∅ 0) ∗ at_ m K c O) := by
  unfold at_ semWaitWord
  iintro ⟨⟨Hc, Hat⟩, #HK, ⟨%W, HO⟩⟩
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      ((Nat.zero_add _).trans (expect_bar m c).symm) (k' := 31)) $$ [Hc HO Hat]
  · isplitr; · iapply (known_inv m K c none); iexact HK
    isplitl [Hc]; · iexact Hc
    isplitl [HO]; · iexact HO
    isplitr
    · iapply (mayWait_bar m K c O hO); iexact HK
    iexact Hat
  iintro ⟨HO, Hat, -, Hp⟩
  rw [wp_ret]; imodintro
  isplitl [Hat Hp]
  · isplitl [Hp]
    · ihave H := (show bigSep ((Rd m).duties ((c : Thread nD τ), SemLoc.reg barS.sem) 0 \ ∅)
        (fun d => (Rd m).payload ((c : Thread nD τ), SemLoc.reg barS.sem) 0 d) ⊢ _ from Entails.of_eq (rest_bar m c)) $$ Hp
      iexact H
    iexact Hat
  isplitr; · iexact HK
  iexists _; iexact HO

theorem level_xfer (b : Fin 10) (j : Fin 32) : levelOf (keyOf (SemLoc.dma (dsem b j) : SemLoc sig)) = famLevel b := by
  have h : keyOf (SemLoc.dma (dsem b j) : SemLoc sig) = some (some (b, j)) := keyOf_csem (some (b, j))
  rw [h]; rfl
theorem mayWait_xfer (K : Dev nD × CK → ℕ) (c : Dev nD) (b : Fin 10) (j : Fin 32) (n : ℕ) (hn : famLevel b ≤ n)
    (O : CellTallies nD τ sig Unit) (hO : Above n O) :
    known m K ⊢ MayWait (c : Thread nD τ) (.dma (dsem b j)) () O := by
  refine (@known_levels F _ m K).trans (mayWait_above (F := F) c (.dma (dsem b j)) n ?_ O ?_)
  · rw [level_xfer]; exact hn
  · exact hO

/-- The wait on a transfer's cell: what the transfer hands over. -/
theorem step_wait (K : Dev nD × CK → ℕ) (c j : Dev nD) (hne : j ≠ c) (b : Fin 10) (n : ℕ) (hn : famLevel b ≤ n)
    (O : CellTallies nD τ sig Unit) (hO : Above n O) (q : DmaSem sig) (hq : q = dsem b j)
    {src : Memref sig .tc .vmem S8x256 .f32} {dst : Memref sig .tc .vmem S8x256 .f32} (hN : dst.view.dmaCredit = N)
    {hsrc : src.view.WordExact} {hdst : dst.view.WordExact} :
    iprop((cred (tallyAt (xcell c b j) () N) ∗ atPos ER (xcell c b j) 0 ∅ 0) ∗ at_ m K c O)
      ⊢ runs c (Prog.lift (.waitDma2 q src dst hsrc hdst)) fun _ =>
        iprop((xferPay m c b j ∗ atPos ER (xcell c b j) 1 ∅ 0) ∗ at_ m K c O) := by
  subst hq
  unfold at_ Prog.lift
  iintro ⟨⟨Hc, Hat⟩, #HK, ⟨%W, HO⟩⟩
  iapply (Rounds.wp_wait_rest_token 𝒱₀ ER (Rd m) (c : Thread nD τ) none (κ := K (c, some (b, j)))
      (wpE_waitDma2_eq 𝒱₀ (c : Thread nD τ) none Set.univ) (Set.mem_univ _) () (O := O) (W := W) (R := 0) (m := 0) (T := ∅)
      ((Nat.zero_add _).trans (hN.trans (expect_xfer m c b j hne).symm))) $$ [Hc HO Hat]
  · isplitr; · iapply (known_inv m K c (some (b, j))); iexact HK
    isplitl [Hc]; · rw [hN]; iexact Hc
    isplitl [HO]; · iexact HO
    isplitr; · iapply (mayWait_xfer m K c b j n hn O hO); iexact HK
    iexact Hat
  iintro ⟨HO, Hat, -, Hp⟩
  rw [wp_ret]; imodintro
  isplitl [Hat Hp]
  · isplitl [Hp]
    · ihave H := (show bigSep ((Rd m).duties ((c : Thread nD τ), SemLoc.dma (dsem b j)) 0 \ ∅)
        (fun d => (Rd m).payload ((c : Thread nD τ), SemLoc.dma (dsem b j)) 0 d) ⊢ _ from Entails.of_eq (rest_xfer m c b j hne)) $$ Hp
      iexact H
    iexact Hat
  isplitr; · iexact HK
  iexists _; iexact HO

/-- A transfer to `j`: it takes the source (or a share of it) and the destination, and pays `j` the due. -/
theorem step_send (K : Dev nD × CK → ℕ) (c j : Dev nD) (hne : j ≠ c) (b₁ b₂ : Fin 10) (O : CellTallies nD τ sig Unit)
    (q₁ q₂ : DmaSem sig) (hq₁ : q₁ = dsem b₁ j) (hq₂ : q₂ = dsem b₂ c)
    {src : Memref sig .tc .vmem S8x256 .f32} {dst : Memref sig (Dev.tc j : Thread nD τ).2.kind .vmem S8x256 .f32}
    {hsc : dst.view.ref.isScScratch = false} {hsrc : src.view.WordExact} {hdst : dst.view.WordExact}
    {hsem : DmaTarget.Typed .vmem (.dma q₂) (.remote (Dev.tc j : Thread nD τ) dst (.dma q₁) hsc)}
    (hN : dst.view.dmaCredit = N) (q : PosShare TreeShare)
    (fs : Buf (Elt F) (src.view.loc (c : Thread nD τ))) (fd : Buf (Elt F) (dst.view.loc (j : Thread nD τ)))
    (hpay₁ : (src.view.loc (c : Thread nD τ) ↦[src.view.set]{q} fs) ⊢ xferPay m c b₁ j)
    (hpay₂ : (dst.view.loc (j : Thread nD τ) ↦[dst.view.set]{fullShare} (dst.view.write (Elt F) fd (src.view.read (Elt F) fs) Finset.univ))
      ⊢ xferPay m j b₂ c) :
    iprop(((src.view.loc (c : Thread nD τ) ↦[src.view.set]{q} fs) ∗ (dst.view.loc (j : Thread nD τ) ↦[dst.view.set]{fullShare} fd)
        ∗ dutyTok ER (xcell c b₁ j) 0 0 ∗ dutyTok ER (xcell j b₂ c) 0 0) ∗ at_ m K c (O + dueX b₂ c j))
      ⊢ runs c (Prog.lift (.enqueueDma src (.remote (Dev.tc j : Thread nD τ) dst (.dma q₁) hsc) (.dma q₂) hsrc hdst hsem)) fun _ =>
        iprop(cred (tallyAt (xcell c b₁ j) () N) ∗ at_ m K c O) := by
  subst hq₁ hq₂
  unfold at_ Prog.lift
  iintro ⟨⟨Hs, Hd, Ht₁, Ht₂⟩, #HK, ⟨%W, HO⟩⟩
  iapply (Rounds.wp_send_pointsTo 𝒱₀ ER (Rd m) (c : Thread nD τ) none (κ₁ := K (c, some (b₁, j))) (κ₂ := K (j, some (b₂, c)))
    (r₁ := 0) (r₂ := 0) (d₁ := 0) (d₂ := 0) (fd := fd) (fs := fs) (q := q)
    (show (0 : Fin 32) ∈ (Rd m).duties (xcell c b₁ j) 0 by rw [duties_xfer m c b₁ j hne]; exact Finset.mem_singleton_self _)
    (show (0 : Fin 32) ∈ (Rd m).duties (xcell j b₂ c) 0 by rw [duties_xfer m j b₂ c hne.symm]; exact Finset.mem_singleton_self _)
    () () N hN (amount_xfer m c b₁ j 0) (amount_xfer m j b₂ c 0) O rfl (W := W)
    (hpay₁.trans (Entails.of_eq (payload_xfer m c b₁ j 0).symm))
    (hpay₂.trans (Entails.of_eq (payload_xfer m j b₂ c 0).symm))) $$ [Hs Hd HO Ht₁ Ht₂]
  · isplitr; · iapply (known_inv m K c (some (b₁, j))); iexact HK
    isplitr; · iapply (known_inv m K j (some (b₂, c))); iexact HK
    isplitl [Hs]; · iexact Hs
    isplitl [Hd]; · iexact Hd
    isplitl [HO]; · iexact HO
    isplitl [Ht₁]; · iexact Ht₁
    isplitr; · iapply (known_reached m K c (some (b₁, j))); iexact HK
    isplitl [Ht₂]; · iexact Ht₂
    iapply (known_reached m K j (some (b₂, c))); iexact HK
  iintro ⟨Hc, HO⟩
  rw [wp_ret]; imodintro
  isplitl [Hc]; · iexact Hc
  isplitr; · iexact HK
  iexists W; iexact HO

end Cert.KernelIdeal.Mlp

end
-- ==== Proof.KernelIdeal.Phases.lean ====
/-
# The loops

What each of the kernel's loops does: the signals to the peers, and per layer the transfers and the waits.
-/
module

public import proofs.«01_k».proof.Proof.KernelIdeal.Moves

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

abbrev others (c : Dev nD) : Finset (Fin 32) := Finset.univ.erase c

/-! ## One step of each loop -/

theorem step_rsSend (K : Dev nD × CK → ℕ) (c j : Dev nD) (hne : j ≠ c) (l : Fin 3) (O : CellTallies nD τ sig Unit) :
    iprop((accPts m l c j ∗ rsAny l j c ∗ dutyTok ER (xcell c (rsS l) j) 0 0 ∗ dutyTok ER (xcell j (rsR l) c) 0 0)
        ∗ at_ m K c (O + dueX (rsR l) c j))
      ⊢ runs c (rsSendAt l j c.val c.isLt) fun _ => iprop(cred (tallyAt (xcell c (rsS l) j) () N) ∗ at_ m K c O) := by
  unfold rsSendAt accPts rsAny
  iintro ⟨⟨Hs, ⟨%fd, Hd⟩, Ht₁, Ht₂⟩, Hat⟩
  iapply (step_send m K c j hne (rsS l) (rsR l) O _ _ (sem_rsS l j) (sem_rsR l c) (src := accRows j) (dst := rsSlot l c.val c.isLt)
    (hN := rfl) (fs := part m l c) (fd := fd)
    (q := fullShare) (by rw [accRows_set, xferPay_rsS]; exact Entails.refl _)
    (by rw [pointsTo_congr (rs_arrives m l c j fd), rsSlot_set, xferPay_rsR]; exact Entails.refl _)) $$ [Hs Hd Ht₁ Ht₂ Hat]
  isplitl [Hs Hd Ht₁ Ht₂]
  · isplitl [Hs]; · rw [accRows_set]; iexact Hs
    isplitl [Hd]; · rw [rsSlot_set]; iexact Hd
    isplitl [Ht₁]; · iexact Ht₁
    iexact Ht₂
  iexact Hat

theorem step_agSend (K : Dev nD × CK → ℕ) (c j : Dev nD) (hne : j ≠ c) (l : Fin 2) (O : CellTallies nD τ sig Unit) :
    iprop((agPts m (shareOf j) l c c ∗ agAny l j c ∗ dutyTok ER (xcell c (agS l) j) 0 0 ∗ dutyTok ER (xcell j (agR l) c) 0 0)
        ∗ at_ m K c (O + dueX (agR l) c j))
      ⊢ runs c (agSendAt l j c.val c.isLt) fun _ => iprop(cred (tallyAt (xcell c (agS l) j) () N) ∗ at_ m K c O) := by
  unfold agSendAt agPts agAny
  iintro ⟨⟨Hs, ⟨%fd, Hd⟩, Ht₁, Ht₂⟩, Hat⟩
  iapply (step_send m K c j hne (agS l) (agR l) O _ _ (sem_agS l j) (sem_agR l c) (src := agSlot l c.val c.isLt) (dst := agSlot l c.val c.isLt)
    (hN := rfl) (fs := agFull m c) (fd := fd)
    (q := shareOf j) (by rw [agSlot_set, xferPay_agS]; exact Entails.refl _)
    (by rw [pointsTo_congr (ag_arrives m l c j fd), agSlot_set, xferPay_agR]; exact Entails.refl _)) $$ [Hs Hd Ht₁ Ht₂ Hat]
  isplitl [Hs Hd Ht₁ Ht₂]
  · isplitl [Hs]; · rw [agSlot_set]; iexact Hs
    isplitl [Hd]; · rw [agSlot_set]; iexact Hd
    isplitl [Ht₁]; · iexact Ht₁
    iexact Ht₂
  iexact Hat

/-- What device `c` brings to the wait on its cell for `j` in family `b`, and what that wait leaves. -/
def toWait (c : Dev nD) (b : Fin 10) (j : Fin 32) : sProp 𝕄 :=
  iprop(cred (tallyAt (xcell c b j) () N) ∗ atPos ER (xcell c b j) 0 ∅ 0)
def waited (c : Dev nD) (b : Fin 10) (j : Fin 32) : sProp 𝕄 := iprop(xferPay m c b j ∗ atPos ER (xcell c b j) 1 ∅ 0)

/-- Two waits in a row, on the landing cell and then on the sending cell. -/
theorem step_waits (K : Dev nD × CK → ℕ) (c j : Dev nD) (hne : j ≠ c) (b₁ b₂ : Fin 10) (n : ℕ) (h₁ : famLevel b₁ ≤ n) (h₂ : famLevel b₂ ≤ n)
    (O : CellTallies nD τ sig Unit) (hO : Above n O) (q₁ q₂ : DmaSem sig) (hq₁ : q₁ = dsem b₁ j) (hq₂ : q₂ = dsem b₂ j)
    {s₁ d₁ s₂ d₂ : Memref sig .tc .vmem S8x256 .f32} (hN₁ : d₁.view.dmaCredit = N) (hN₂ : d₂.view.dmaCredit = N)
    {hs₁ : s₁.view.WordExact} {hd₁ : d₁.view.WordExact} {hs₂ : s₂.view.WordExact} {hd₂ : d₂.view.WordExact} :
    iprop((toWait c b₁ j ∗ toWait c b₂ j) ∗ at_ m K c O)
      ⊢ runs c (Prog.lift (.waitDma2 q₁ s₁ d₁ hs₁ hd₁) >>= fun _ => Prog.lift (.waitDma2 q₂ s₂ d₂ hs₂ hd₂)) fun _ =>
        iprop((waited m c b₁ j ∗ waited m c b₂ j) ∗ at_ m K c O) := by
  unfold runs toWait waited
  rw [wp_bind]
  iintro ⟨⟨H₁, H₂⟩, Hat⟩
  iapply wp_wand $$ [H₁ Hat]
  · iapply (step_wait m K c j hne b₁ n h₁ O hO q₁ hq₁ hN₁)
    isplitl [H₁]; · iexact H₁
    iexact Hat
  iintro %u ⟨H₁, Hat⟩
  iapply wp_wand $$ [H₂ Hat]
  · iapply (step_wait m K c j hne b₂ n h₂ O hO q₂ hq₂ hN₂)
    isplitl [H₂]; · iexact H₂
    iexact Hat
  iintro %u ⟨H₂, Hat⟩
  isplitl [H₁ H₂]
  · isplitl [H₁]; · iexact H₁
    iexact H₂
  iexact Hat

/-! ## The loops -/

theorem loop_signal (K : Dev nD × CK → ℕ) (c : Dev nD) (O : CellTallies nD τ sig Unit) {α : Type} (k : KProg F α) (Q : α → sProp 𝕄) :
    iprop(bigSep (others c) (fun j => iprop(dutyTok ER (bar j) 0 c ∗ slots (F := F) c j)) ∗ at_ m K c (owedTo dueSig (peers c) O))
      ⊢ iprop(((bigSep (others c) (fun _ => iprop(emp)) ∗ at_ m K c O) -∗ runs c k Q) -∗ runs c (seqs (rng 0 32) (sigStep c) k) Q) := by
  rw [seqs_filter (fun j => j ≠ c) (sigStep c) (fun j => semSignalWord (j : Dev nD) barS.sem 1#32)
    (fun j h => dif_pos ((other_iff c j).mpr h)) (fun j h => dif_neg (mt (other_iff c j).mp h))]
  exact runs_peers c _ _ _ (fun r => at_ m K c (owedTo dueSig r O)) k Q fun j hne r => step_signal m K c j hne _

theorem loop_rsSend (K : Dev nD × CK → ℕ) (c : Dev nD) (l : Fin 3) (O : CellTallies nD τ sig Unit) {α : Type} (k : KProg F α) (Q : α → sProp 𝕄) :
    iprop(bigSep (others c) (fun j => iprop(accPts m l c j ∗ rsAny l j c ∗ dutyTok ER (xcell c (rsS l) j) 0 0 ∗ dutyTok ER (xcell j (rsR l) c) 0 0))
        ∗ at_ m K c (owedTo (dueX (rsR l) c) (peers c) O))
      ⊢ iprop(((bigSep (others c) (fun j => cred (tallyAt (xcell c (rsS l) j) () N)) ∗ at_ m K c O) -∗ runs c k Q)
        -∗ runs c (seqs (rng 0 32) (rsSend c l) k) Q) := by
  rw [seqs_filter (fun j => j ≠ c) (rsSend c l) (fun j => rsSendAt l j c.val c.isLt)
    (fun j h => (dif_pos ((other_iff c j).mpr h)).trans (by congr 1; exact my_toNat c)) (fun j h => dif_neg (mt (other_iff c j).mp h))]
  exact runs_peers c _ _ _ (fun r => at_ m K c (owedTo (dueX (rsR l) c) r O)) k Q fun j hne r => step_rsSend m K c j hne l _

theorem loop_agSend (K : Dev nD × CK → ℕ) (c : Dev nD) (l : Fin 2) (O : CellTallies nD τ sig Unit) {α : Type} (k : KProg F α) (Q : α → sProp 𝕄) :
    iprop(bigSep (others c) (fun j => iprop(agPts m (shareOf j) l c c ∗ agAny l j c ∗ dutyTok ER (xcell c (agS l) j) 0 0 ∗ dutyTok ER (xcell j (agR l) c) 0 0))
        ∗ at_ m K c (owedTo (dueX (agR l) c) (peers c) O))
      ⊢ iprop(((bigSep (others c) (fun j => cred (tallyAt (xcell c (agS l) j) () N)) ∗ at_ m K c O) -∗ runs c k Q)
        -∗ runs c (seqs (rng 0 32) (agSend c l) k) Q) := by
  rw [seqs_filter (fun j => j ≠ c) (agSend c l) (fun j => agSendAt l j c.val c.isLt)
    (fun j h => (dif_pos ((other_iff c j).mpr h)).trans (by congr 1; exact my_toNat c)) (fun j h => dif_neg (mt (other_iff c j).mp h))]
  exact runs_peers c _ _ _ (fun r => at_ m K c (owedTo (dueX (agR l) c) r O)) k Q fun j hne r => step_agSend m K c j hne l _

theorem acc_credit (j : Fin 32) : (accRows j).view.dmaCredit = N := rfl
theorem rs_credit (l : Fin 3) (j : Fin 32) : (rsSlot l j.val j.isLt).view.dmaCredit = N := rfl
theorem ag_credit (l : Fin 2) (j : Fin 32) : (agSlot l j.val j.isLt).view.dmaCredit = N := rfl
theorem famLevel_rsS (l : Fin 3) (n : ℕ) : famLevel (rsS l) ≤ n := by fin_cases l <;> exact Nat.zero_le n
theorem famLevel_agS (l : Fin 2) (n : ℕ) : famLevel (agS l) ≤ n := by fin_cases l <;> exact Nat.zero_le n

theorem loop_rsWait (K : Dev nD × CK → ℕ) (c : Dev nD) (l : Fin 3) (O : CellTallies nD τ sig Unit) (hO : Above (famLevel (rsR l)) O)
    {α : Type} (k : KProg F α) (Q : α → sProp 𝕄) :
    iprop(bigSep (others c) (fun j => iprop(toWait (F := F) c (rsR l) j ∗ toWait (F := F) c (rsS l) j)) ∗ at_ m K c O)
      ⊢ iprop(((bigSep (others c) (fun j => iprop(waited m c (rsR l) j ∗ waited m c (rsS l) j)) ∗ at_ m K c O) -∗ runs c k Q)
        -∗ runs c (seqs (rng 0 32) (rsWait c l) k) Q) := by
  rw [seqs_filter (fun j => j ≠ c) (rsWait c l) _ (fun j h => dif_pos ((other_iff c j).mpr h)) (fun j h => dif_neg (mt (other_iff c j).mp h))]
  exact runs_peers c _ _ _ (fun _ => at_ m K c O) k Q fun j hne _ =>
    step_waits m K c j hne (rsR l) (rsS l) _ (le_refl _) (famLevel_rsS l _) O hO _ _ (sem_rsR l j) (sem_rsS l j)
      (s₁ := accRows j) (d₁ := rsSlot l j.val j.isLt) (s₂ := rsSlot l j.val j.isLt) (d₂ := accRows j) (rs_credit l j) (acc_credit j)

theorem loop_agWait (K : Dev nD × CK → ℕ) (c : Dev nD) (l : Fin 2) (O : CellTallies nD τ sig Unit) (hO : Above (famLevel (agR l)) O)
    {α : Type} (k : KProg F α) (Q : α → sProp 𝕄) :
    iprop(bigSep (others c) (fun j => iprop(toWait (F := F) c (agR l) j ∗ toWait (F := F) c (agS l) j)) ∗ at_ m K c O)
      ⊢ iprop(((bigSep (others c) (fun j => iprop(waited m c (agR l) j ∗ waited m c (agS l) j)) ∗ at_ m K c O) -∗ runs c k Q)
        -∗ runs c (seqs (rng 0 32) (agWait c l) k) Q) := by
  rw [seqs_filter (fun j => j ≠ c) (agWait c l) (fun j => agWaitAt l j c.val c.isLt)
    (fun j h => (dif_pos ((other_iff c j).mpr h)).trans (by congr 1; exact my_toNat c)) (fun j h => dif_neg (mt (other_iff c j).mp h))]
  exact runs_peers c _ _ _ (fun _ => at_ m K c O) k Q fun j hne _ =>
    step_waits m K c j hne (agR l) (agS l) _ (le_refl _) (famLevel_agS l _) O hO _ _ (sem_agR l j) (sem_agS l j)
      (s₁ := agSlot l c.val c.isLt) (d₁ := agSlot l j.val j.isLt) (s₂ := agSlot l j.val j.isLt) (d₂ := agSlot l c.val c.isLt)
      (ag_credit l j) (ag_credit l c)

end Cert.KernelIdeal.Mlp

end
-- ==== Proof.KernelIdeal.Segments.lean ====
/-
# Between the loops

What each run of loads and stores between two loops does.
-/
module

public import proofs.«01_k».proof.Proof.KernelIdeal.Phases

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

/-- Device `c`'s buffer `b`, whole, holding `X`. -/
abbrev holds (c : Dev nD) (b : Ref sig .tc) (X : Buf (Elt F) ((c : Thread nD τ).loc b)) : sProp 𝕄 := ((c : Thread nD τ).loc b) ↦{fullShare} X

theorem zero2 : (![0, 0] : Fin 2 → Nat) = fun _ => 0 := by decide

/-! A load of a whole buffer reads its contents, a store of one leaves the stored value. -/

omit [FloatOps F] in
theorem read_x (f : cc0_stg0_0.ty.Contents (Elt F)) : xM.view.readAt (Elt F) rSq.toLoadRect f = f := Memref.readAt_unit_zero (Elt F) cc0_stg0_0 zero2 _ f
omit [FloatOps F] in
theorem read_wi0 (f : cc0_stg1_0.ty.Contents (Elt F)) : wi0M.view.readAt (Elt F) rWi.toLoadRect f = f := Memref.readAt_unit_zero (Elt F) cc0_stg1_0 zero2 _ f
omit [FloatOps F] in
theorem read_wo0 (f : cc0_stg2_0.ty.Contents (Elt F)) : wo0M.view.readAt (Elt F) rWo.toLoadRect f = f := Memref.readAt_unit_zero (Elt F) cc0_stg2_0 zero2 _ f
omit [FloatOps F] in
theorem read_wi1 (f : cc0_stg3_0.ty.Contents (Elt F)) : wi1M.view.readAt (Elt F) rWi.toLoadRect f = f := Memref.readAt_unit_zero (Elt F) cc0_stg3_0 zero2 _ f
omit [FloatOps F] in
theorem read_wo1 (f : cc0_stg4_0.ty.Contents (Elt F)) : wo1M.view.readAt (Elt F) rWo.toLoadRect f = f := Memref.readAt_unit_zero (Elt F) cc0_stg4_0 zero2 _ f
omit [FloatOps F] in
theorem read_wi2 (f : cc0_stg5_0.ty.Contents (Elt F)) : wi2M.view.readAt (Elt F) rWi.toLoadRect f = f := Memref.readAt_unit_zero (Elt F) cc0_stg5_0 zero2 _ f
omit [FloatOps F] in
theorem read_wo2 (f : cc0_stg6_0.ty.Contents (Elt F)) : wo2M.view.readAt (Elt F) rWo.toLoadRect f = f := Memref.readAt_unit_zero (Elt F) cc0_stg6_0 zero2 _ f
omit [FloatOps F] in
theorem write_acc (f w : cc0_scratch0.ty.Contents (Elt F)) : (accM.access rSq).write (Elt F) f w Finset.univ = w :=
  Memref.write_access_unit_zero_univ (Elt F) cc0_scratch0 zero2 _ f w
omit [FloatOps F] in
theorem write_out (f w : cc0_stg7_0.ty.Contents (Elt F)) : (outM.access rOut).write (Elt F) f w Finset.univ = w :=
  Memref.write_access_unit_zero_univ (Elt F) cc0_stg7_0 zero2 _ f w

/-! ## A layer's partial sums -/

/-- The accumulator stored whole. -/
theorem seg_store (c : Dev nD) (p : FVec F S256x256 .f32) (f : Buf (Elt F) (accLoc c)) :
    holds c cc0_scratch0 f ⊢ runs c (storeAcc p) fun _ => holds c cc0_scratch0 p := by
  unfold storeAcc holds
  simp only [Prog.lift, Prog.bind_op, Prog.bind_ret]
  iintro H
  iapply (wp_load 𝒱₀ (c : Thread nD τ) none Set.univ (m := accM) (Finset.subset_univ _)) $$ H; iintro H
  iapply (wp_store 𝒱₀ (c : Thread nD τ) none Set.univ (m := accM) (r := rSq) (Mk := Finset.univ) (Finset.subset_univ _)) $$ H; iintro H
  rw [write_acc, wp_ret]; imodintro
  iexact H

theorem seg_acc0 (c : Dev nD) (f : Buf (Elt F) (accLoc c)) :
    iprop(holds c cc0_stg0_0 (inX m c) ∗ holds c cc0_stg1_0 (inWi0 m c) ∗ holds c cc0_stg2_0 (inWo0 m c) ∗ holds c cc0_scratch0 f)
      ⊢ runs c acc0 fun _ =>
        iprop(holds c cc0_stg0_0 (inX m c) ∗ holds c cc0_stg1_0 (inWi0 m c) ∗ holds c cc0_stg2_0 (inWo0 m c) ∗ holds c cc0_scratch0 (part m 0 c)) := by
  unfold acc0
  simp only [Prog.lift, Prog.bind_op, Prog.bind_ret]
  iintro ⟨Hx, Hi, Ho, H⟩
  iapply (wp_load 𝒱₀ (c : Thread nD τ) none Set.univ (m := xM) (Finset.subset_univ _)) $$ Hx; iintro Hx
  iapply (wp_load 𝒱₀ (c : Thread nD τ) none Set.univ (m := wi0M) (Finset.subset_univ _)) $$ Hi; iintro Hi
  iapply (wp_load 𝒱₀ (c : Thread nD τ) none Set.univ (m := wo0M) (Finset.subset_univ _)) $$ Ho; iintro Ho
  rw [read_x, read_wi0, read_wo0]
  iapply wp_wand $$ [H]
  · iapply (seg_store c (k0_pay2 (inX m c) (inWi0 m c) (inWo0 m c)) f); iexact H
  iintro %u H
  isplitl [Hx]; · iexact Hx
  isplitl [Hi]; · iexact Hi
  isplitl [Ho]; · iexact Ho
  iexact H

/-- Device `c`'s layer `l` of summed rows, gathered; its layer `l` of landing slots, landed. -/
abbrev agHolds (l : Fin 2) (c : Dev nD) : sProp 𝕄 := agLoc c ↦[agLayer l]{fullShare} agFull m c
abbrev rsHolds (l : Fin 3) (c : Dev nD) : sProp 𝕄 := rsLoc c ↦[rsLayer l]{fullShare} rsFull m c

theorem seg_acc1 (c : Dev nD) (f : Buf (Elt F) (accLoc c)) :
    iprop(agHolds m 0 c ∗ holds c cc0_stg3_0 (inWi1 m c) ∗ holds c cc0_stg4_0 (inWo1 m c) ∗ holds c cc0_scratch0 f)
      ⊢ runs c acc1 fun _ =>
        iprop(agHolds m 0 c ∗ holds c cc0_stg3_0 (inWi1 m c) ∗ holds c cc0_stg4_0 (inWo1 m c) ∗ holds c cc0_scratch0 (part m 1 c)) := by
  unfold acc1
  simp only [Prog.lift, Prog.bind_op, Prog.bind_ret]
  iintro ⟨Hx, Hi, Ho, H⟩
  iapply (wp_load_rect 𝒱₀ (c : Thread nD τ) none Set.univ (m := agM) (r := agRow 0) (agRow_sub 0)) $$ Hx; iintro Hx
  iapply (wp_load 𝒱₀ (c : Thread nD τ) none Set.univ (m := wi1M) (Finset.subset_univ _)) $$ Hi; iintro Hi
  iapply (wp_load 𝒱₀ (c : Thread nD τ) none Set.univ (m := wo1M) (Finset.subset_univ _)) $$ Ho; iintro Ho
  rw [agRow_read m 0 c, read_wi1, read_wo1]
  iapply wp_wand $$ [H]
  · iapply (seg_store c (k0_pay5 (gathered (part m (up 0))) (inWi1 m c) (inWo1 m c)) f); iexact H
  iintro %u H
  isplitl [Hx]; · iexact Hx
  isplitl [Hi]; · iexact Hi
  isplitl [Ho]; · iexact Ho
  iexact H

theorem seg_acc2In (c : Dev nD) :
    iprop(agHolds m 1 c ∗ holds c cc0_stg5_0 (inWi2 m c))
      ⊢ runs c acc2In fun p =>
        iprop(⌜p = (k0_pay8 (gathered (part m 1)), k0_pay9 (inWi2 m c))⌝ ∗ agHolds m 1 c ∗ holds c cc0_stg5_0 (inWi2 m c)) := by
  unfold acc2In
  simp only [Prog.lift, Prog.bind_op, Prog.bind_ret]
  iintro ⟨Hx, Hi⟩
  iapply (wp_load_rect 𝒱₀ (c : Thread nD τ) none Set.univ (m := agM) (r := agRow 1) (agRow_sub 1)) $$ Hx; iintro Hx
  iapply (wp_load 𝒱₀ (c : Thread nD τ) none Set.univ (m := wi2M) (Finset.subset_univ _)) $$ Hi; iintro Hi
  rw [agRow_read m 1 c, read_wi2, Prog.pure_eq_ret, wp_ret]; imodintro
  isplitr; · (ipureintro; rfl)
  isplitl [Hx]; · iexact Hx
  iexact Hi

theorem seg_acc2Out (c : Dev nD) (f : Buf (Elt F) (accLoc c)) :
    iprop(holds c cc0_stg6_0 (inWo2 m c) ∗ holds c cc0_scratch0 f)
      ⊢ runs c (acc2Out (k0_pay8 (gathered (part m 1))) (k0_pay9 (inWi2 m c))) fun _ =>
        iprop(holds c cc0_stg6_0 (inWo2 m c) ∗ holds c cc0_scratch0 (part m 2 c)) := by
  unfold acc2Out
  simp only [Prog.lift, Prog.bind_op, Prog.bind_ret]
  iintro ⟨Ho, H⟩
  iapply (wp_load 𝒱₀ (c : Thread nD τ) none Set.univ (m := wo2M) (Finset.subset_univ _)) $$ Ho; iintro Ho
  rw [read_wo2]
  iapply wp_wand $$ [H]
  · iapply (seg_store c (k0_pay10 (k0_pay8 (gathered (part m 1))) (k0_pay9 (inWi2 m c)) (inWo2 m c)) f); iexact H
  iintro %u H
  isplitl [Ho]; · iexact Ho
  iexact H

/-! ## The device's own slots -/

theorem seg_keep (l : Fin 3) (c : Dev nD) :
    iprop(accPts m l c c ∗ rsAny l c c) ⊢ runs c (keep c l) fun _ => iprop(accPts m l c c ∗ rsPts m l c c) := by
  unfold keep accPts rsAny rsPts
  simp only [Prog.lift, Prog.bind_op, Prog.bind_ret]
  have hs : (⟨(my c).toNat, my_lt c⟩ : Fin 32) = c := Fin.ext (my_toNat c)
  have hsub : (rsM.access (rsMine l (my c).toNat (my_lt c))).set ⊆ rsSet l c := by
    have h := rsMine_sub l (my c).toNat (my_lt c)
    rwa [hs] at h
  iintro ⟨Ha, ⟨%f, H⟩⟩
  iapply (wp_load_rect 𝒱₀ (c : Thread nD τ) none Set.univ (m := accM) (r := accMine c) (accMine_sub c)) $$ Ha; iintro Ha
  iapply (wp_load_rect 𝒱₀ (c : Thread nD τ) none Set.univ (m := rsM) (r := rsMine l (my c).toNat (my_lt c)) hsub) $$ H; iintro H
  iapply (wp_store 𝒱₀ (c : Thread nD τ) none Set.univ (m := rsM) (r := rsMine l (my c).toNat (my_lt c)) (Mk := Finset.univ)
    (by rw [View.setOn_univ]; exact hsub)) $$ H; iintro H
  rw [wp_ret]; imodintro
  isplitl [Ha]; · iexact Ha
  ihave H := (Entails.of_eq (pointsTo_congr (ℓ := rsLoc c) (q := fullShare) (keep_stores m l c (my c).toNat (my_lt c) (my_toNat c) f))) $$ H
  iexact H

theorem seg_reduce (l : Fin 2) (c : Dev nD) :
    iprop(rsHolds m (up l) c ∗ agAny l c c) ⊢ runs c (reduce c l) fun _ => iprop(rsHolds m (up l) c ∗ agPts m fullShare l c c) := by
  unfold reduce agAny agPts
  simp only [Prog.lift, Prog.bind_op, Prog.bind_ret]
  have hs : (⟨(my c).toNat, my_lt c⟩ : Fin 32) = c := Fin.ext (my_toNat c)
  have hsub : (agM.access (agMine l (my c).toNat (my_lt c))).set ⊆ agSet l c := by
    have h := agMine_sub l (my c).toNat (my_lt c)
    rwa [hs] at h
  iintro ⟨Ha, ⟨%f, H⟩⟩
  iapply (wp_load_rect 𝒱₀ (c : Thread nD τ) none Set.univ (m := rsM) (r := rsRow (up l)) (rsRow_sub (up l))) $$ Ha; iintro Ha
  rw [rsRow_read m (up l) c]
  iapply (wp_load_rect 𝒱₀ (c : Thread nD τ) none Set.univ (m := agM) (r := agMine l (my c).toNat (my_lt c)) hsub) $$ H; iintro H
  iapply (wp_store 𝒱₀ (c : Thread nD τ) none Set.univ (m := agM) (r := agMine l (my c).toNat (my_lt c)) (Mk := Finset.univ)
    (by rw [View.setOn_univ]; exact hsub)) $$ H; iintro H
  rw [wp_ret]; imodintro
  isplitl [Ha]; · iexact Ha
  ihave H := (Entails.of_eq (pointsTo_congr (ℓ := agLoc c) (q := fullShare) (reduce_stores m l c (my c).toNat (my_lt c) (my_toNat c) f))) $$ H
  iexact H

/-! ## The result -/

theorem seg_finishIn (c : Dev nD) :
    rsHolds m 2 c ⊢ runs c finishIn fun v => iprop(⌜v = k0_pay12 (landed (part2 m) c)⌝ ∗ rsHolds m 2 c) := by
  unfold finishIn
  simp only [Prog.lift, Prog.bind_op, Prog.bind_ret]
  iintro H
  iapply (wp_load_rect 𝒱₀ (c : Thread nD τ) none Set.univ (m := rsM) (r := rsRow 2) (rsRow_sub 2)) $$ H; iintro H
  rw [rsRow_read m 2 c, Prog.pure_eq_ret, wp_ret]; imodintro
  isplitr; · (ipureintro; rfl)
  iexact H

theorem seg_finishOut (c : Dev nD) (f : Buf (Elt F) ((c : Thread nD τ).loc cc0_stg7_0)) :
    holds c cc0_stg7_0 f ⊢ runs c (finishOut (k0_pay12 (landed (part2 m) c))) fun _ => holds c cc0_stg7_0 (outAt m c) := by
  unfold finishOut holds
  simp only [Prog.lift, Prog.bind_op, Prog.bind_ret]
  iintro H
  iapply (wp_load 𝒱₀ (c : Thread nD τ) none Set.univ (m := outM) (Finset.subset_univ _)) $$ H; iintro H
  iapply (wp_store 𝒱₀ (c : Thread nD τ) none Set.univ (m := outM) (r := rOut) (Mk := Finset.univ) (Finset.subset_univ _)) $$ H; iintro H
  rw [write_out, wp_ret]; imodintro
  iexact H

end Cert.KernelIdeal.Mlp

end
-- ==== Proof.KernelIdeal.Exchange.lean ====
/-
# One exchange

The two exchanges of a layer: partial sums to the devices that add them up, and summed rows to every device.
-/
module

public import proofs.«01_k».proof.Proof.KernelIdeal.Segments

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

/-! ## Sequencing and regrouping -/

theorem runs_then (c : Dev nD) {α β : Type} {P : sProp 𝕄} {R : α → sProp 𝕄} {p : KProg F α} {f : α → KProg F β} {Q : β → sProp 𝕄}
    (h : P ⊢ runs c p R) : P ⊢ iprop((∀ a, R a -∗ runs c (f a) Q) -∗ runs c (p >>= f) Q) := by
  unfold runs
  rw [wp_bind]
  exact h.trans (wp_wand _ _ _)

theorem runs_ret (c : Dev nD) {α : Type} (a : α) {Q : α → sProp 𝕄} : Q a ⊢ runs c (Prog.ret a) Q := by
  unfold runs
  rw [wp_ret]
  iintro H
  imodintro
  iexact H

/-! ## What an exchange needs besides its data -/

/-- Over the peers: the tokens of family `b`'s duties that device `c` pays on its own cells, and on its peers' cells; the
    credit that its own cells will receive; its positions at round `n`. -/
def tokS (c : Dev nD) (b : Fin 10) : sProp 𝕄 := bigSep (others c) fun j => dutyTok ER (xcell c b j) 0 0
def tokR (c : Dev nD) (b : Fin 10) : sProp 𝕄 := bigSep (others c) fun j => dutyTok ER (xcell j b c) 0 0
def crd (c : Dev nD) (b : Fin 10) : sProp 𝕄 := bigSep (others c) fun j => cred (tallyAt (xcell c b j) () N)
def pos (c : Dev nD) (b : Fin 10) (n : ℕ) : sProp 𝕄 := bigSep (others c) fun j => atPos ER (xcell c b j) n ∅ 0

/-- What device `c` uses up in an exchange whose sending cells are family `bS` and whose landing cells are family `bR`. -/
def tools (c : Dev nD) (bS bR : Fin 10) : sProp 𝕄 := iprop(tokS c bS ∗ tokR c bR ∗ crd c bR ∗ pos c bS 0 ∗ pos c bR 0)
/-- What is left of it. -/
def spent (c : Dev nD) (bS bR : Fin 10) : sProp 𝕄 := iprop(pos c bS 1 ∗ pos c bR 1)

omit [FloatOps F] in
/-- The tokens go with the data into the sends. -/
theorem into_sends (c : Dev nD) (bS bR : Fin 10) (A B : Fin 32 → sProp 𝕄) :
    iprop(bigSep (others c) A ∗ bigSep (others c) B ∗ tokS c bS ∗ tokR c bR)
      ⊢ bigSep (others c) fun j => iprop(A j ∗ B j ∗ dutyTok ER (xcell c bS j) 0 0 ∗ dutyTok ER (xcell j bR c) 0 0) := by
  unfold tokS tokR
  rw [← bigSep_sep', ← bigSep_sep', ← bigSep_sep']

omit [FloatOps F] in
/-- The credits and the positions go into the waits. -/
theorem into_waits (c : Dev nD) (bS bR : Fin 10) :
    iprop((bigSep (others c) fun j => cred (tallyAt (xcell c bS j) () N)) ∗ crd c bR ∗ pos c bS 0 ∗ pos c bR 0)
      ⊢ bigSep (others c) fun j => iprop(toWait (F := F) c bR j ∗ toWait (F := F) c bS j) := by
  unfold crd pos
  rw [← bigSep_sep', ← bigSep_sep', ← bigSep_sep']
  refine bigSep_mono fun j _ => ?_
  show (_ : sProp 𝕄) ⊢ _
  unfold toWait
  iintro ⟨H₁, H₂, H₃, H₄⟩
  isplitl [H₂ H₄]
  · isplitl [H₂]; · iexact H₂
    iexact H₄
  isplitl [H₁]; · iexact H₁
  iexact H₃

/-- Out of the waits come both families' payloads. -/
theorem out_of_waits (c : Dev nD) (bS bR : Fin 10) :
    (bigSep (others c) fun j => iprop(waited m c bR j ∗ waited m c bS j))
      ⊢ iprop((bigSep (others c) fun j => xferPay m c bR j) ∗ (bigSep (others c) fun j => xferPay m c bS j) ∗ spent c bS bR) := by
  unfold spent pos
  rw [← bigSep_sep', ← bigSep_sep', ← bigSep_sep']
  refine bigSep_mono fun j _ => ?_
  show (_ : sProp 𝕄) ⊢ _
  unfold waited
  iintro ⟨⟨H₁, H₂⟩, H₃, H₄⟩
  isplitl [H₁]; · iexact H₁
  isplitl [H₃]; · iexact H₃
  isplitl [H₄]; · iexact H₄
  iexact H₂

/-! ## Buffers as a device's own piece and its peers' pieces -/

theorem acc_split (l : Fin 3) (c : Dev nD) :
    holds c cc0_scratch0 (part m l c) = iprop(accPts m l c c ∗ bigSep (others c) fun j => accPts m l c j) :=
  (acc_cut c fullShare (part m l c)).trans (bigSep_univ_at (fun j => accPts m l c j) c)
theorem rs_split (l : Fin 3) (c : Dev nD) : rsHolds m l c = iprop(rsPts m l c c ∗ bigSep (others c) fun j => rsPts m l c j) :=
  (rsLayer_cut c l fullShare (rsFull m c)).trans (bigSep_univ_at (fun j => rsPts m l c j) c)
theorem ag_split (l : Fin 2) (c : Dev nD) :
    agHolds m l c = iprop(agPts m fullShare l c c ∗ bigSep (others c) fun j => agPts m fullShare l c j) :=
  (agLayer_cut c l fullShare (agFull m c)).trans (bigSep_univ_at (fun j => agPts m fullShare l c j) c)
omit [FloatOps F] in
/-- A buffer held in full as one share per device. -/
theorem shares (ℓ : Loc nD τ sig) (I : Finset (Idx ℓ)) (f : Buf (Elt F) ℓ) :
    (ℓ ↦[I]{fullShare} f : sProp 𝕄) = bigSep Finset.univ fun j : Fin 32 => ℓ ↦[I]{shareOf j} f :=
  ShareLeaves.pointsTo_leaves I f 5 fullShare
/-- A device's own slot of summed rows as one share per transfer, and one that stays. -/
theorem own_split (l : Fin 2) (c : Dev nD) :
    agPts m fullShare l c c = iprop(agPts m (shareOf c) l c c ∗ bigSep (others c) fun j => agPts m (shareOf j) l c c) := by
  have h := shares (agLoc c) (agSet l c) (agFull m c)
  rw [bigSep_univ_at _ c] at h
  exact h

/-! ## The two exchanges of a layer -/

/-- The partial sums of layer `l` exchanged: each device ends with all devices' partial sums for its rows. -/
theorem exchange_rs (K : Dev nD × CK → ℕ) (c : Dev nD) (l : Fin 3) (O : CellTallies nD τ sig Unit) (hO : Above (famLevel (rsR l)) O)
    {α : Type} (k : KProg F α) (Q : α → sProp 𝕄) :
    iprop(holds c cc0_scratch0 (part m l c) ∗ rsAny l c c ∗ (bigSep (others c) fun j => rsAny (F := F) l j c) ∗ tools c (rsS l) (rsR l)
        ∗ at_ m K c (owedTo (dueX (rsR l) c) (peers c) O))
      ⊢ iprop(((holds c cc0_scratch0 (part m l c) ∗ rsHolds m l c ∗ spent c (rsS l) (rsR l) ∗ at_ m K c O) -∗ runs c k Q)
        -∗ runs c (seqs (rng 0 32) (rsSend c l) (keep c l >>= fun _ => seqs (rng 0 32) (rsWait c l) k)) Q) := by
  rw [acc_split, rs_split]
  unfold tools
  iintro ⟨⟨Hmine, Hrows⟩, Hown, Hdst, ⟨HtS, HtR, Hcr, HpS, HpR⟩, Hat⟩ Hk
  iapply (loop_rsSend m K c l O _ Q) $$ [Hrows Hdst HtS HtR Hat]
  · isplitr [Hat]
    · iapply (into_sends c (rsS l) (rsR l) (fun j => accPts m l c j) (fun j => rsAny (F := F) l j c))
      isplitl [Hrows]; · iexact Hrows
      isplitl [Hdst]; · iexact Hdst
      isplitl [HtS]; · iexact HtS
      iexact HtR
    iexact Hat
  iintro ⟨HcS, Hat⟩
  iapply (runs_then c (seg_keep m l c)) $$ [Hmine Hown]
  · isplitl [Hmine]; · iexact Hmine
    iexact Hown
  iintro %u ⟨Hmine, Hown⟩
  iapply (loop_rsWait m K c l O hO k Q) $$ [HcS Hcr HpS HpR Hat]
  · isplitr [Hat]
    · iapply (into_waits c (rsS l) (rsR l))
      isplitl [HcS]; · iexact HcS
      isplitl [Hcr]; · iexact Hcr
      isplitl [HpS]; · iexact HpS
      iexact HpR
    iexact Hat
  iintro ⟨Hw, Hat⟩
  ihave Hw := (out_of_waits m c (rsS l) (rsR l)) $$ Hw
  rw [bigSep_congr (s := others c) (fun j _ => xferPay_rsR m l c j), bigSep_congr (s := others c) (fun j _ => xferPay_rsS m l c j)]
  icases Hw with ⟨Hland, Hrows, Hsp⟩
  iapply Hk
  isplitl [Hmine Hrows]
  · isplitl [Hmine]; · iexact Hmine
    iexact Hrows
  isplitl [Hown Hland]
  · isplitl [Hown]; · iexact Hown
    iexact Hland
  isplitl [Hsp]; · iexact Hsp
  iexact Hat

/-- The summed rows of layer `l` exchanged: each device ends with all devices' rows. -/
theorem exchange_ag (K : Dev nD × CK → ℕ) (c : Dev nD) (l : Fin 2) (O : CellTallies nD τ sig Unit) (hO : Above (famLevel (agR l)) O)
    {α : Type} (k : KProg F α) (Q : α → sProp 𝕄) :
    iprop(rsHolds m (up l) c ∗ agAny l c c ∗ (bigSep (others c) fun j => agAny (F := F) l j c) ∗ tools c (agS l) (agR l)
        ∗ at_ m K c (owedTo (dueX (agR l) c) (peers c) O))
      ⊢ iprop(((rsHolds m (up l) c ∗ agHolds m l c ∗ spent c (agS l) (agR l) ∗ at_ m K c O) -∗ runs c k Q)
        -∗ runs c (reduce c l >>= fun _ => seqs (rng 0 32) (agSend c l) (seqs (rng 0 32) (agWait c l) k)) Q) := by
  rw [ag_split]
  unfold tools
  iintro ⟨Hrs, Hown, Hdst, ⟨HtS, HtR, Hcr, HpS, HpR⟩, Hat⟩ Hk
  iapply (runs_then c (seg_reduce m l c)) $$ [Hrs Hown]
  · isplitl [Hrs]; · iexact Hrs
    iexact Hown
  iintro %u ⟨Hrs, Hown⟩
  ihave Hown := (Entails.of_eq (own_split m l c)) $$ Hown
  icases Hown with ⟨Hstay, Hgo⟩
  iapply (loop_agSend m K c l O _ Q) $$ [Hgo Hdst HtS HtR Hat]
  · isplitr [Hat]
    · iapply (into_sends c (agS l) (agR l) (fun j => agPts m (shareOf j) l c c) (fun j => agAny (F := F) l j c))
      isplitl [Hgo]; · iexact Hgo
      isplitl [Hdst]; · iexact Hdst
      isplitl [HtS]; · iexact HtS
      iexact HtR
    iexact Hat
  iintro ⟨HcS, Hat⟩
  iapply (loop_agWait m K c l O hO k Q) $$ [HcS Hcr HpS HpR Hat]
  · isplitr [Hat]
    · iapply (into_waits c (agS l) (agR l))
      isplitl [HcS]; · iexact HcS
      isplitl [Hcr]; · iexact Hcr
      isplitl [HpS]; · iexact HpS
      iexact HpR
    iexact Hat
  iintro ⟨Hw, Hat⟩
  ihave Hw := (out_of_waits m c (agS l) (agR l)) $$ Hw
  rw [bigSep_congr (s := others c) (fun j _ => xferPay_agR m l c j), bigSep_congr (s := others c) (fun j _ => xferPay_agS m l c j)]
  icases Hw with ⟨Hland, Hback, Hsp⟩
  iapply Hk
  isplitl [Hrs]; · iexact Hrs
  isplitl [Hstay Hback Hland]
  · isplitl [Hstay Hback]
    · iapply (Entails.of_eq (own_split m l c).symm)
      isplitl [Hstay]; · iexact Hstay
      iexact Hback
    iexact Hland
  isplitl [Hsp]; · iexact Hsp
  iexact Hat

end Cert.KernelIdeal.Mlp

end
-- ==== Proof.KernelIdeal.Body.lean ====
/-
# The kernel's body

The whole body on one device: the handshake, three layers of partial sums, and the exchanges between them.
-/
module

public import proofs.«01_k».proof.Proof.KernelIdeal.Exchange
public import proofs.«01_k».proof.Proof.KernelIdeal.Parts

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

/-- The landing buffer and the buffer of summed rows, as one set of slots per device. -/
theorem scratch_slots (c : Dev nD) (f : Buf (Elt F) (rsLoc c)) (g : Buf (Elt F) (agLoc c)) :
    iprop(holds c cc0_scratch1 f ∗ holds c cc0_scratch2 g) ⊢ bigSep Finset.univ fun j => slots (F := F) c j := by
  have hr (l : Fin 3) : (rsLoc c ↦[rsLayer l]{fullShare} f : sProp 𝕄) ⊢ bigSep Finset.univ fun j => rsAny l c j := by
    rw [rsLayer_cut]
    refine bigSep_mono fun j _ => ?_
    show (_ : sProp 𝕄) ⊢ _
    unfold rsAny
    iintro H
    iexists f
    iexact H
  have ha (l : Fin 2) : (agLoc c ↦[agLayer l]{fullShare} g : sProp 𝕄) ⊢ bigSep Finset.univ fun j => agAny l c j := by
    rw [agLayer_cut]
    refine bigSep_mono fun j _ => ?_
    show (_ : sProp 𝕄) ⊢ _
    unfold agAny
    iintro H
    iexists g
    iexact H
  have er : (holds c cc0_scratch1 f : sProp 𝕄) = iprop((rsLoc c ↦[rsLayer 0]{fullShare} f) ∗ (rsLoc c ↦[rsLayer 1]{fullShare} f)
    ∗ (rsLoc c ↦[rsLayer 2]{fullShare} f)) := (rs_cut c fullShare f).trans (bigSep_univ_eq_bigSepL [0, 1, 2] (by decide) (by decide) _)
  have ea : (holds c cc0_scratch2 g : sProp 𝕄) = iprop((agLoc c ↦[agLayer 0]{fullShare} g) ∗ (agLoc c ↦[agLayer 1]{fullShare} g)) := (ag_cut c fullShare g).trans (bigSep_univ_eq_bigSepL [0, 1] (by decide) (by decide) _)
  rw [er, ea]
  unfold slots
  rw [bigSep_sep', bigSep_sep', bigSep_sep', bigSep_sep']
  iintro ⟨⟨H0, H1, H2⟩, G0, G1⟩
  isplitl [H0]; · iapply (hr 0); iexact H0
  isplitl [H1]; · iapply (hr 1); iexact H1
  isplitl [H2]; · iapply (hr 2); iexact H2
  isplitl [G0]; · iapply (ha 0); iexact G0
  iapply (ha 1); iexact G1

omit [FloatOps F] in
/-- The slots that the peers hand over, buffer by buffer. -/
theorem slots_apart (c : Dev nD) : (bigSep (others c) fun d => slots (F := F) d c)
    ⊢ iprop((bigSep (others c) fun d => rsAny (F := F) 0 d c) ∗ (bigSep (others c) fun d => rsAny (F := F) 1 d c)
      ∗ (bigSep (others c) fun d => rsAny (F := F) 2 d c) ∗ (bigSep (others c) fun d => agAny (F := F) 0 d c)
      ∗ bigSep (others c) fun d => agAny (F := F) 1 d c) := by
  unfold slots
  rw [bigSep_sep', bigSep_sep', bigSep_sep', bigSep_sep']

/-- The layers held again as whole buffers. -/
theorem layers_whole (c : Dev nD) :
    iprop((rsHolds m 0 c ∗ rsHolds m 1 c ∗ rsHolds m 2 c) ∗ agHolds m 0 c ∗ agHolds m 1 c)
      ⊢ iprop(holds c cc0_scratch1 (rsFull m c) ∗ holds c cc0_scratch2 (agFull m c)) := by
  have er : (holds c cc0_scratch1 (rsFull m c) : sProp 𝕄) = _ :=
    (rs_cut c fullShare (rsFull m c)).trans (bigSep_univ_eq_bigSepL [0, 1, 2] (by decide) (by decide) _)
  have ea : (holds c cc0_scratch2 (agFull m c) : sProp 𝕄) = _ :=
    (ag_cut c fullShare (agFull m c)).trans (bigSep_univ_eq_bigSepL [0, 1] (by decide) (by decide) _)
  rw [er, ea]
  exact Entails.refl _

/-- The staged arguments on device `c`. -/
def staged (c : Dev nD) : sProp 𝕄 :=
  iprop(holds c cc0_stg0_0 (inX m c) ∗ holds c cc0_stg1_0 (inWi0 m c) ∗ holds c cc0_stg2_0 (inWo0 m c) ∗ holds c cc0_stg3_0 (inWi1 m c)
    ∗ holds c cc0_stg4_0 (inWo1 m c) ∗ holds c cc0_stg5_0 (inWi2 m c) ∗ holds c cc0_stg6_0 (inWo2 m c))

/-- The tokens of the signals that device `c` sends. -/
def sigToks (c : Dev nD) : sProp 𝕄 := bigSep (others c) fun j => dutyTok ER (bar j) 0 c
/-- What device `c` brings to the five exchanges, and what they leave. -/
def allTools (c : Dev nD) : sProp 𝕄 :=
  iprop(tools c (rsS 0) (rsR 0) ∗ tools c (rsS 1) (rsR 1) ∗ tools c (rsS 2) (rsR 2) ∗ tools c (agS 0) (agR 0) ∗ tools c (agS 1) (agR 1))
def allSpent (c : Dev nD) : sProp 𝕄 :=
  iprop(spent c (rsS 0) (rsR 0) ∗ spent c (rsS 1) (rsR 1) ∗ spent c (rsS 2) (rsR 2) ∗ spent c (agS 0) (agR 0) ∗ spent c (agS 1) (agR 1))

set_option maxHeartbeats 800000 in
/-- The kernel's body on device `c`, from its first instruction to its last. -/
theorem run_body (K : Dev nD × CK → ℕ) (c : Dev nD) (f : Buf (Elt F) (accLoc c)) (g : Buf (Elt F) ((c : Thread nD τ).loc cc0_stg7_0)) :
    iprop(sigToks c ∗ (cred (tallyAt (bar c) () 31) ∗ atPos ER (bar c) 0 ∅ 0) ∗ allTools c ∗ at_ m K c (owed0 c)
        ∗ holds c cc0_scratch0 f ∗ (bigSep Finset.univ fun j => slots (F := F) c j) ∗ staged m c ∗ holds c cc0_stg7_0 g)
      ⊢ runs c body fun _ =>
        iprop(atPos ER (bar c) 1 ∅ 0 ∗ allSpent c ∗ at_ m K c 0
          ∗ holds c cc0_scratch0 (part m 2 c) ∗ (holds c cc0_scratch1 (rsFull m c) ∗ holds c cc0_scratch2 (agFull m c))
          ∗ staged m c ∗ holds c cc0_stg7_0 (outAt m c)) := by
  rw [bigSep_univ_at (fun j => slots (F := F) c j) c]
  unfold body allTools staged sigToks
  simp only [Prog.lift, Prog.bind_op, Prog.bind_ret, wp_deviceId]
  iintro ⟨Hsig, Hbar, ⟨T0, T1, T2, T3, T4⟩, Hat, Hacc, ⟨Hown, Hgive⟩, ⟨Hx, Hi0, Ho0, Hi1, Ho1, Hi2, Ho2⟩, Hout⟩
  iapply (loop_signal m K c (owed1 c)) $$ [Hsig Hgive Hat]
  · isplitr [Hat]
    · rw [bigSep_sep']
      isplitl [Hsig]; · iexact Hsig
      iexact Hgive
    iexact Hat
  iintro ⟨-, Hat⟩
  iapply (runs_then c (step_barrier m K c (owed1 c) (above1 c))) $$ [Hbar Hat]
  · isplitl [Hbar]; · iexact Hbar
    iexact Hat
  iintro %u ⟨⟨Hpeers, Hbar⟩, Hat⟩
  ihave Hpeers := (slots_apart (F := F) c) $$ Hpeers
  unfold slots
  icases Hown with ⟨M0, M1, M2, M3, M4⟩
  icases Hpeers with ⟨D0, D1, D2, D3, D4⟩
  iapply (runs_then c (seg_acc0 m c f)) $$ [Hx Hi0 Ho0 Hacc]
  · isplitl [Hx]; · iexact Hx
    isplitl [Hi0]; · iexact Hi0
    isplitl [Ho0]; · iexact Ho0
    iexact Hacc
  iintro %u ⟨Hx, Hi0, Ho0, Hacc⟩
  iapply (exchange_rs m K c 0 (owed2 c) (above2 c)) $$ [Hacc M0 D0 T0 Hat]
  · isplitl [Hacc]; · iexact Hacc
    isplitl [M0]; · iexact M0
    isplitl [D0]; · iexact D0
    isplitl [T0]; · iexact T0
    iexact Hat
  iintro ⟨Hacc, R0, S0, Hat⟩
  iapply (exchange_ag m K c 0 (owed3 c) (above3 c)) $$ [R0 M3 D3 T3 Hat]
  · isplitl [R0]; · iexact R0
    isplitl [M3]; · iexact M3
    isplitl [D3]; · iexact D3
    isplitl [T3]; · iexact T3
    iexact Hat
  iintro ⟨R0, G0, S3, Hat⟩
  iapply (runs_then c (seg_acc1 m c (part m 0 c))) $$ [G0 Hi1 Ho1 Hacc]
  · isplitl [G0]; · iexact G0
    isplitl [Hi1]; · iexact Hi1
    isplitl [Ho1]; · iexact Ho1
    iexact Hacc
  iintro %u ⟨G0, Hi1, Ho1, Hacc⟩
  iapply (exchange_rs m K c 1 (owed4 c) (above4 c)) $$ [Hacc M1 D1 T1 Hat]
  · isplitl [Hacc]; · iexact Hacc
    isplitl [M1]; · iexact M1
    isplitl [D1]; · iexact D1
    isplitl [T1]; · iexact T1
    iexact Hat
  iintro ⟨Hacc, R1, S1, Hat⟩
  iapply (exchange_ag m K c 1 (owed5 c) (above5 c)) $$ [R1 M4 D4 T4 Hat]
  · isplitl [R1]; · iexact R1
    isplitl [M4]; · iexact M4
    isplitl [D4]; · iexact D4
    isplitl [T4]; · iexact T4
    iexact Hat
  iintro ⟨R1, G1, S4, Hat⟩
  iapply (runs_then c (seg_acc2In m c)) $$ [G1 Hi2]
  · isplitl [G1]; · iexact G1
    iexact Hi2
  iintro %p ⟨%hp, G1, Hi2⟩
  subst hp
  iapply (runs_then c (seg_acc2Out m c (part m 1 c))) $$ [Ho2 Hacc]
  · isplitl [Ho2]; · iexact Ho2
    iexact Hacc
  iintro %u ⟨Ho2, Hacc⟩
  iapply (exchange_rs m K c 2 0 (Above.zero _)) $$ [Hacc M2 D2 T2 Hat]
  · isplitl [Hacc]; · iexact Hacc
    isplitl [M2]; · iexact M2
    isplitl [D2]; · iexact D2
    isplitl [T2]; · iexact T2
    iexact Hat
  iintro ⟨Hacc, R2, S2, Hat⟩
  iapply (runs_then c (seg_finishIn m c)) $$ [R2]
  · iexact R2
  iintro %v ⟨%hv, R2⟩
  subst hv
  iapply (runs_then c (seg_finishOut m c g)) $$ [Hout]
  · iexact Hout
  iintro %u Hout
  iapply (runs_ret c PUnit.unit)
  isplitl [Hbar]; · iexact Hbar
  isplitl [S0 S1 S2 S3 S4]
  · unfold allSpent
    isplitl [S0]; · iexact S0
    isplitl [S1]; · iexact S1
    isplitl [S2]; · iexact S2
    isplitl [S3]; · iexact S3
    iexact S4
  isplitl [Hat]; · iexact Hat
  isplitl [Hacc]; · iexact Hacc
  isplitl [R0 R1 R2 G0 G1]
  · iapply (layers_whole m c)
    isplitl [R0 R1 R2]
    · isplitl [R0]; · iexact R0
      isplitl [R1]; · iexact R1
      iexact R2
    isplitl [G0]; · iexact G0
    iexact G1
  isplitr [Hout]
  · isplitl [Hx]; · iexact Hx
    isplitl [Hi0]; · iexact Hi0
    isplitl [Ho0]; · iexact Ho0
    isplitl [Hi1]; · iexact Hi1
    isplitl [Ho1]; · iexact Ho1
    isplitl [Hi2]; · iexact Hi2
    iexact Ho2
  iexact Hout

end Cert.KernelIdeal.Mlp

end
-- ==== Proof.KernelIdeal.Closing.lean ====
/-
# Closing the cells

When the body has run, every cell of a device has been through its one round, or, for the cells that would belong to a
transfer to itself, has none. So each cell closes, with its counter at zero.
-/
module

public import proofs.«01_k».proof.Proof.KernelIdeal.Body

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

omit [FloatOps F] in
/-- The ten families in the order of the exchanges. -/
theorem families (Φ : Fin 10 → sProp 𝕄) : bigSep Finset.univ Φ
    = iprop(Φ (rsS 0) ∗ Φ (rsR 0) ∗ Φ (rsS 1) ∗ Φ (rsR 1) ∗ Φ (rsS 2) ∗ Φ (rsR 2) ∗ Φ (agS 0) ∗ Φ (agR 0) ∗ Φ (agS 1) ∗ Φ (agR 1)) :=
  bigSep_univ_eq_bigSepL [rsS 0, rsR 0, rsS 1, rsR 1, rsS 2, rsR 2, agS 0, agR 0, agS 1, agR 1] (by decide) (by decide) Φ

/-- The cells that no transfer uses: a device's own place in each family. -/
def idle (c : Dev nD) : sProp 𝕄 := bigSep Finset.univ fun b : Fin 10 => atPos ER (xcell c b c) 0 ∅ 0

/-- Device `c`'s transfer cells at zero. -/
def zeros (c : Dev nD) : sProp 𝕄 := bigSep Finset.univ fun b : Fin 10 => bigSep Finset.univ fun j : Fin 32 => semVal (xcell c b j) 0

theorem allSpent_families (c : Dev nD) : allSpent c ⊢ bigSep Finset.univ fun b => pos (F := F) c b 1 := by
  rw [families]
  unfold allSpent spent
  iintro ⟨⟨A0, A1⟩, ⟨A2, A3⟩, ⟨A4, A5⟩, ⟨A6, A7⟩, A8, A9⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

theorem close_cell (K : Dev nD × CK → ℕ) (c : Dev nD) (k : CK) (n : ℕ) (h : ∀ r, n ≤ r → (Rd m).duties (kcell c k) r = ∅) :
    iprop(known m K ∗ atPos ER (kcell c k) n ∅ 0) ⊢ |={Set.univ}=> semVal (kcell c k) 0 :=
  (sep_mono_left (known_inv m K c k)).trans (Rounds.cell_close ER (Rd m) (Set.mem_univ (K (c, k))) (fun h => h) (R := n) h)

theorem close_family (K : Dev nD × CK → ℕ) (c : Dev nD) (b : Fin 10) :
    iprop(known m K ∗ (atPos ER (xcell c b c) 0 ∅ 0 ∗ pos c b 1)) ⊢ |={Set.univ}=> bigSep Finset.univ fun j => semVal (xcell c b j) 0 := by
  rw [bigSep_univ_at (fun j => (semVal (xcell c b j) 0 : sProp 𝕄)) c]
  unfold pos
  iintro ⟨#HK, Hown, Hpos⟩
  imod (close_cell m K c (some (b, c)) 0 (duties_own m c b)) $$ [Hown] with H0
  · isplitr; · iexact HK
    iexact Hown
  imod ((bigSep_with_persistent (R := known m K) fun j _ => close_cell m K c (some (b, j)) 1 (duties_later m _)).trans (bigSep_fupd _ _)) $$ [Hpos] with H1
  · isplitr; · iexact HK
    iexact Hpos
  imodintro
  isplitl [H0]; · iexact H0
  iexact H1

theorem close_all (K : Dev nD × CK → ℕ) (c : Dev nD) :
    iprop(known m K ∗ atPos ER (bar c) 1 ∅ 0 ∗ allSpent c ∗ idle c) ⊢ |={Set.univ}=> iprop(semVal (bar c) 0 ∗ zeros c) := by
  unfold idle zeros
  iintro ⟨#HK, Hbar, Hsp, Hid⟩
  ihave Hpos := (allSpent_families c) $$ Hsp
  imod (close_cell m K c none 1 (duties_later m _)) $$ [Hbar] with H0
  · isplitr; · iexact HK
    iexact Hbar
  ihave Hp := (Entails.of_eq (bigSep_sep' Finset.univ (fun b : Fin 10 => (atPos ER (xcell c b c) 0 ∅ 0 : sProp 𝕄)) (fun b => pos c b 1)).symm) $$ [Hid Hpos]
  · isplitl [Hid]; · iexact Hid
    iexact Hpos
  imod ((bigSep_with_persistent (R := known m K) fun b _ => close_family m K c b).trans (bigSep_fupd _ _)) $$ [Hp] with H1
  · isplitr; · iexact HK
    iexact Hp
  imodintro
  isplitl [H0]; · iexact H0
  iexact H1

end Cert.KernelIdeal.Mlp

end
-- ==== Proof.KernelIdeal.Obligation.lean ====
/-
# The body meets the pipeline's obligation

What a device holds when its body starts and when it ends, and that the body leads from one to the other.
-/
module

public import proofs.«01_k».proof.Proof.KernelIdeal.Closing
public import proofs.«01_k».proof.Proof.Gen.KernelIdeal.Points
public import proofs.«01_k».proof.Proof.Gen.KernelIdeal.Launch
public import Idealize.ShloMosaic.Lib.Pipeline.Launch

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

/-- What device `c` brings: the shared facts, and its own share of the tokens, positions and credits. -/
def start (c : Dev nD) : sProp 𝕄 :=
  iprop(∃ K, known m K ∗ sigToks c ∗ (cred (tallyAt (bar c) () 31) ∗ atPos ER (bar c) 0 ∅ 0) ∗ allTools c ∗ idle c)

/-- Before the body: that, and the scratch buffers at any contents. -/
def Φ₀ (c : Dev nD) : sProp 𝕄 :=
  iprop(start m c ∗ (∃ f, holds c cc0_scratch0 f) ∗ (∃ f, holds c cc0_scratch1 f) ∗ ∃ f, holds c cc0_scratch2 f)
/-- After it: the scratch buffers at their last contents, and every cell's counter at zero. -/
def Φ₁ (c : Dev nD) : sProp 𝕄 :=
  iprop((holds c cc0_scratch0 (part m 2 c) ∗ holds c cc0_scratch1 (rsFull m c) ∗ holds c cc0_scratch2 (agFull m c))
    ∗ semVal (bar c) 0 ∗ zeros c)

def dats (_ : Fin 1) (c : Dev nD) : Dat τ (Elt F) Unit ℕ UU ℕ cfg0 c where
  A w := m ((cfg0.win w).arr.view.loc (c : Thread nD τ))
  after w _ := match w with
    | ⟨0, _⟩ => inX m c
    | ⟨1, _⟩ => inWi0 m c
    | ⟨2, _⟩ => inWo0 m c
    | ⟨3, _⟩ => inWi1 m c
    | ⟨4, _⟩ => inWo1 m c
    | ⟨5, _⟩ => inWi2 m c
    | ⟨6, _⟩ => inWo2 m c
    | ⟨7, _⟩ => outAt m c
  Φ t := match t with
    | ⟨0, _⟩ => Φ₀ m c
    | ⟨_ + 1, _⟩ => Φ₁ m c
  q _ := fullShare
  owed t := match t with
    | ⟨0, _⟩ => owed0 c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ holds c b f) := by
  unfold owns holds
  simp only [Memref.view_whole, View.read_whole, View.set_whole]

theorem before_0 (c : Dev nD) (d) : (dats m 0 c).before (0 : Fin 8) t0_0 d = inX m c := by
  unfold Dat.before
  rw [if_pos (fetch0_0 _)]
  rfl
theorem before_1 (c : Dev nD) (d) : (dats m 0 c).before (1 : Fin 8) t0_0 d = inWi0 m c := by
  unfold Dat.before
  rw [if_pos (fetch0_1 _)]
  rfl
theorem before_2 (c : Dev nD) (d) : (dats m 0 c).before (2 : Fin 8) t0_0 d = inWo0 m c := by
  unfold Dat.before
  rw [if_pos (fetch0_2 _)]
  rfl
theorem before_3 (c : Dev nD) (d) : (dats m 0 c).before (3 : Fin 8) t0_0 d = inWi1 m c := by
  unfold Dat.before
  rw [if_pos (fetch0_3 _)]
  rfl
theorem before_4 (c : Dev nD) (d) : (dats m 0 c).before (4 : Fin 8) t0_0 d = inWo1 m c := by
  unfold Dat.before
  rw [if_pos (fetch0_4 _)]
  rfl
theorem before_5 (c : Dev nD) (d) : (dats m 0 c).before (5 : Fin 8) t0_0 d = inWi2 m c := by
  unfold Dat.before
  rw [if_pos (fetch0_5 _)]
  rfl
theorem before_6 (c : Dev nD) (d) : (dats m 0 c).before (6 : Fin 8) t0_0 d = inWo2 m c := by
  unfold Dat.before
  rw [if_pos (fetch0_6 _)]
  rfl

abbrev stg (c : Dev nD) (b : Ref sig .tc) (X : b.ty.Contents (Elt F)) : sProp 𝕄 :=
  iprop(∃ f : Buf (Elt F) ((c : Thread nD τ).loc b), ⌜f = X⌝ ∗ holds c b f)

def bodyPre (c : Dev nD) : sProp 𝕄 :=
  iprop(Φ₀ m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))
def bodyPost (c : Dev nD) : sProp 𝕄 :=
  iprop(Φ₁ m c ∗ (dats m 0 c).owesAt () t0_0.succ
    ∗ stg c cc0_stg0_0 (inX m c) ∗ stg c cc0_stg1_0 (inWi0 m c) ∗ stg c cc0_stg2_0 (inWo0 m c) ∗ stg c cc0_stg3_0 (inWi1 m c) ∗ stg c cc0_stg4_0 (inWo1 m c) ∗ stg c cc0_stg5_0 (inWi2 m c) ∗ stg c cc0_stg6_0 (inWo2 m c)
    ∗ stg c cc0_stg7_0 (outAt m c))

/-- The body, from what the pipeline hands it to what the pipeline takes back. -/
theorem sound_body (c : Dev nD) : bodyPre m c ⊢ runs c (onArgs (cc0_body (F := F))) fun _ => bodyPost m c := by
  rw [body_eq]
  unfold bodyPre Φ₀ start Dat.owesAt Pipeline.owesWithin
  rw [show (dats m 0 c).owed t0_0.castSucc = owed0 c from rfl]
  iintro ⟨⟨⟨%K, #HK, Hsig, Hbar, Htools, Hidle⟩, ⟨%fa, Hacc⟩, ⟨%fr, Hrs⟩, ⟨%fg, Hag⟩⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩⟩
  rw [before_0] at h0; subst h0; rw [before_1] at h1; subst h1; rw [before_2] at h2; subst h2; rw [before_3] at h3; subst h3; rw [before_4] at h4; subst h4; rw [before_5] at h5; subst h5; rw [before_6] at h6; subst h6
  ihave Hslots := (scratch_slots c fr fg) $$ [Hrs Hag]
  · isplitl [Hrs]; · iexact Hrs
    iexact Hag
  unfold runs
  iapply (wp_fupd _ _ _ _ _)
  iapply wp_wand $$ [Hsig Hbar Htools HO Hacc Hslots H0 H1 H2 H3 H4 H5 H6 H7]
  · iapply (run_body m K c fa g7)
    isplitl [Hsig]; · iexact Hsig
    isplitl [Hbar]; · iexact Hbar
    isplitl [Htools]; · iexact Htools
    isplitl [HO]
    · unfold at_
      isplitr; · iexact HK
      iexists W
      iexact HO
    isplitl [Hacc]; · iexact Hacc
    isplitl [Hslots]; · iexact Hslots
    isplitr [H7]; swap; · iexact H7
    unfold staged
    isplitl [H0]; · iexact H0
    isplitl [H1]; · iexact H1
    isplitl [H2]; · iexact H2
    isplitl [H3]; · iexact H3
    isplitl [H4]; · iexact H4
    isplitl [H5]; · iexact H5
    iexact H6
  unfold at_ staged
  iintro %u ⟨Hbar, Hspent, ⟨-, ⟨%W', HO⟩⟩, Hacc, ⟨Hrs, Hag⟩, ⟨H0, H1, H2, H3, H4, H5, H6⟩, H7⟩
  imod (close_all m K c) $$ [Hbar Hspent Hidle] with ⟨Hz, Hzs⟩
  · isplitr; · iexact HK
    isplitl [Hbar]; · iexact Hbar
    isplitl [Hspent]; · iexact Hspent
    iexact Hidle
  imodintro
  unfold bodyPost Φ₁ Dat.owesAt Pipeline.owesWithin
  rw [show (dats m 0 c).owed t0_0.succ = 0 from rfl]
  isplitl [Hacc Hrs Hag Hz Hzs]
  · isplitl [Hacc Hrs Hag]
    · isplitl [Hacc]; · iexact Hacc
      isplitl [Hrs]; · iexact Hrs
      iexact Hag
    isplitl [Hz]; · iexact Hz
    iexact Hzs
  isplitl [HO]
  · iexists W'
    isplitr
    · ipureintro; exact fun _ _ => Or.inl trivial
    iexact HO
  isplitl [H0]
  · iexists _
    isplitr
    · ipureintro; rfl
    iexact H0
  isplitl [H1]
  · iexists _
    isplitr
    · ipureintro; rfl
    iexact H1
  isplitl [H2]
  · iexists _
    isplitr
    · ipureintro; rfl
    iexact H2
  isplitl [H3]
  · iexists _
    isplitr
    · ipureintro; rfl
    iexact H3
  isplitl [H4]
  · iexists _
    isplitr
    · ipureintro; rfl
    iexact H4
  isplitl [H5]
  · iexists _
    isplitr
    · ipureintro; rfl
    iexact H5
  isplitl [H6]
  · iexists _
    isplitr
    · ipureintro; rfl
    iexact H6
  iexists _
  isplitr
  · ipureintro; rfl
  iexact H7

/-- The pipeline's obligation for the body. -/
theorem body_obligation (c : Dev nD) : BodyObligation (dats (F := F) m 0 c) (defs₀ (F := F)) 𝒱₀ () Set.univ := fun t => by
  rw [show t = t0_0 from fin_N0 t]
  rw [show (∀ Φ : Fin cfg0.W → sProp 𝕄, bigSep Finset.univ Φ = _) from fun Φ => bigSep_W0 Φ,
    show (∀ Φ : Fin cfg0.W → sProp 𝕄, bigSep Finset.univ Φ = _) from fun Φ => bigSep_W0 Φ]
  simp only [owns_whole]
  exact sound_body m c

end Cert.KernelIdeal.Mlp

end
-- ==== Proof.KernelIdeal.Launch.lean ====
/-
# What the launch deals the devices

The cells of all devices are set up together: their invariants, one token per duty, and each device's credit for what the
others owe it. The token of a duty goes to the device that pays it: of a barrier cell to the peer that signals, of a cell
for landed data to the peer that sends.
-/
module

public import proofs.«01_k».proof.Proof.KernelIdeal.Obligation

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ)

/-! ## The kernel's own semaphores -/

abbrev osem (p : Fin 10 × Fin 32) : SemLoc sig := .dma (dsem p.1 p.2)

theorem ownSemFacts : Pipeline.OwnSemFacts cfg0.spec osem where
  isScoped := by decide +kernel
  inj := fun p q h => Option.some.inj (csem_inj (a₁ := some p) (a₂ := some q) h)
  disj := by decide +kernel

omit [FloatOps F] in
theorem ownSems_zeros (c : Dev nD) : (Pipeline.ownSems0 (Ix := Unit) (Name := ℕ) (U := UU) (Lvl := ℕ) (Val := Elt F) (τ := τ) osem c : sProp 𝕄)
    = zeros c := by
  unfold Pipeline.ownSems0 zeros
  rw [bigSep_univ_prod]
  rfl

omit [FloatOps F] in
/-- The barrier semaphore is the one that outlives the kernel. -/
theorem unscoped_bar (c : Dev nD) : (unscopedSems0 c : sProp 𝕄) = semVal (bar c) 0 := by
  unfold unscopedSems0
  rw [show (Finset.univ.filter fun sm : SemLoc sig => ¬ sm.isScoped .tc) = {csem none} from by decide +kernel, bigSep_singleton]

omit [FloatOps F] in
/-- A device's cells, the barrier cell apart. -/
theorem cells_apart (Φ : CK → sProp 𝕄) : bigSep Finset.univ Φ = iprop(Φ none ∗ bigSep Finset.univ fun p : Fin 10 × Fin 32 => Φ (some p)) := by
  rw [bigSep_univ_at Φ none, show (Finset.univ.erase none : Finset CK) = Finset.univ.map Function.Embedding.some from by ext k; cases k <;> simp,
    bigSep_map]
  rfl

/-! ## Tokens -/

theorem kcell_inj : Function.Injective fun p : Dev nD × CK => kcell p.1 p.2 := by
  rintro ⟨c, k⟩ ⟨c', k'⟩ h
  have h1 : c = c' := congrArg (fun g : GSem nD τ sig => g.1.1) h
  have h2 : k = k' := csem_inj (congrArg Prod.snd h)
  rw [h1, h2]

def allCells : Finset (GSem nD τ sig) := Finset.univ.map ⟨fun p : Dev nD × CK => kcell p.1 p.2, kcell_inj⟩

/-- The duties of a device's cells: of the barrier cell one per device, of every other cell one. -/
abbrev Duty : Type := Fin 32 ⊕ (Fin 10 × Fin 32)
def tokOf (p : Dev nD × Duty) : GSem nD τ sig × ℕ × Fin 32 :=
  match p.2 with
  | .inl d => (bar p.1, 0, d)
  | .inr q => (xcell p.1 q.1 q.2, 0, 0)

theorem tokOf_inj : Function.Injective tokOf := by
  rintro ⟨c, k⟩ ⟨c', k'⟩ h
  rcases k with d | q <;> rcases k' with d' | q'
  · have h1 := kcell_inj (a₁ := (c, none)) (a₂ := (c', none)) (congrArg Prod.fst h)
    have h2 : d = d' := congrArg (fun x : GSem nD τ sig × ℕ × Fin 32 => x.2.2) h
    cases h1; rw [h2]
  · cases kcell_inj (a₁ := (c, none)) (a₂ := (c', some q')) (congrArg Prod.fst h)
  · cases kcell_inj (a₁ := (c, some q)) (a₂ := (c', none)) (congrArg Prod.fst h)
  · cases kcell_inj (a₁ := (c, some q)) (a₂ := (c', some q')) (congrArg Prod.fst h); rfl

def allToks : Finset (GSem nD τ sig × ℕ × Fin 32) := Finset.univ.map ⟨tokOf, tokOf_inj⟩

def u₀ : UU := (initOf (Pipeline.cells cfgs cellOf_inj) (Pipeline.launchToks cfgs cellOf_inj), initOf allCells allToks)

/-- The tokens of the duties of device `c`'s own cells. -/
def ownToks (c : Dev nD) : sProp 𝕄 :=
  iprop((bigSep Finset.univ fun d : Fin 32 => dutyTok ER (bar c) 0 d)
    ∗ bigSep Finset.univ fun b : Fin 10 => bigSep Finset.univ fun j : Fin 32 => dutyTok ER (xcell c b j) 0 0)

/-- What the launch deals device `c` of its own cells. -/
def G (c : Dev nD) : sProp 𝕄 :=
  iprop((bigSep Finset.univ fun k : CK => roundState ER (Rd m) (kcell c k) 0)
    ∗ (bigSep Finset.univ fun k : CK => atPos ER (kcell c k) 0 ∅ 0)
    ∗ (bigSep Finset.univ fun k : CK => reached ER (kcell c k) 0) ∗ ownToks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell c k) := by
    unfold allCells
    rw [bigSep_map, bigSep_univ_prod]
    rfl
  have hT : bigSep allToks (fun x => (dutyTok ER x.1 x.2.1 x.2.2 : sProp 𝕄)) = bigSep Finset.univ fun c : Dev nD => ownToks c := by
    unfold allToks
    rw [bigSep_map, bigSep_univ_prod]
    refine bigSep_congr fun c _ => ?_
    unfold ownToks
    rw [bigSep_univ_sum, ← bigSep_univ_prod (fun q : Fin 10 × Fin 32 => (dutyTok ER (xcell c q.1 q.2) 0 0 : sProp 𝕄))]
    rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat]; · iexact Hat
  isplitl [Hr]; · iexact Hr
  iexact Htok

/-! ## Invariants -/

/-- Device `c`'s cells, set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell c k)))
          ∗ (bigSep Finset.univ fun k => atPos ER (kcell c k) 0 ∅ 0)
          ∗ (bigSep Finset.univ fun k => reached ER (kcell c k) 0) ∗ ownToks c) := by
  have hv : iprop(semVal (bar c) 0 ∗ zeros c) ⊢ (bigSep Finset.univ fun k : CK => semVal (kcell c k) 0 : sProp 𝕄) := by
    rw [cells_apart, bigSep_univ_prod]
    exact Entails.refl _
  rw [ownSems_zeros, unscoped_bar]
  unfold G
  iintro ⟨Hz, Hb, Hst, Hat, Hr, Htok⟩
  ihave Hv := hv $$ [Hz Hb]
  · isplitl [Hb]; · iexact Hb
    iexact Hz
  ihave Hc := (Entails.of_eq (bigSep_sep' Finset.univ (fun k : CK => (semVal (kcell c k) 0 : sProp 𝕄)) (fun k => roundState ER (Rd m) (kcell c k) 0)).symm) $$ [Hv Hst]
  · isplitl [Hv]; · iexact Hv
    iexact Hst
  imod (show (_ : sProp 𝕄) ⊢ (|={Set.univ}=> bigSep Finset.univ fun k : CK => iprop(∃ κ : ℕ, cellInv ER (Rd m) κ (kcell c k)) : sProp 𝕄) from
    (bigSep_mono fun k _ => (Rounds.body_intro ER (Rd m) (kcell c k)).trans inv_alloc).trans (bigSep_fupd _ _)) $$ Hc with Hinv
  imodintro
  isplitl [Hinv]; · iexact Hinv
  isplitl [Hat]; · iexact Hat
  isplitl [Hr]; · iexact Hr
  iexact Htok

/-! ## Dealing the tokens and positions -/

/-- What stays with device `c` alone: its positions, and the tokens of the duties that it pays. -/
def linear (c : Dev nD) : sProp 𝕄 :=
  iprop((atPos ER (bar c) 0 ∅ 0 ∗ idle c ∗ bigSep Finset.univ fun b => pos c b 0)
    ∗ sigToks c ∗ (tokS c (rsS 0) ∗ tokR c (rsR 0)) ∗ (tokS c (rsS 1) ∗ tokR c (rsR 1)) ∗ (tokS c (rsS 2) ∗ tokR c (rsR 2))
    ∗ (tokS c (agS 0) ∗ tokR c (agR 0)) ∗ (tokS c (agS 1) ∗ tokR c (agR 1)))

theorem positions (c : Dev nD) : (bigSep Finset.univ fun k : CK => (atPos ER (kcell c k) 0 ∅ 0 : sProp 𝕄))
    ⊢ iprop(atPos ER (bar c) 0 ∅ 0 ∗ idle c ∗ bigSep Finset.univ fun b => pos c b 0) := by
  rw [cells_apart, bigSep_univ_prod]
  unfold idle pos
  rw [← bigSep_sep']
  exact sep_mono_right (bigSep_mono fun b _ => Entails.of_eq (bigSep_univ_at (fun j => (atPos ER (xcell c b j) 0 ∅ 0 : sProp 𝕄)) c))

/-- Every device's tokens of a family, to the device itself; -/
theorem keep_toks (b : Fin 10) : (bigSep Finset.univ fun c : Dev nD => bigSep Finset.univ fun j : Fin 32 => (dutyTok ER (xcell c b j) 0 0 : sProp 𝕄))
    ⊢ bigSep Finset.univ fun c => tokS c b :=
  bigSep_mono fun c _ => bigSep_subset (Finset.erase_subset _ _)
/-- to the peers. -/
theorem give_toks (b : Fin 10) : (bigSep Finset.univ fun c : Dev nD => bigSep Finset.univ fun j : Fin 32 => (dutyTok ER (xcell c b j) 0 0 : sProp 𝕄))
    ⊢ bigSep Finset.univ fun c => tokR c b := by
  rw [bigSep_univ_comm]
  exact bigSep_mono fun c _ => bigSep_subset (Finset.erase_subset _ _)
theorem give_sigs : (bigSep Finset.univ fun c : Dev nD => bigSep Finset.univ fun d : Fin 32 => (dutyTok ER (bar c) 0 d : sProp 𝕄))
    ⊢ bigSep Finset.univ fun c => sigToks c := by
  rw [bigSep_univ_comm]
  exact bigSep_mono fun c _ => bigSep_subset (Finset.erase_subset _ _)

theorem deal : iprop((bigSep Finset.univ fun c : Dev nD => bigSep Finset.univ fun k : CK => (atPos ER (kcell c k) 0 ∅ 0 : sProp 𝕄))
      ∗ bigSep Finset.univ fun c : Dev nD => ownToks c) ⊢ bigSep Finset.univ fun c => linear c := by
  have hpos : (bigSep Finset.univ fun c : Dev nD => bigSep Finset.univ fun k : CK => (atPos ER (kcell c k) 0 ∅ 0 : sProp 𝕄))
      ⊢ bigSep Finset.univ fun c : Dev nD => iprop(atPos ER (bar c) 0 ∅ 0 ∗ idle c ∗ bigSep Finset.univ fun b => pos c b 0) :=
    bigSep_mono fun c _ => positions c
  have htok := Entails.of_eq ((bigSep_univ_comm fun (c : Dev nD) (b : Fin 10) => (bigSep Finset.univ fun j : Fin 32 => dutyTok ER (xcell c b j) 0 0 : sProp 𝕄)).trans
    (families _))
  simp only [bigSep_sep'] at hpos
  unfold linear ownToks
  simp only [bigSep_sep']
  iintro ⟨Hat, Hs, Ht⟩
  ihave Hat := hpos $$ Hat
  ihave Hs := (give_sigs (F := F)) $$ Hs
  ihave Ht := htok $$ Ht
  icases Ht with ⟨A0, B0, A1, B1, A2, B2, A3, B3, A4, B4⟩
  isplitl [Hat]; · iexact Hat
  isplitl [Hs]; · iexact Hs
  isplitl [A0 B0]
  · isplitl [A0]
    · iapply (keep_toks (F := F) (b := _)); iexact A0
    iapply (give_toks (F := F) (b := _)); iexact B0
  isplitl [A1 B1]
  · isplitl [A1]
    · iapply (keep_toks (F := F) (b := _)); iexact A1
    iapply (give_toks (F := F) (b := _)); iexact B1
  isplitl [A2 B2]
  · isplitl [A2]
    · iapply (keep_toks (F := F) (b := _)); iexact A2
    iapply (give_toks (F := F) (b := _)); iexact B2
  isplitl [A3 B3]
  · isplitl [A3]
    · iapply (keep_toks (F := F) (b := _)); iexact A3
    iapply (give_toks (F := F) (b := _)); iexact B3
  isplitl [A4]
  · iapply (keep_toks (F := F) (b := _)); iexact A4
  iapply (give_toks (F := F) (b := _)); iexact B4

/-! ## Credits -/

theorem owedTo_sum (f : Fin 32 → CellTallies nD τ sig Unit) (c : Dev nD) (O : CellTallies nD τ sig Unit) :
    owedTo f (peers c) O = O + ∑ j ∈ others c, f j := by
  have h : ∀ l : List (Fin 32), owedTo f l O = O + (l.map f).sum := fun l => by
    induction l with
    | nil => exact (add_zero _).symm
    | cons j r ih =>
      show owedTo f r O + f j = _
      rw [ih, List.map_cons, List.sum_cons, add_assoc, add_comm (f j)]
  rw [h, ← List.sum_toFinset f (peers_nodup c), peers_toFinset]

/-- One round of dues turned into credits: where every device owes `f d j` to each peer `j`, and that is what the peer is
    credited with from `d`. -/
theorem cred_round (O : Dev nD → CellTallies nD τ sig Unit) (f : Dev nD → Fin 32 → CellTallies nD τ sig Unit)
    (hf : ∀ d j g, f d j g ≠ 0 → g.1 = ((j : Dev nD) : Thread nD τ)) (c : Dev nD) :
    (Pipeline.launchCred (fun d => owedTo (f d) (peers d) (O d)) c : sProp 𝕄)
      = iprop(Pipeline.launchCred O c ∗ bigSep (others c) fun j => cred (f j c)) := by
  have e : (fun d => owedTo (f d) (peers d) (O d)) = fun d => O d + ∑ j ∈ others d, f d j := funext fun d => owedTo_sum (f d) d (O d)
  rw [e, Pipeline.launchCred_add]
  refine congrArg (fun X => iprop(Pipeline.launchCred O c ∗ X)) ?_
  rw [Pipeline.launchCred_of_sum _ (fun d => ∑ j ∈ others d, f j d), Pipeline.cred_finsetSum]
  · refine Finset.sum_comm' fun d j => ?_
    unfold others
    simp only [Finset.mem_univ, Finset.mem_erase, true_and, and_true]
    exact ne_comm
  · intro d g hg
    by_contra hn
    refine hg ?_
    rw [Finset.sum_apply]
    refine Finset.sum_eq_zero fun j _ => ?_
    by_contra h
    exact hn (hf j d g h)

theorem tally_at (c : Dev nD) (k : CK) (x : ℕ) (g : GSem nD τ sig) (h : (tallyAt (kcell c k) () x : CellTallies nD τ sig Unit) g ≠ 0) :
    g.1 = ((c : Dev nD) : Thread nD τ) := by
  by_contra hn
  exact h (tallyAt_ne_cell (fun e => hn (by rw [e])) () x)

theorem bar_sum (c : Dev nD) : (∑ _j ∈ others c, (tallyAt (bar c) () 1 : CellTallies nD τ sig Unit)) = tallyAt (bar c) () 31 := by
  rw [Finset.sum_const, show (others c).card = 31 from by unfold others; rw [Finset.card_erase_of_mem (Finset.mem_univ _), Finset.card_univ, Fintype.card_fin]]
  refine funext fun g => Finsupp.ext fun u => ?_
  rw [Pi.smul_apply, Finsupp.smul_apply, tallyAt_apply, tallyAt_apply]
  split <;> rfl

theorem creds (c : Dev nD) : (Pipeline.launchCred owed0 c : sProp 𝕄) ⊢ iprop(cred (tallyAt (bar c) () 31)
    ∗ crd c (rsR 0) ∗ crd c (rsR 1) ∗ crd c (rsR 2) ∗ crd c (agR 0) ∗ crd c (agR 1)) := by
  have h5 : (Pipeline.launchCred owed5 c : sProp 𝕄) = iprop(Pipeline.launchCred (fun _ => 0) c ∗ crd c (rsR 2)) :=
    cred_round _ (dueX (rsR 2)) (fun d j => tally_at j _ _) c
  have h4 : (Pipeline.launchCred owed4 c : sProp 𝕄) = iprop(Pipeline.launchCred owed5 c ∗ crd c (agR 1)) :=
    cred_round _ (dueX (agR 1)) (fun d j => tally_at j _ _) c
  have h3 : (Pipeline.launchCred owed3 c : sProp 𝕄) = iprop(Pipeline.launchCred owed4 c ∗ crd c (rsR 1)) :=
    cred_round _ (dueX (rsR 1)) (fun d j => tally_at j _ _) c
  have h2 : (Pipeline.launchCred owed2 c : sProp 𝕄) = iprop(Pipeline.launchCred owed3 c ∗ crd c (agR 0)) :=
    cred_round _ (dueX (agR 0)) (fun d j => tally_at j _ _) c
  have h1 : (Pipeline.launchCred owed1 c : sProp 𝕄) = iprop(Pipeline.launchCred owed2 c ∗ crd c (rsR 0)) :=
    cred_round _ (dueX (rsR 0)) (fun d j => tally_at j _ _) c
  have h0 : (Pipeline.launchCred owed0 c : sProp 𝕄) = iprop(Pipeline.launchCred owed1 c ∗ cred (tallyAt (bar c) () 31)) := by
    rw [← bar_sum, Pipeline.cred_finsetSum]
    exact cred_round _ (fun _ => dueSig) (fun d j => tally_at j _ _) c
  rw [h0, h1, h2, h3, h4, h5]
  iintro ⟨⟨⟨⟨⟨⟨-, H5⟩, H4⟩, H3⟩, H2⟩, H1⟩, H0⟩
  isplitl [H0]; · iexact H0
  isplitl [H1]; · iexact H1
  isplitl [H3]; · iexact H3
  isplitl [H5]; · iexact H5
  isplitl [H2]; · iexact H2
  iexact H4

end Cert.KernelIdeal.Mlp

end
-- ==== Proof.KernelIdeal.Run.lean ====
/-
# The run of the kernel

Every execution of the kernel on the 32 devices ends; at its end each device's arguments are unchanged, its result is `outAt`,
and every semaphore is at zero.
-/
module

public import proofs.«01_k».proof.Proof.KernelIdeal.Launch
public import Idealize.ShloMosaic.Lib.Pipeline.CollectiveSegs

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxRecDepth 8000

variable (m : (ℓ : Loc nD τ sig) → Buf (Elt F) ℓ) (ρ : Dev nD → PrngReg)

abbrev EP : Emb (UR sig nD τ) (MT nD τ sig Unit (Elt F) ℕ UU ℕ) := embL

/-! ## From the launch to the body -/

/-- The invariants and marks of all cells. -/
def records (K : Dev nD × CK → ℕ) : sProp 𝕄 :=
  iprop((bigSep Finset.univ fun p : Dev nD × CK => cellInv ER (Rd m) (K p) (kcell p.1 p.2))
    ∗ bigSep Finset.univ fun p : Dev nD × CK => reached ER (kcell p.1 p.2) 0)
instance records_persistent (K : Dev nD × CK → ℕ) : BI.Persistent (records m K) := by unfold records; infer_instance

/-- What device `c` has once all cells are set up. -/
def G' (c : Dev nD) : sProp 𝕄 := iprop(∃ K, records m K ∗ linear c)

theorem set_up : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) := by
  have h : (_ : sProp 𝕄) ⊢ _ := (bigSep_mono fun c _ => core_alloc m c).trans (bigSep_fupd (Finset.univ : Finset (Dev nD)) _)
  refine h.trans (BI.fupd_mono ?_)
  rw [bigSep_sep', bigSep_sep', bigSep_sep', ← bigSep_univ_prod (fun p : Dev nD × CK => iprop(∃ κ : ℕ, cellInv ER (Rd m) κ (kcell p.1 p.2))),
    ← bigSep_univ_prod (fun p : Dev nD × CK => (reached ER (kcell p.1 p.2) 0 : sProp 𝕄))]
  show (_ : sProp 𝕄) ⊢ _
  iintro ⟨HI, Hat, #HR, Htok⟩
  ihave HK := (BI.bigSep_exists_pi Finset.univ (fun (p : Dev nD × CK) (κ : ℕ) => (cellInv ER (Rd m) κ (kcell p.1 p.2) : sProp 𝕄))) $$ HI
  icases HK with ⟨%K, #HI⟩
  ihave Hl := (deal (F := F)) $$ [Hat Htok]
  · isplitl [Hat]; · iexact Hat
    iexact Htok
  iapply (bigSep_with_persistent (R := records m K) (Φ := linear) fun c _ => by
    unfold G'
    iintro ⟨#H, Hl⟩
    iexists K
    isplitr; · iexact H
    iexact Hl)
  isplitr
  · unfold records
    isplitr; · iexact HI
    iexact HR
  iexact Hl

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  unfold G' linear records
  iintro ⟨-, Hlev, Hcr, -, ⟨%K, ⟨HI, HR⟩, ⟨Hbar, Hidle, Hpos⟩, Hsig, ⟨S0, R0⟩, ⟨S1, R1⟩, ⟨S2, R2⟩, ⟨S3, R3⟩, S4, R4⟩⟩
  ihave Hc := (creds (F := F) c) $$ Hcr
  icases Hc with ⟨Cb, C0, C1, C2, C3, C4⟩
  ihave Hp := (Entails.of_eq (families (F := F) fun b => pos c b 0)) $$ Hpos
  icases Hp with ⟨P0, Q0, P1, Q1, P2, Q2, P3, Q3, P4, Q4⟩
  imodintro
  isplitl
  · unfold start known levels_ allTools tools
    iexists K
    isplitl [HI HR Hlev]
    · isplitl [HI]; · iexact HI
      isplitl [HR]; · iexact HR
      iexact Hlev
    isplitl [Hsig]; · iexact Hsig
    isplitl [Cb Hbar]
    · isplitl [Cb]; · iexact Cb
      iexact Hbar
    isplitr [Hidle]; swap; · iexact Hidle
    isplitl [S0 R0 C0 P0 Q0]
    · isplitl [S0]; · iexact S0
      isplitl [R0]; · iexact R0
      isplitl [C0]; · iexact C0
      isplitl [P0]; · iexact P0
      iexact Q0
    isplitl [S1 R1 C1 P1 Q1]
    · isplitl [S1]; · iexact S1
      isplitl [R1]; · iexact R1
      isplitl [C1]; · iexact C1
      isplitl [P1]; · iexact P1
      iexact Q1
    isplitl [S2 R2 C2 P2 Q2]
    · isplitl [S2]; · iexact S2
      isplitl [R2]; · iexact R2
      isplitl [C2]; · iexact C2
      isplitl [P2]; · iexact P2
      iexact Q2
    isplitl [S3 R3 C3 P3 Q3]
    · isplitl [S3]; · iexact S3
      isplitl [R3]; · iexact R3
      isplitl [C3]; · iexact C3
      isplitl [P3]; · iexact P3
      iexact Q3
    isplitl [S4]; · iexact S4
    isplitl [R4]; · iexact R4
    isplitl [C4]; · iexact C4
    isplitl [P4]; · iexact P4
    iexact Q4
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ holds
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems_zeros, unscoped_bar]
  unfold Φ₁ holds
  iintro ⟨⟨Ha, Hr, Hg⟩, Hb, Hz⟩
  isplitl [Hb]; · iexact Hb
  isplitl [Hz]; · iexact Hz
  isplitl [Ha]; · iexists _; iexact Ha
  isplitl [Hr]; · iexists _; iexact Hr
  iexists _; iexact Hg

theorem stage_low : ∀ (w : Fin 8) (s : Fin (spec0 w).nbuf), levelOf (keyOf (.dma ((spec0 w).sem s))) = 0 := by decide +kernel

theorem waits (c : Dev nD) : (levAts L lv : sProp 𝕄) ⊢ Pipeline.cellsWaits cfgs (dats m) () 0 c :=
  Pipeline.cellsWaits_intro cfgs (dats m) () 0 c fun w s t =>
    mayWait_above c _ 0 (le_of_eq (stage_low w s)) _ (by
      rcases t with ⟨_ | _, ht⟩
      · exact above0 c
      · exact Above.zero 0)

/-! ## The run -/

def finalA (c : Dev nD) (w : Fin cfg0.W) : Buf (Elt F) ((cfg0.win w).arr.view.loc (c : Thread nD τ)) := (dats m 0 c).arrAt w cfg0.N

theorem run_arrays : θ_run defs (onTc (τ := τ) (main (F := F))) ⟨m, fun _ => 0, ρ⟩ (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0)
    (hshare := fun c w => by unfold Dat.share; split <;> rfl)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := set_up m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Mlp

end
-- ==== Proof.KernelIdeal.Result.lean ====
/-
# What the run leaves in the arrays
-/
module

public import proofs.«01_k».proof.Proof.KernelIdeal.Run
public import Idealize.ShloMosaic.Lib.Pipeline.ValueKit.Geometry

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem final_out (c : Dev nD) : finalA m c (7 : Fin 8) = outAt m c :=
  (dats m 0 c).arrAt_eq_of_after_last (7 : Fin 8) t0_0 (by decide +kernel) (outAt m c) fun j => rfl

/-- Device `c`'s arguments in the memory `mm` are those in `m`. -/
def SameArgs (mm : (ℓ : Loc nD τ sig) → Buf (Elt F) ℓ) (c : Dev nD) : Prop :=
  mm ((c : Thread nD τ).loc main_arg0) = m ((c : Thread nD τ).loc main_arg0) ∧ mm ((c : Thread nD τ).loc main_arg1) = m ((c : Thread nD τ).loc main_arg1) ∧ mm ((c : Thread nD τ).loc main_arg2) = m ((c : Thread nD τ).loc main_arg2) ∧ mm ((c : Thread nD τ).loc main_arg3) = m ((c : Thread nD τ).loc main_arg3) ∧ mm ((c : Thread nD τ).loc main_arg4) = m ((c : Thread nD τ).loc main_arg4) ∧ mm ((c : Thread nD τ).loc main_arg5) = m ((c : Thread nD τ).loc main_arg5) ∧ mm ((c : Thread nD τ).loc main_arg6) = m ((c : Thread nD τ).loc main_arg6)

/-- Every execution ends, with every device's result `outAt`, its arguments unchanged, and every semaphore at zero. -/
theorem run_result : θ_run defs (onTc (τ := τ) (main (F := F))) ⟨m, fun _ => 0, ρ⟩ (fun r =>
    (∀ c : Dev nD, r.2.mem ((c : Thread nD τ).loc main_v1) = outAt m c ∧ SameArgs m r.2.mem c) ∧ r.2.sem = fun _ => 0) :=
  (θ_run defs _ _).mono (fun _ h => ⟨fun c => ⟨(h.1 c (7 : Fin 8)).trans (final_out m c),
    (h.1 c (0 : Fin 8)).trans ((dats m 0 c).arrAt_in (0 : Fin 8) rfl _),
    (h.1 c (1 : Fin 8)).trans ((dats m 0 c).arrAt_in (1 : Fin 8) rfl _),
    (h.1 c (2 : Fin 8)).trans ((dats m 0 c).arrAt_in (2 : Fin 8) rfl _),
    (h.1 c (3 : Fin 8)).trans ((dats m 0 c).arrAt_in (3 : Fin 8) rfl _),
    (h.1 c (4 : Fin 8)).trans ((dats m 0 c).arrAt_in (4 : Fin 8) rfl _),
    (h.1 c (5 : Fin 8)).trans ((dats m 0 c).arrAt_in (5 : Fin 8) rfl _),
    (h.1 c (6 : Fin 8)).trans ((dats m 0 c).arrAt_in (6 : Fin 8) rfl _)⟩, h.2⟩) (run_arrays m ρ)

/-- The staged arguments are the arguments. -/
theorem inX_eq (c : Dev nD) : inX m c = m ((c : Thread nD τ).loc main_arg0) := by
  unfold inX
  exact Memref.read_access_unit_zero (Elt F) main_arg0 (funext fun a => by fin_cases a <;> rfl) _ _
theorem inWi0_eq (c : Dev nD) : inWi0 m c = m ((c : Thread nD τ).loc main_arg1) := by
  unfold inWi0
  exact Memref.read_access_unit_zero (Elt F) main_arg1 (funext fun a => by fin_cases a <;> rfl) _ _
theorem inWo0_eq (c : Dev nD) : inWo0 m c = m ((c : Thread nD τ).loc main_arg2) := by
  unfold inWo0
  exact Memref.read_access_unit_zero (Elt F) main_arg2 (funext fun a => by fin_cases a <;> rfl) _ _
theorem inWi1_eq (c : Dev nD) : inWi1 m c = m ((c : Thread nD τ).loc main_arg3) := by
  unfold inWi1
  exact Memref.read_access_unit_zero (Elt F) main_arg3 (funext fun a => by fin_cases a <;> rfl) _ _
theorem inWo1_eq (c : Dev nD) : inWo1 m c = m ((c : Thread nD τ).loc main_arg4) := by
  unfold inWo1
  exact Memref.read_access_unit_zero (Elt F) main_arg4 (funext fun a => by fin_cases a <;> rfl) _ _
theorem inWi2_eq (c : Dev nD) : inWi2 m c = m ((c : Thread nD τ).loc main_arg5) := by
  unfold inWi2
  exact Memref.read_access_unit_zero (Elt F) main_arg5 (funext fun a => by fin_cases a <;> rfl) _ _
theorem inWo2_eq (c : Dev nD) : inWo2 m c = m ((c : Thread nD τ).loc main_arg6) := by
  unfold inWo2
  exact Memref.read_access_unit_zero (Elt F) main_arg6 (funext fun a => by fin_cases a <;> rfl) _ _

end Cert.KernelIdeal.Mlp

end
-- ==== Proof.KernelIdeal.Layers.lean ====
/-
# The kernel's values at the ideal floats

There every operation is exact, so a layer's partial sums on a device are a plain double sum, and adding the partial sums of
all devices gives the layer of the whole weights: the hidden units are cut into 32 stretches of 512.
-/
module

public import proofs.«01_k».proof.Proof.KernelIdeal.Result
public import proofs.«01_k».proof.Proof.Gen.ReferenceIdeal
public import Idealize.ShloMosaic.PureOps.Ideal
public import Idealize.ShloMosaic.PureOps.Ideal.Laws
public import Idealize.ShloMosaic.Lib.MatmulPlain
public import Idealize.ShloMosaic.Lib.StackMember
public import Idealize.ShloMosaic.Lib.Layout

@[expose] public section

set_option synthInstance.maxSize 4096

noncomputable section

namespace Cert.KernelIdeal.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- One layer with `n` hidden units: `max (x · wi) 0 · wo`. -/
def layer {n : Nat} (x : FVec Ideal S256x256 .f32) (wi : FVec Ideal ⟨2, ![256, n]⟩ .f32) (wo : FVec Ideal ⟨2, ![n, 256]⟩ .f32) :
    FVec Ideal S256x256 .f32 :=
  fun i => ∑ k : Fin n, max (∑ j : Fin 256, x (ix2 (i 0 : Fin 256) j) * wi (ix2 j k)) 0 * wo (ix2 k (i 1 : Fin 256))

/-- A sum over `a · b` positions, stretch by stretch. -/
theorem sum_stretches {M : Type} [AddCommMonoid M] (a b n : Nat) (h : a * b = n) (f : Fin n → M)
    (at' : Fin a → Fin b → Fin n) (hat : ∀ d k, (at' d k).val = d.val * b + k.val) :
    ∑ d : Fin a, ∑ k : Fin b, f (at' d k) = ∑ k : Fin n, f k := by
  subst h
  rw [← Finset.sum_product', Finset.univ_product_univ]
  refine Fintype.sum_equiv finProdFinEquiv _ _ fun p => congrArg f (Fin.ext ?_)
  rw [hat, finProdFinEquiv_apply_val]
  ring

/-! ## One layer -/

theorem ofBits_zero : Scalar.ofBits (F := Ideal) .f32 0x00000000#32 = 0 := Ideal.ofBits_zero_f32

theorem local_layer (x : FVec Ideal S256x256 .f32) (wi : FVec Ideal S256x512 .f32) (wo : FVec Ideal S512x256 .f32) :
    matmul dot_S256x512_S512x256_S256x256_1_0_0_1_n_n none
      (maximumf (matmul dot_S256x256_S256x512_S256x512_1_0_0_1_n_n none x wi (constant S256x512 .f32 0x00000000#32))
        (broadcast S256x512 (Scalar.ofBits .f32 0x00000000#32)))
      wo (constant S256x256 .f32 0x00000000#32) = layer (n := 512) x wi wo := by
  funext i
  obtain ⟨r, n, rfl⟩ : ∃ (r n : Fin 256), i = ix2 r n := ⟨i 0, i 1, eq_ix2 i⟩
  rw [show dot_S256x512_S512x256_S256x256_1_0_0_1_n_n = DotDims.plain 256 512 256 from rfl,
    show dot_S256x256_S256x512_S256x512_1_0_0_1_n_n = DotDims.plain 256 256 512 from rfl]
  refine (Ideal.matmul_plain_apply none _ wo _ r n).trans ?_
  rw [show (constant S256x256 .f32 0x00000000#32 : FVec Ideal S256x256 .f32) (ix2 r n) = 0 from ofBits_zero, zero_add]
  refine Finset.sum_congr rfl fun k _ => congrArg (· * wo (ix2 k n)) ?_
  refine congrArg₂ max ((Ideal.matmul_plain_apply none x wi _ r k).trans ?_) ofBits_zero
  rw [show (constant S256x512 .f32 0x00000000#32 : FVec Ideal S256x512 .f32) (ix2 r k) = 0 from ofBits_zero, zero_add]

theorem whole_layer (x : FVec Ideal S256x256 .f32) (wi : FVec Ideal ⟨2, ![256, 16384]⟩ .f32) (wo : FVec Ideal ⟨2, ![16384, 256]⟩ .f32) :
    Host.dotGeneral Cert.ReferenceIdeal.dot_S256x16384_S16384x256_S256x256_1_0_0_1_n_n none
      (maximumf (Host.dotGeneral Cert.ReferenceIdeal.dot_S256x256_S256x16384_S256x16384_1_0_0_1_n_n none x wi)
        (broadcastInDim Cert.ReferenceIdeal.S256x16384 ![] Cert.ReferenceIdeal.Gen.bcast_S_S256x16384
          (constant Cert.ReferenceIdeal.S_ .f32 0x00000000#32)))
      wo = layer (n := 16384) x wi wo := by
  funext i
  obtain ⟨r, n, rfl⟩ : ∃ (r n : Fin 256), i = ix2 r n := ⟨i 0, i 1, eq_ix2 i⟩
  rw [show Cert.ReferenceIdeal.dot_S256x16384_S16384x256_S256x256_1_0_0_1_n_n = DotDims.plain 256 16384 256 from rfl,
    show Cert.ReferenceIdeal.dot_S256x256_S256x16384_S256x16384_1_0_0_1_n_n = DotDims.plain 256 256 16384 from rfl]
  refine (StackMember.dotGeneral_plain_apply none _ wo r n).trans ?_
  refine Finset.sum_congr rfl fun k _ => congrArg (· * wo (ix2 k n)) ?_
  exact congrArg₂ max (StackMember.dotGeneral_plain_apply none x wi r k) ofBits_zero

/-- The devices' partial sums of a layer add up to the layer of the whole weights. -/
theorem layer_split (x : FVec Ideal S256x256 .f32) (wi : FVec Ideal ⟨2, ![256, 16384]⟩ .f32) (wo : FVec Ideal ⟨2, ![16384, 256]⟩ .f32)
    (i : S256x256.Idx) :
    ∑ d : Fin 32, layer (n := 512) x (Layout.block ⟨2, ![256, 512]⟩ ⟨2, ![256, 16384]⟩ 1 32 d wi)
        (Layout.block ⟨2, ![512, 256]⟩ ⟨2, ![16384, 256]⟩ 0 32 d wo) i
      = layer (n := 16384) x wi wo i := by
  refine Eq.trans (Finset.sum_congr rfl fun d _ => Finset.sum_congr rfl fun k _ => ?_)
    (sum_stretches 32 512 16384 rfl
      (fun k => max (∑ j : Fin 256, x (ix2 (i 0 : Fin 256) j) * wi (ix2 j k)) 0 * wo (ix2 k (i 1 : Fin 256)))
      (fun d k => ⟨d.val * 512 + k.val, by omega⟩) fun _ _ => rfl)
  have hi : ∀ j : Fin 256, Layout.block ⟨2, ![256, 512]⟩ ⟨2, ![256, 16384]⟩ 1 32 d wi (by decide) (ix2 j k)
      = wi (ix2 j (⟨d.val * 512 + k.val, by omega⟩ : Fin 16384)) := fun j =>
    congrArg wi (funext fun a => Fin.ext (by fin_cases a <;> rfl))
  have ho : Layout.block ⟨2, ![512, 256]⟩ ⟨2, ![16384, 256]⟩ 0 32 d wo (by decide) (ix2 k (i 1 : Fin 256))
      = wo (ix2 (⟨d.val * 512 + k.val, by omega⟩ : Fin 16384) (i 1 : Fin 256)) :=
    congrArg wo (funext fun a => Fin.ext (by fin_cases a <;> rfl))
  rw [ho]
  simp only [hi]

/-! ## The stored values -/

theorem cast_self {s : Shape} {α : Type} (v : s.Idx → α) (h : s.ShapeCasts s) : shapeCast s v h = v :=
  funext fun i => shapeCast_apply v h i i rfl

theorem pay2_eq (x : FVec Ideal S256x256 .f32) (wi : FVec Ideal S256x512 .f32) (wo : FVec Ideal S512x256 .f32) :
    k0_pay2 x wi wo = layer (n := 512) x wi wo := by
  unfold k0_pay2
  simp only [cast_self]
  exact local_layer x wi wo

theorem pay5_eq (v : FVec Ideal S1x32x8x256 .f32) (wi : FVec Ideal S256x512 .f32) (wo : FVec Ideal S512x256 .f32) :
    k0_pay5 v wi wo = layer (n := 512) (k0_pay8 v) wi wo := by
  unfold k0_pay5 k0_pay8
  simp only [cast_self]
  exact local_layer _ wi wo

theorem pay10_eq (x : FVec Ideal S256x256 .f32) (wi : FVec Ideal S256x512 .f32) (wo : FVec Ideal S512x256 .f32) :
    k0_pay10 x (k0_pay9 wi) wo = layer (n := 512) x wi wo := by
  unfold k0_pay10 k0_pay9
  simp only [cast_self]
  exact local_layer x wi wo

/-! ## Adding the devices' rows -/

theorem drop_unit (v : FVec Ideal S1x32x8x256 .f32) (d : Fin 32) (r : Fin 8) (n : Fin 256) :
    shapeCast S32x8x256 v shapeCasts_S1x32x8x256_S32x8x256 (ix3 d r n) = v (ix4 0 d r n) := by
  refine shapeCast_apply (t := S32x8x256) v shapeCasts_S1x32x8x256_S32x8x256 (ix3 d r n) (ix4 0 d r n) ?_
  rw [Shape.rowMajor_val_four, Shape.rowMajor_val_three]
  show ((0 * 32 + d.val) * 8 + r.val) * 256 + n.val = (d.val * 8 + r.val) * 256 + n.val
  omega

/-- Adding up over the devices, at an index. -/
theorem add_devices (v : FVec Ideal S32x8x256 .f32) (r : Fin 8) (n : Fin 256) :
    multiReduction .add [0] S8x256 v 0x00000000#32 reduces_S32x8x256_S8x256 (.inl rfl) rfl (ix2 r n) = ∑ d : Fin 32, v (ix3 d r n) := by
  refine (Ideal.multiReduction_add_single v _ reduces_S32x8x256_S8x256 (.inl rfl) rfl (ix2 r n)).trans ?_
  refine Finset.sum_congr rfl fun d _ => congrArg v (funext fun a => ?_)
  fin_cases a <;> rfl

theorem summed_apply (A : Dev nD → FVec Ideal S256x256 .f32) (c : Dev nD) (r : Fin 8) (n : Fin 256) :
    summed (F := Ideal) A c (ix4 0 0 r n) = ∑ d : Fin 32, A d (ix2 (rowOf c r) n) := by
  unfold summed k0_pay4
  refine (shapeCast_apply (t := S1x1x8x256) _ shapeCasts_S8x256_S1x1x8x256 (ix4 0 0 r n) (ix2 r n) ?_).trans ?_
  · rw [Shape.rowMajor_val_four, Shape.rowMajor_val_two]
    show r.val * 256 + n.val = ((0 * 1 + 0) * 8 + r.val) * 256 + n.val
    omega
  · rw [add_devices]
    exact Finset.sum_congr rfl fun d _ => drop_unit _ d r n

theorem gathered_apply (A : Dev nD → FVec Ideal S256x256 .f32) :
    k0_pay8 (gathered (F := Ideal) A) = fun i => ∑ d : Fin 32, A d i := by
  funext i
  obtain ⟨q, n, rfl⟩ : ∃ (q n : Fin 256), i = ix2 q n := ⟨i 0, i 1, eq_ix2 i⟩
  let c : Fin 32 := ⟨q.val / 8, by omega⟩
  let r : Fin 8 := ⟨q.val % 8, by omega⟩
  unfold k0_pay8
  refine (shapeCast_apply (t := S256x256) _ shapeCasts_S32x8x256_S256x256 (ix2 q n) (ix3 c r n) ?_).trans ?_
  · rw [Shape.rowMajor_val_three, Shape.rowMajor_val_two]
    show (q.val / 8 * 8 + q.val % 8) * 256 + n.val = q.val * 256 + n.val
    omega
  · rw [drop_unit]
    refine (summed_apply A c r n).trans ?_
    have h : rowOf c r = q := Fin.ext (by show 8 * (q.val / 8) + q.val % 8 = q.val; omega)
    rw [h]

theorem out_apply (A : Dev nD → FVec Ideal S256x256 .f32) (c : Dev nD) (r : Fin 8) (n : Fin 256) :
    k0_pay1 (k0_pay12 (landed (F := Ideal) A c)) (ix2 r n) = ∑ d : Fin 32, A d (ix2 (rowOf c r) n) := by
  unfold k0_pay1 k0_pay12
  rw [add_devices]
  exact Finset.sum_congr rfl fun d _ => drop_unit _ d r n

/-! ## The three layers -/

/-- The whole network on whole weights. -/
def network (x : FVec Ideal S256x256 .f32) (wi0 wi1 wi2 : FVec Ideal ⟨2, ![256, 16384]⟩ .f32) (wo0 wo1 wo2 : FVec Ideal ⟨2, ![16384, 256]⟩ .f32) :
    FVec Ideal S256x256 .f32 :=
  layer (n := 16384) (layer (n := 16384) (layer (n := 16384) x wi0 wo0) wi1 wo1) wi2 wo2

/-- Device `d`'s block of an input weight, and of an output weight. -/
abbrev cutIn (d : Fin 32) (w : FVec Ideal ⟨2, ![256, 16384]⟩ .f32) : FVec Ideal S256x512 .f32 :=
  Layout.block ⟨2, ![256, 512]⟩ ⟨2, ![256, 16384]⟩ 1 32 d w
abbrev cutOut (d : Fin 32) (w : FVec Ideal ⟨2, ![16384, 256]⟩ .f32) : FVec Ideal S512x256 .f32 :=
  Layout.block ⟨2, ![512, 256]⟩ ⟨2, ![16384, 256]⟩ 0 32 d w

variable (m : (ℓ : Loc nD τ sig) → Buf (Elt Ideal) ℓ)

/-- With every device's weights blocks of the whole ones, device `c`'s result is block `c` of the network's. -/
theorem outAt_eq (x : FVec Ideal S256x256 .f32) (wi0 wi1 wi2 : FVec Ideal ⟨2, ![256, 16384]⟩ .f32)
    (wo0 wo1 wo2 : FVec Ideal ⟨2, ![16384, 256]⟩ .f32)
    (hx : ∀ d, inX m d = x) (hi0 : ∀ d, inWi0 m d = cutIn d wi0) (ho0 : ∀ d, inWo0 m d = cutOut d wo0)
    (hi1 : ∀ d, inWi1 m d = cutIn d wi1) (ho1 : ∀ d, inWo1 m d = cutOut d wo1)
    (hi2 : ∀ d, inWi2 m d = cutIn d wi2) (ho2 : ∀ d, inWo2 m d = cutOut d wo2) (c : Dev nD) :
    outAt m c = Layout.block ⟨2, ![8, 256]⟩ ⟨2, ![256, 256]⟩ 0 32 c (network x wi0 wi1 wi2 wo0 wo1 wo2) := by
  have e0 : k0_pay8 (gathered (part0 m)) = layer (n := 16384) x wi0 wo0 := by
    rw [gathered_apply]
    funext i
    rw [← layer_split]
    refine Finset.sum_congr rfl fun d _ => ?_
    unfold part0
    rw [pay2_eq, hx, hi0, ho0]
  have e1 : k0_pay8 (gathered (part1 m)) = layer (n := 16384) (layer (n := 16384) x wi0 wo0) wi1 wo1 := by
    rw [gathered_apply]
    funext i
    rw [← layer_split]
    refine Finset.sum_congr rfl fun d _ => ?_
    unfold part1
    rw [pay5_eq, e0, hi1, ho1]
  funext i
  obtain ⟨r, n, rfl⟩ : ∃ (r : Fin 8) (n : Fin 256), i = ix2 r n := ⟨i 0, i 1, eq_ix2 i⟩
  unfold outAt
  rw [out_apply]
  have hr : Layout.block ⟨2, ![8, 256]⟩ ⟨2, ![256, 256]⟩ 0 32 c (network x wi0 wi1 wi2 wo0 wo1 wo2) (by decide) (ix2 r n)
      = network x wi0 wi1 wi2 wo0 wo1 wo2 (ix2 (rowOf c r) n) :=
    congrArg (network x wi0 wi1 wi2 wo0 wo1 wo2) (funext fun a => Fin.ext (by
      fin_cases a
      · show c.val * 8 + r.val = 8 * c.val + r.val
        omega
      · rfl))
  rw [hr]
  unfold network
  rw [← layer_split]
  refine Finset.sum_congr rfl fun d _ => ?_
  unfold part2
  rw [pay10_eq, e1, hi2, ho2]

end Cert.KernelIdeal.Mlp

end
-- ==== Proof.lean ====
/-
# The certificate's claims

The all-reduce kernel on 32 devices, at the device's floats and at the ideal ones, and the reference on one device. Both kernel
runs are `Mlp.run_result` (modules `Proof/Kernel/` and `Proof/KernelIdeal/`): every execution ends, every semaphore is at zero,
the arguments are as they were and the result is `outAt`. `Mlp.outAt_eq` (`Proof/KernelIdeal/Layers.lean`) says that at the ideal
floats this is the device's block of the network on the whole weights, which is what the reference computes.
-/
module

public import proofs.«01_k».proof.Defs
public import proofs.«01_k».proof.Proof.Kernel.Result
public import proofs.«01_k».proof.Proof.KernelIdeal.Result
public import proofs.«01_k».proof.Proof.KernelIdeal.Layers
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel at the device's floats. -/
theorem kernel_frame : Cert.quiescent_Kernel := fun m ρ _ =>
  (θ_run Cert.Kernel.defs _ _).mono (fun _ h => ⟨fun c => (h.1 c).2, h.2⟩) (Cert.Kernel.Mlp.run_result m ρ)

/-- The kernel at the ideal floats. -/
theorem ideal_frame : Cert.quiescent_KernelIdeal := fun m ρ _ =>
  (θ_run Cert.KernelIdeal.defs _ _).mono (fun _ h => ⟨fun c => (h.1 c).2, h.2⟩) (Cert.KernelIdeal.Mlp.run_result m ρ)

/-- The reference, which has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Each device's result is its block of the reference's. -/
theorem algebraic : Cert.algebraic_KernelIdeal_ReferenceIdeal := by
  intro m ρ m' ρ' _ h
  let whole (b) := m' (((0 : Dev Cert.ReferenceIdeal.nD).tc : Thread Cert.ReferenceIdeal.nD Cert.ReferenceIdeal.τ).loc b)
  refine ⟨Cert.KernelIdeal.Mlp.network (whole Cert.ReferenceIdeal.main_arg0) (whole Cert.ReferenceIdeal.main_arg1)
      (whole Cert.ReferenceIdeal.main_arg3) (whole Cert.ReferenceIdeal.main_arg5) (whole Cert.ReferenceIdeal.main_arg2)
      (whole Cert.ReferenceIdeal.main_arg4) (whole Cert.ReferenceIdeal.main_arg6), ?_, ?_⟩
  · refine (θ_run Cert.KernelIdeal.defs _ _).mono (fun _ hr c => ⟨(hr.1 c).1.trans ?_, (hr.1 c).2⟩) (Cert.KernelIdeal.Mlp.run_result m ρ)
    exact Cert.KernelIdeal.Mlp.outAt_eq m _ _ _ _ _ _ _
      (fun d => (Cert.KernelIdeal.Mlp.inX_eq m d).trans (h d).1)
      (fun d => (Cert.KernelIdeal.Mlp.inWi0_eq m d).trans (h d).2.1)
      (fun d => (Cert.KernelIdeal.Mlp.inWo0_eq m d).trans (h d).2.2.1)
      (fun d => (Cert.KernelIdeal.Mlp.inWi1_eq m d).trans (h d).2.2.2.1)
      (fun d => (Cert.KernelIdeal.Mlp.inWo1_eq m d).trans (h d).2.2.2.2.1)
      (fun d => (Cert.KernelIdeal.Mlp.inWi2_eq m d).trans (h d).2.2.2.2.2.1)
      (fun d => (Cert.KernelIdeal.Mlp.inWo2_eq m d).trans (h d).2.2.2.2.2.2) c
  · refine (θ_run Cert.ReferenceIdeal.defs _ _).mono (fun _ hr => ⟨(hr 0).1.trans ?_, (hr 0).2⟩) (Cert.ReferenceIdeal.Value.run m' ρ')
    rw [Cert.KernelIdeal.Mlp.whole_layer, Cert.KernelIdeal.Mlp.whole_layer, Cert.KernelIdeal.Mlp.whole_layer]
    rfl

theorem claim : Cert.Claim :=
  ⟨Cert.Kernel.Gen.facts, Cert.KernelIdeal.Gen.facts, Cert.ReferenceIdeal.Gen.facts,
    kernel_frame, ideal_frame, reference_frame, trivial, algebraic⟩

end Cert.Proof

end
